-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantisedIdeal (m : (ℓ : Loc Cert.QuantisedIdeal.nD Cert.QuantisedIdeal.τ Cert.QuantisedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantisedIdeal [hQuantisedIdeal : Cert.QuantisedIdeal.Facts] : Prop :=
  ∀ (m : (ℓ : Loc Cert.QuantisedIdeal.nD Cert.QuantisedIdeal.τ Cert.QuantisedIdeal.sig) → Buf (Elt Ideal) ℓ) (g : Dev Cert.QuantisedIdeal.nD → PrngReg), Pre_QuantisedIdeal m →
    θ_run (Cert.QuantisedIdeal.defs (F := Ideal)) (onTc (τ := Cert.QuantisedIdeal.τ) (Cert.QuantisedIdeal.main (F := Ideal))) ⟨m, fun _ => 0, g⟩ (fun r => (∀ c : Dev Cert.QuantisedIdeal.nD,
      r.2.mem ((c.tc : Thread Cert.QuantisedIdeal.nD Cert.QuantisedIdeal.τ).loc Cert.QuantisedIdeal.main_arg0) = m ((c.tc : Thread Cert.QuantisedIdeal.nD Cert.QuantisedIdeal.τ).loc Cert.QuantisedIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_v218) = v1 c
          ∧ r.2.mem ((c.tc : Thread Cert.ReferenceIdeal.nD Cert.ReferenceIdeal.τ).loc Cert.ReferenceIdeal.main_v219) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Quant_QuantIdeal : Prop :=
  True

def algebraic_QuantIdeal_QuantisedIdeal [hQuantIdeal : Cert.QuantIdeal.Facts] [hQuantisedIdeal : Cert.QuantisedIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantisedIdeal.nD Cert.QuantisedIdeal.τ Cert.QuantisedIdeal.sig) → Buf (Elt Ideal) ℓ) (g' : Dev Cert.QuantisedIdeal.nD → PrngReg), Pre_QuantIdeal m →
    (∀ c : Dev Cert.QuantIdeal.nD,
      m' ((c.tc : Thread Cert.QuantisedIdeal.nD Cert.QuantisedIdeal.τ).loc Cert.QuantisedIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantisedIdeal.defs (F := Ideal)) (onTc (τ := Cert.QuantisedIdeal.τ) (Cert.QuantisedIdeal.main (F := Ideal))) ⟨m', fun _ => 0, g'⟩ (fun r => ∀ c : Dev Cert.QuantisedIdeal.nD,
          r.2.mem ((c.tc : Thread Cert.QuantisedIdeal.nD Cert.QuantisedIdeal.τ).loc Cert.QuantisedIdeal.main_v31) = v0 c
          ∧ r.2.mem ((c.tc : Thread Cert.QuantisedIdeal.nD Cert.QuantisedIdeal.τ).loc Cert.QuantisedIdeal.main_v33) = v1 c
          ∧ r.2.mem ((c.tc : Thread Cert.QuantisedIdeal.nD Cert.QuantisedIdeal.τ).loc Cert.QuantisedIdeal.main_arg0) = m' ((c.tc : Thread Cert.QuantisedIdeal.nD Cert.QuantisedIdeal.τ).loc Cert.QuantisedIdeal.main_arg0))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantisedIdeal : Cert.QuantisedIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Quant (hQuant := hQuant)
    ∧ quiescent_QuantIdeal (hQuantIdeal := hQuantIdeal)
    ∧ quiescent_QuantisedIdeal (hQuantisedIdeal := hQuantisedIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Quant_QuantIdeal
    ∧ algebraic_QuantIdeal_QuantisedIdeal (hQuantIdeal := hQuantIdeal) (hQuantisedIdeal := hQuantisedIdeal)
-- ==== Pre_finite.lean ====
abbrev S3x640x3584 : Shape := ⟨3, ![3, 640, 3584]⟩
abbrev S3x640 : Shape := ⟨2, ![3, 640]⟩
abbrev S3584x56x160 : Shape := ⟨3, ![3584, 56, 160]⟩
abbrev S56x160 : Shape := ⟨2, ![56, 160]⟩
abbrev S3584x56x64 : Shape := ⟨3, ![3584, 56, 64]⟩
abbrev S56x64 : Shape := ⟨2, ![56, 64]⟩
abbrev S_ : Shape := ⟨0, ![]⟩

class Facts : Prop where
  bcast_S_S3x640x3584 : S_.BroadcastsInDim S3x640x3584 (![] : Fin 0 → Fin S3x640x3584.rank)
  bcast_S_S3x640 : S_.BroadcastsInDim S3x640 (![] : Fin 0 → Fin S3x640.rank)
  bcast_S_S3584x56x160 : S_.BroadcastsInDim S3584x56x160 (![] : Fin 0 → Fin S3584x56x160.rank)
  bcast_S_S56x160 : S_.BroadcastsInDim S56x160 (![] : Fin 0 → Fin S56x160.rank)
  reducesTo_S3x640x3584_S_d0_1_2 : S3x640x3584.ReducesTo [0, 1, 2] S_
  h_S_ : 0 < S_.numel
  reducesTo_S3x640_S_d0_1 : S3x640.ReducesTo [0, 1] S_
  reducesTo_S3584x56x160_S_d0_1_2 : S3584x56x160.ReducesTo [0, 1, 2] S_
  reducesTo_S56x160_S_d0_1 : S56x160.ReducesTo [0, 1] S_

variable [Facts]

def fn_part1 {F : FTy → Type} [FloatOps F] (main_v2 : IVec S3x640x3584 1) (main_v5 : IVec S3x640 1) (main_v8 : IVec S3584x56x160 1) (main_v11 : IVec S56x160 1) (main_v14 : IVec S3584x56x160 1) (main_v17 : IVec S56x160 1) : IVec S_ 1 :=
  let main_c : IVec S_ 1 := constantI S_ 1 1#1
  let main_v18 : IVec S_ 1 := (fun x v => Host.reduce IntOp.andi x v reducesTo_S3x640x3584_S_d0_1_2 h_S_) main_v2 main_c
  let main_c_5 : IVec S_ 1 := constantI S_ 1 1#1
  let main_v19 : IVec S_ 1 := (fun x v => Host.reduce IntOp.andi x v reducesTo_S3x640_S_d0_1 h_S_) main_v5 main_c_5
  let main_v20 : IVec S_ 1 := andi main_v18 main_v19
  let main_c_6 : IVec S_ 1 := constantI S_ 1 1#1
  let main_v21 : IVec S_ 1 := (fun x v => Host.reduce IntOp.andi x v reducesTo_S3584x56x160_S_d0_1_2 h_S_) main_v8 main_c_6
  let main_v22 : IVec S_ 1 := andi main_v20 main_v21
  let main_c_7 : IVec S_ 1 := constantI S_ 1 1#1
  let main_v23 : IVec S_ 1 := (fun x v => Host.reduce IntOp.andi x v reducesTo_S56x160_S_d0_1 h_S_) main_v11 main_c_7
  let main_v24 : IVec S_ 1 := andi main_v22 main_v23
  let main_c_8 : IVec S_ 1 := constantI S_ 1 1#1
  let main_v25 : IVec S_ 1 := (fun x v => Host.reduce IntOp.andi x v reducesTo_S3584x56x160_S_d0_1_2 h_S_) main_v14 main_c_8
  let main_v26 : IVec S_ 1 := andi main_v24 main_v25
  let main_c_9 : IVec S_ 1 := constantI S_ 1 1#1
  let main_v27 : IVec S_ 1 := (fun x v => Host.reduce IntOp.andi x v reducesTo_S56x160_S_d0_1 h_S_) main_v17 main_c_9
  let main_v28 : IVec S_ 1 := andi main_v26 main_v27
  main_v28

def fn {F : FTy → Type} [FloatOps F] (main_arg0 : FVec F S3x640x3584 .f32) (main_arg1 : FVec F S3x640 .f32) (main_arg2 : FVec F S3584x56x160 .f32) (main_arg3 : FVec F S56x160 .f32) (main_arg4 : FVec F S3584x56x160 .f32) (main_arg5 : FVec F S56x160 .f32) (main_arg6 : FVec F S3584x56x64 .f32) (main_arg7 : FVec F S56x64 .f32) : IVec S_ 1 :=
  let main_v0 : FVec F S3x640x3584 .f32 := Host.absf main_arg0
  let main_cst : FVec F S_ .f32 := constant S_ .f32 0x7F800000#32
  let main_v1 : FVec F S3x640x3584 .f32 := broadcastInDim S3x640x3584 ![] bcast_S_S3x640x3584 main_cst
  let main_v2 : IVec S3x640x3584 1 := cmpf .olt main_v0 main_v1
  let main_v3 : FVec F S3x640 .f32 := Host.absf main_arg1
  let main_cst_0 : FVec F S_ .f32 := constant S_ .f32 0x7F800000#32
  let main_v4 : FVec F S3x640 .f32 := broadcastInDim S3x640 ![] bcast_S_S3x640 main_cst_0
  let main_v5 : IVec S3x640 1 := cmpf .olt main_v3 main_v4
  let main_v6 : FVec F S3584x56x160 .f32 := Host.absf main_arg2
  let main_cst_1 : FVec F S_ .f32 := constant S_ .f32 0x7F800000#32
  let main_v7 : FVec F S3584x56x160 .f32 := broadcastInDim S3584x56x160 ![] bcast_S_S3584x56x160 main_cst_1
  let main_v8 : IVec S3584x56x160 1 := cmpf .olt main_v6 main_v7
  let main_v9 : FVec F S56x160 .f32 := Host.absf main_arg3
  let main_cst_2 : FVec F S_ .f32 := constant S_ .f32 0x7F800000#32
  let main_v10 : FVec F S56x160 .f32 := broadcastInDim S56x160 ![] bcast_S_S56x160 main_cst_2
  let main_v11 : IVec S56x160 1 := cmpf .olt main_v9 main_v10
  let main_v12 : FVec F S3584x56x160 .f32 := Host.absf main_arg4
  let main_cst_3 : FVec F S_ .f32 := constant S_ .f32 0x7F800000#32
  let main_v13 : FVec F S3584x56x160 .f32 := broadcastInDim S3584x56x160 ![] bcast_S_S3584x56x160 main_cst_3
  let main_v14 : IVec S3584x56x160 1 := cmpf .olt main_v12 main_v13
  let main_v15 : FVec F S56x160 .f32 := Host.absf main_arg5
  let main_cst_4 : FVec F S_ .f32 := constant S_ .f32 0x7F800000#32
  let main_v16 : FVec F S56x160 .f32 := broadcastInDim S56x160 ![] bcast_S_S56x160 main_cst_4
  let main_v17 : IVec S56x160 1 := cmpf .olt main_v15 main_v16
  fn_part1 (F := F) main_v2 main_v5 main_v8 main_v11 main_v14 main_v17
-- ==== Kernel.lean ====
abbrev S3x640x3584 : Shape := ⟨3, ![3, 640, 3584]⟩
abbrev S3x640 : Shape := ⟨2, ![3, 640]⟩
abbrev S3584x56x160 : Shape := ⟨3, ![3584, 56, 160]⟩
abbrev S56x160 : Shape := ⟨2, ![56, 160]⟩
abbrev S3584x56x64 : Shape := ⟨3, ![3584, 56, 64]⟩
abbrev S56x64 : Shape := ⟨2, ![56, 64]⟩
abbrev S56x160x3584 : Shape := ⟨3, ![56, 160, 3584]⟩
abbrev S56x64x3584 : Shape := ⟨3, ![56, 64, 3584]⟩
abbrev S28x2x160 : Shape := ⟨3, ![28, 2, 160]⟩
abbrev S28x1x128 : Shape := ⟨3, ![28, 1, 128]⟩
abbrev S_ : Shape := ⟨0, ![]⟩
abbrev S28x1x160 : Shape := ⟨3, ![28, 1, 160]⟩
abbrev S28x5x160 : Shape := ⟨3, ![28, 5, 160]⟩
abbrev S28x160x5 : Shape := ⟨3, ![28, 160, 5]⟩
abbrev S1920x3584 : Shape := ⟨2, ![1920, 3584]⟩
abbrev S3x56x64x640 : Shape := ⟨4, ![3, 56, 64, 640]⟩
abbrev S3x56x640 : Shape := ⟨3, ![3, 56, 640]⟩
abbrev S2x160x3584 : Shape := ⟨3, ![2, 160, 3584]⟩
abbrev S2x64x3584 : Shape := ⟨3, ![2, 64, 3584]⟩
abbrev S1x160x5 : Shape := ⟨3, ![1, 160, 5]⟩
abbrev S1920x128 : Shape := ⟨2, ![1920, 128]⟩
abbrev S3x2x64x640 : Shape := ⟨4, ![3, 2, 64, 640]⟩
abbrev S3x8x640 : Shape := ⟨3, ![3, 8, 640]⟩
abbrev S768x1920 : Shape := ⟨2, ![768, 1920]⟩
abbrev S3x160x128 : Shape := ⟨3, ![3, 160, 128]⟩
abbrev S3x2x160x128 : Shape := ⟨4, ![3, 2, 160, 128]⟩
abbrev S320x3584 : Shape := ⟨2, ![320, 3584]⟩
abbrev S128x3584 : Shape := ⟨2, ![128, 3584]⟩
abbrev S768x3584 : Shape := ⟨2, ![768, 3584]⟩
abbrev S1x160x1 : Shape := ⟨3, ![1, 160, 1]⟩
abbrev S160x1 : Shape := ⟨2, ![160, 1]⟩
abbrev S1x128x1 : Shape := ⟨3, ![1, 128, 1]⟩
abbrev S128x1 : Shape := ⟨2, ![128, 1]⟩
abbrev S768x1 : Shape := ⟨2, ![768, 1]⟩
abbrev S512x3584 : Shape := ⟨2, ![512, 3584]⟩
abbrev S768x512 : Shape := ⟨2, ![768, 512]⟩
abbrev S1x128 : Shape := ⟨2, ![1, 128]⟩
abbrev S768x128 : Shape := ⟨2, ![768, 128]⟩
abbrev S384x3584 : Shape := ⟨2, ![384, 3584]⟩
abbrev S768x384 : Shape := ⟨2, ![768, 384]⟩
abbrev S128x128 : Shape := ⟨2, ![128, 128]⟩
abbrev S8x128 : Shape := ⟨2, ![8, 128]⟩
abbrev S128x256 : Shape := ⟨2, ![128, 256]⟩
abbrev S256x256 : Shape := ⟨2, ![256, 256]⟩
abbrev S64x128 : Shape := ⟨2, ![64, 128]⟩
abbrev S64x256 : Shape := ⟨2, ![64, 256]⟩
abbrev S1x8x128 : Shape := ⟨3, ![1, 8, 128]⟩
abbrev S128 : Shape := ⟨1, ![128]⟩
abbrev S1x1x64x128 : Shape := ⟨4, ![1, 1, 64, 128]⟩
abbrev S160x128 : Shape := ⟨2, ![160, 128]⟩
abbrev S1x1x160x128 : Shape := ⟨4, ![1, 1, 160, 128]⟩
abbrev S160 : Shape := ⟨1, ![160]⟩
abbrev S160x256 : Shape := ⟨2, ![160, 256]⟩
abbrev S1x160x128 : Shape := ⟨3, ![1, 160, 128]⟩
abbrev S32x128 : Shape := ⟨2, ![32, 128]⟩
abbrev S256x128 : Shape := ⟨2, ![256, 128]⟩
abbrev S128x1024 : Shape := ⟨2, ![128, 1024]⟩
abbrev S32x256 : Shape := ⟨2, ![32, 256]⟩
abbrev S1024x256 : Shape := ⟨2, ![1024, 256]⟩

abbrev nBuf : Space → Nat
  | .hbm => 27
  | .vmem => 20
  | .smem => 0
  | _ => 0

abbrev bufTy : (tb : Table) → Fin (tcTables nBuf tb) → BufTy
  | .hbm, ⟨0, _⟩ => ⟨S3x640x3584, .f32⟩
  | .hbm, ⟨1, _⟩ => ⟨S3x640, .f32⟩
  | .hbm, ⟨2, _⟩ => ⟨S3584x56x160, .f32⟩
  | .hbm, ⟨3, _⟩ => ⟨S56x160, .f32⟩
  | .hbm, ⟨4, _⟩ => ⟨S3584x56x160, .f32⟩
  | .hbm, ⟨5, _⟩ => ⟨S56x160, .f32⟩
  | .hbm, ⟨6, _⟩ => ⟨S3584x56x64, .f32⟩
  | .hbm, ⟨7, _⟩ => ⟨S56x64, .f32⟩
  | .hbm, ⟨8, _⟩ => ⟨S3x640x3584, .fp8e4m3⟩
  | .hbm, ⟨9, _⟩ => ⟨S3584x56x160, .fp8e4m3⟩
  | .hbm, ⟨10, _⟩ => ⟨S3584x56x160, .fp8e4m3⟩
  | .hbm, ⟨11, _⟩ => ⟨S3584x56x64, .fp8e4m3⟩
  | .hbm, ⟨12, _⟩ => ⟨S56x160x3584, .fp8e4m3⟩
  | .hbm, ⟨13, _⟩ => ⟨S56x160x3584, .fp8e4m3⟩
  | .hbm, ⟨14, _⟩ => ⟨S56x64x3584, .fp8e4m3⟩
  | .hbm, ⟨15, _⟩ => ⟨S28x2x160, .f32⟩
  | .hbm, ⟨16, _⟩ => ⟨S28x2x160, .f32⟩
  | .hbm, ⟨17, _⟩ => ⟨S28x1x128, .f32⟩
  | .hbm, ⟨18, _⟩ => ⟨S_, .i32⟩
  | .hbm, ⟨19, _⟩ => ⟨S_, .f32⟩
  | .hbm, ⟨20, _⟩ => ⟨S28x1x160, .f32⟩
  | .hbm, ⟨21, _⟩ => ⟨S28x5x160, .f32⟩
  | .hbm, ⟨22, _⟩ => ⟨S28x160x5, .f32⟩
  | .hbm, ⟨23, _⟩ => ⟨S1920x3584, .fp8e4m3⟩
  | .hbm, ⟨24, _⟩ => ⟨S1920x3584, .bf16⟩
  | .hbm, ⟨25, _⟩ => ⟨S3x56x64x640, .fp8e4m3⟩
  | .hbm, ⟨26, _⟩ => ⟨S3x56x640, .f32⟩
  | .local _ .vmem, ⟨0, _⟩ => ⟨S1920x3584, .fp8e4m3⟩
  | .local _ .vmem, ⟨1, _⟩ => ⟨S3x640, .f32⟩
  | .local _ .vmem, ⟨2, _⟩ => ⟨S2x160x3584, .fp8e4m3⟩
  | .local _ .vmem, ⟨3, _⟩ => ⟨S2x160x3584, .fp8e4m3⟩
  | .local _ .vmem, ⟨4, _⟩ => ⟨S2x160x3584, .fp8e4m3⟩
  | .local _ .vmem, ⟨5, _⟩ => ⟨S2x160x3584, .fp8e4m3⟩
  | .local _ .vmem, ⟨6, _⟩ => ⟨S2x64x3584, .fp8e4m3⟩
  | .local _ .vmem, ⟨7, _⟩ => ⟨S2x64x3584, .fp8e4m3⟩
  | .local _ .vmem, ⟨8, _⟩ => ⟨S1x160x5, .f32⟩
  | .local _ .vmem, ⟨9, _⟩ => ⟨S1x160x5, .f32⟩
  | .local _ .vmem, ⟨10, _⟩ => ⟨S1920x128, .bf16⟩
  | .local _ .vmem, ⟨11, _⟩ => ⟨S1920x128, .bf16⟩
  | .local _ .vmem, ⟨12, _⟩ => ⟨S3x2x64x640, .fp8e4m3⟩
  | .local _ .vmem, ⟨13, _⟩ => ⟨S3x2x64x640, .fp8e4m3⟩
  | .local _ .vmem, ⟨14, _⟩ => ⟨S3x8x640, .f32⟩
  | .local _ .vmem, ⟨15, _⟩ => ⟨S3x8x640, .f32⟩
  | .local _ .vmem, ⟨16, _⟩ => ⟨S768x1920, .f32⟩
  | .local _ .vmem, ⟨17, _⟩ => ⟨S3x160x128, .f32⟩
  | .local _ .vmem, ⟨18, _⟩ => ⟨S3x2x160x128, .f32⟩
  | .local _ .vmem, ⟨19, _⟩ => ⟨S3x2x160x128, .f32⟩
  | _, _ => ⟨S3x640x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![28], ![false]⟩

@[reducible] def k0_t1_loop : Scf.Loop 32 :=
  let c0_i32 : BitVec 32 := 0#32
  let c5_i32 : BitVec 32 := 5#32
  let v199 : BitVec 32 := Scalar.addi c0_i32 c5_i32
  let c1_i32 : BitVec 32 := 1#32
  ⟨c0_i32, v199, c1_i32⟩
def k0_mult1 (k0_t1 : Fin k0_t1_loop.trips) : BitVec 32 :=
  let c0_i32_96 : BitVec 32 := 0#32
  let c0_i32 : BitVec 32 := 0#32
  let c1_i32 : BitVec 32 := 1#32
  let arg14 : BitVec 32 := Scf.iv c0_i32 c1_i32 k0_t1
  let c128_i32 : BitVec 32 := 128#32
  let v200 : BitVec 32 := Scalar.muli arg14 c128_i32
  let v201 : BitVec 32 := Scalar.addi c0_i32_96 v200
  v201
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32_97 : BitVec 32 := 128#32
  let v203 : BitVec 32 := Scalar.muli arg14 c128_i32_97
  v203
def k0_off1 (k0_t1 : Fin k0_t1_loop.trips) : Fin 3 → Nat :=
  let c0_99 : Index := 0#32
  let c0_100 : Index := 0#32
  let c0_i32 : BitVec 32 := 0#32
  let c1_i32 : BitVec 32 := 1#32
  let arg14 : BitVec 32 := Scf.iv c0_i32 c1_i32 k0_t1
  let c128_i32_97 : BitVec 32 := 128#32
  let v203 : BitVec 32 := Scalar.muli arg14 c128_i32_97
  let v204 : BitVec 32 := v203
  let v206 : Index := Scalar.indexCast v204
  ![0, 0, v206.toNat]
def k0_off2 (k0_t1 : Fin k0_t1_loop.trips) (c0_i32_96 : BitVec 32) : Fin 2 → Nat :=
  let c640_102 : Index := 640#32
  let c0_i32 : BitVec 32 := 0#32
  let c1_i32 : BitVec 32 := 1#32
  let arg14 : BitVec 32 := Scf.iv c0_i32 c1_i32 k0_t1
  let c128_i32 : BitVec 32 := 128#32
  let v200 : BitVec 32 := Scalar.muli arg14 c128_i32
  let v201 : BitVec 32 := Scalar.addi c0_i32_96 v200
  let v202 : BitVec 32 := v201
  let v211 : Index := Scalar.indexCast v202
  ![640, v211.toNat]
def k0_off3 (k0_t1 : Fin k0_t1_loop.trips) : Fin 4 → Nat :=
  let c0_124 : Index := 0#32
  let c0_125 : Index := 0#32
  let c0_126 : Index := 0#32
  let c0_i32 : BitVec 32 := 0#32
  let c1_i32 : BitVec 32 := 1#32
  let arg14 : BitVec 32 := Scf.iv c0_i32 c1_i32 k0_t1
  let c128_i32_97 : BitVec 32 := 128#32
  let v203 : BitVec 32 := Scalar.muli arg14 c128_i32_97
  let v204 : BitVec 32 := v203
  let v298 : Index := Scalar.indexCast v204
  ![0, 0, 0, v298.toNat]
def k0_off4 (k0_t1 : Fin k0_t1_loop.trips) (c0_i32_96 : BitVec 32) : Fin 2 → Nat :=
  let c704 : Index := 704#32
  let c0_i32 : BitVec 32 := 0#32
  let c1_i32 : BitVec 32 := 1#32
  let arg14 : BitVec 32 := Scf.iv c0_i32 c1_i32 k0_t1
  let c128_i32 : BitVec 32 := 128#32
  let v200 : BitVec 32 := Scalar.muli arg14 c128_i32
  let v201 : BitVec 32 := Scalar.addi c0_i32_96 v200
  let v202 : BitVec 32 := v201
  let v312 : Index := Scalar.indexCast v202
  ![704, v312.toNat]
def k0_off5 (k0_t1 : Fin k0_t1_loop.trips) : Fin 4 → Nat :=
  let c0_156 : Index := 0#32
  let c1_157 : Index := 1#32
  let c0_158 : Index := 0#32
  let c0_i32 : BitVec 32 := 0#32
  let c1_i32 : BitVec 32 := 1#32
  let arg14 : BitVec 32 := Scf.iv c0_i32 c1_i32 k0_t1
  let c128_i32_97 : BitVec 32 := 128#32
  let v203 : BitVec 32 := Scalar.muli arg14 c128_i32_97
  let v204 : BitVec 32 := v203
  let v399 : Index := Scalar.indexCast v204
  ![0, 1, 0, v399.toNat]
def k0_off6 (k0_t1 : Fin k0_t1_loop.trips) (c0_i32_96 : BitVec 32) : Fin 2 → Nat :=
  let c320 : Index := 320#32
  let c0_i32 : BitVec 32 := 0#32
  let c1_i32 : BitVec 32 := 1#32
  let arg14 : BitVec 32 := Scf.iv c0_i32 c1_i32 k0_t1
  let c128_i32 : BitVec 32 := 128#32
  let v200 : BitVec 32 := Scalar.muli arg14 c128_i32
  let v201 : BitVec 32 := Scalar.addi c0_i32_96 v200
  let v202 : BitVec 32 := v201
  let v423 : Index := Scalar.indexCast v202
  ![320, v423.toNat]
def k0_off7 (k0_t1 : Fin k0_t1_loop.trips) (c0_i32_96 : BitVec 32) : Fin 2 → Nat :=
  let c480 : Index := 480#32
  let c0_i32 : BitVec 32 := 0#32
  let c1_i32 : BitVec 32 := 1#32
  let arg14 : BitVec 32 := Scf.iv c0_i32 c1_i32 k0_t1
  let c128_i32 : BitVec 32 := 128#32
  let v200 : BitVec 32 := Scalar.muli arg14 c128_i32
  let v201 : BitVec 32 := Scalar.addi c0_i32_96 v200
  let v202 : BitVec 32 := v201
  let v445 : Index := Scalar.indexCast v202
  ![480, v445.toNat]
def k0_off8 (k0_t1 : Fin k0_t1_loop.trips) (c0_i32_96 : BitVec 32) : Fin 2 → Nat :=
  let c0_195 : Index := 0#32
  let c0_i32 : BitVec 32 := 0#32
  let c1_i32 : BitVec 32 := 1#32
  let arg14 : BitVec 32 := Scf.iv c0_i32 c1_i32 k0_t1
  let c128_i32 : BitVec 32 := 128#32
  let v200 : BitVec 32 := Scalar.muli arg14 c128_i32
  let v201 : BitVec 32 := Scalar.addi c0_i32_96 v200
  let v202 : BitVec 32 := v201
  let v503 : Index := Scalar.indexCast v202
  ![0, v503.toNat]
def k0_off9 (k0_t1 : Fin k0_t1_loop.trips) (c0_i32_96 : BitVec 32) : Fin 2 → Nat :=
  let c160 : Index := 160#32
  let c0_i32 : BitVec 32 := 0#32
  let c1_i32 : BitVec 32 := 1#32
  let arg14 : BitVec 32 := Scf.iv c0_i32 c1_i32 k0_t1
  let c128_i32 : BitVec 32 := 128#32
  let v200 : BitVec 32 := Scalar.muli arg14 c128_i32
  let v201 : BitVec 32 := Scalar.addi c0_i32_96 v200
  let v202 : BitVec 32 := v201
  let v583 : Index := Scalar.indexCast v202
  ![160, v583.toNat]
def k0_off10 (k0_t1 : Fin k0_t1_loop.trips) (c0_i32_96 : BitVec 32) : Fin 2 → Nat :=
  let c0_i32 : BitVec 32 := 0#32
  let c1_i32 : BitVec 32 := 1#32
  let arg14 : BitVec 32 := Scf.iv c0_i32 c1_i32 k0_t1
  let c128_i32 : BitVec 32 := 128#32
  let v200 : BitVec 32 := Scalar.muli arg14 c128_i32
  let v201 : BitVec 32 := Scalar.addi c0_i32_96 v200
  let v202 : BitVec 32 := v201
  let v652 : Index := Scalar.indexCast v202
  let c0_221 : Index := 0#32
  ![v652.toNat, 0]
def k0_mult3 (k0_t1 : Fin k0_t1_loop.trips) : BitVec 32 :=
  let c640_i32 : BitVec 32 := 640#32
  let c0_i32 : BitVec 32 := 0#32
  let c1_i32 : BitVec 32 := 1#32
  let arg14 : BitVec 32 := Scf.iv c0_i32 c1_i32 k0_t1
  let c128_i32_222 : BitVec 32 := 128#32
  let v654 : BitVec 32 := Scalar.muli arg14 c128_i32_222
  let v655 : BitVec 32 := Scalar.addi c640_i32 v654
  v655
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32_223 : BitVec 32 := 128#32
  let v657 : BitVec 32 := Scalar.muli arg14 c128_i32_223
  v657
def k0_off11 (k0_t1 : Fin k0_t1_loop.trips) : Fin 3 → Nat :=
  let c1_225 : Index := 1#32
  let c0_226 : Index := 0#32
  let c0_i32 : BitVec 32 := 0#32
  let c1_i32 : BitVec 32 := 1#32
  let arg14 : BitVec 32 := Scf.iv c0_i32 c1_i32 k0_t1
  let c128_i32_223 : BitVec 32 := 128#32
  let v657 : BitVec 32 := Scalar.muli arg14 c128_i32_223
  let v658 : BitVec 32 := v657
  let v660 : Index := Scalar.indexCast v658
  ![1, 0, v660.toNat]
def k0_off12 (k0_t1 : Fin k0_t1_loop.trips) : Fin 4 → Nat :=
  let c1_257 : Index := 1#32
  let c0_258 : Index := 0#32
  let c0_259 : Index := 0#32
  let c0_i32 : BitVec 32 := 0#32
  let c1_i32 : BitVec 32 := 1#32
  let arg14 : BitVec 32 := Scf.iv c0_i32 c1_i32 k0_t1
  let c128_i32_223 : BitVec 32 := 128#32
  let v657 : BitVec 32 := Scalar.muli arg14 c128_i32_223
  let v658 : BitVec 32 := v657
  let v752 : Index := Scalar.indexCast v658
  ![1, 0, 0, v752.toNat]
def k0_off13 (k0_t1 : Fin k0_t1_loop.trips) : Fin 4 → Nat :=
  let c1_290 : Index := 1#32
  let c1_291 : Index := 1#32
  let c0_292 : Index := 0#32
  let c0_i32 : BitVec 32 := 0#32
  let c1_i32 : BitVec 32 := 1#32
  let arg14 : BitVec 32 := Scf.iv c0_i32 c1_i32 k0_t1
  let c128_i32_223 : BitVec 32 := 128#32
  let v657 : BitVec 32 := Scalar.muli arg14 c128_i32_223
  let v658 : BitVec 32 := v657
  let v853 : Index := Scalar.indexCast v658
  ![1, 1, 0, v853.toNat]
def k0_mult5 (k0_t1 : Fin k0_t1_loop.trips) : BitVec 32 :=
  let c1280_i32 : BitVec 32 := 1280#32
  let c0_i32 : BitVec 32 := 0#32
  let c1_i32 : BitVec 32 := 1#32
  let arg14 : BitVec 32 := Scf.iv c0_i32 c1_i32 k0_t1
  let c128_i32_359 : BitVec 32 := 128#32
  let v1108 : BitVec 32 := Scalar.muli arg14 c128_i32_359
  let v1109 : BitVec 32 := Scalar.addi c1280_i32 v1108
  v1109
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32_360 : BitVec 32 := 128#32
  let v1111 : BitVec 32 := Scalar.muli arg14 c128_i32_360
  v1111
def k0_off14 (k0_t1 : Fin k0_t1_loop.trips) : Fin 3 → Nat :=
  let c2_362 : Index := 2#32
  let c0_363 : Index := 0#32
  let c0_i32 : BitVec 32 := 0#32
  let c1_i32 : BitVec 32 := 1#32
  let arg14 : BitVec 32 := Scf.iv c0_i32 c1_i32 k0_t1
  let c128_i32_360 : BitVec 32 := 128#32
  let v1111 : BitVec 32 := Scalar.muli arg14 c128_i32_360
  let v1112 : BitVec 32 := v1111
  let v1114 : Index := Scalar.indexCast v1112
  ![2, 0, v1114.toNat]
def k0_off15 (k0_t1 : Fin k0_t1_loop.trips) : Fin 4 → Nat :=
  let c2_394 : Index := 2#32
  let c0_395 : Index := 0#32
  let c0_396 : Index := 0#32
  let c0_i32 : BitVec 32 := 0#32
  let c1_i32 : BitVec 32 := 1#32
  let arg14 : BitVec 32 := Scf.iv c0_i32 c1_i32 k0_t1
  let c128_i32_360 : BitVec 32 := 128#32
  let v1111 : BitVec 32 := Scalar.muli arg14 c128_i32_360
  let v1112 : BitVec 32 := v1111
  let v1206 : Index := Scalar.indexCast v1112
  ![2, 0, 0, v1206.toNat]
def k0_off16 (k0_t1 : Fin k0_t1_loop.trips) : Fin 4 → Nat :=
  let c2_427 : Index := 2#32
  let c1_428 : Index := 1#32
  let c0_429 : Index := 0#32
  let c0_i32 : BitVec 32 := 0#32
  let c1_i32 : BitVec 32 := 1#32
  let arg14 : BitVec 32 := Scf.iv c0_i32 c1_i32 k0_t1
  let c128_i32_360 : BitVec 32 := 128#32
  let v1111 : BitVec 32 := Scalar.muli arg14 c128_i32_360
  let v1112 : BitVec 32 := v1111
  let v1307 : Index := Scalar.indexCast v1112
  ![2, 1, 0, v1307.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 3 → Nat :=
  let arg0 : BitVec 32 := BitVec.ofNat 32 (i 0).val
  let c2_i32 : BitVec 32 := 2#32
  let v0 : BitVec 32 := Scalar.muli arg0 c2_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, v17.toNat, c0_i32_5.toNat]

abbrev stage0_0 : Fin 1 → Memref sig .tc .vmem S1920x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x160x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x160x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x160x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1920x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x2x64x640 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x8x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S3x640x3584 : Shape := ⟨3, ![3, 640, 3584]⟩
abbrev S3x640 : Shape := ⟨2, ![3, 640]⟩
abbrev S3584x56x160 : Shape := ⟨3, ![3584, 56, 160]⟩
abbrev S56x160 : Shape := ⟨2, ![56, 160]⟩
abbrev S3584x56x64 : Shape := ⟨3, ![3584, 56, 64]⟩
abbrev S56x64 : Shape := ⟨2, ![56, 64]⟩
abbrev S3x640x56x160 : Shape := ⟨4, ![3, 640, 56, 160]⟩
abbrev S3x640x1x1 : Shape := ⟨4, ![3, 640, 1, 1]⟩
abbrev S1x1x56x160 : Shape := ⟨4, ![1, 1, 56, 160]⟩
abbrev S3x640x56x64 : Shape := ⟨4, ![3, 640, 56, 64]⟩
abbrev S1x1x56x64 : Shape := ⟨4, ![1, 1, 56, 64]⟩
abbrev S_ : Shape := ⟨0, ![]⟩
abbrev S3x640x56 : Shape := ⟨3, ![3, 640, 56]⟩
abbrev S3x640x56x1 : Shape := ⟨4, ![3, 640, 56, 1]⟩
abbrev S252 : Shape := ⟨1, ![252]⟩
abbrev S1x1x1x252 : Shape := ⟨4, ![1, 1, 1, 252]⟩
abbrev S3x640x56x252 : Shape := ⟨4, ![3, 640, 56, 252]⟩
abbrev S3x5x128x56x160 : Shape := ⟨5, ![3, 5, 128, 56, 160]⟩
abbrev S3x5x128x56 : Shape := ⟨4, ![3, 5, 128, 56]⟩
abbrev S3x5x128x56x64 : Shape := ⟨5, ![3, 5, 128, 56, 64]⟩
abbrev S3x5x56x160 : Shape := ⟨4, ![3, 5, 56, 160]⟩
abbrev S3x1x56x160 : Shape := ⟨4, ![3, 1, 56, 160]⟩
abbrev S3x56x160 : Shape := ⟨3, ![3, 56, 160]⟩
abbrev S3x5x1x56x160 : Shape := ⟨5, ![3, 5, 1, 56, 160]⟩
abbrev S3x5x128x56x1 : Shape := ⟨5, ![3, 5, 128, 56, 1]⟩
abbrev S3x5x56x160x64 : Shape := ⟨5, ![3, 5, 56, 160, 64]⟩
abbrev S3x56x160x64 : Shape := ⟨4, ![3, 56, 160, 64]⟩
abbrev S3x56x160x1 : Shape := ⟨4, ![3, 56, 160, 1]⟩
abbrev S3x1x56x160x64 : Shape := ⟨5, ![3, 1, 56, 160, 64]⟩
abbrev S3x5x56x64x128 : Shape := ⟨5, ![3, 5, 56, 64, 128]⟩
abbrev S3x5x56x128x128 : Shape := ⟨5, ![3, 5, 56, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S3x5x56x128 : Shape := ⟨4, ![3, 5, 56, 128]⟩
abbrev S3x5x56x1x128 : Shape := ⟨5, ![3, 5, 56, 1, 128]⟩
abbrev S1920x3584 : Shape := ⟨2, ![1920, 3584]⟩
abbrev S3x56x64x640 : Shape := ⟨4, ![3, 56, 64, 640]⟩
abbrev S3x56x640 : Shape := ⟨3, ![3, 56, 640]⟩

abbrev nBuf : Space → Nat
  | .hbm => 262
  | .vmem => 0
  | .smem => 0
  | _ => 0

abbrev hbmTy0_0 (i : Nat) : BufTy := match i % 128 with
  | 0 => ⟨S3x640x3584, .f32⟩
  | 1 => ⟨S3x640, .f32⟩
  | 2 => ⟨S3584x56x160, .f32⟩
  | 3 => ⟨S56x160, .f32⟩
  | 4 => ⟨S3584x56x160, .f32⟩
  | 5 => ⟨S56x160, .f32⟩
  | 6 => ⟨S3584x56x64, .f32⟩
  | 7 => ⟨S56x64, .f32⟩
  | 8 => ⟨S3x640x56x160, .f32⟩
  | 9 => ⟨S3x640x1x1, .f32⟩
  | 10 => ⟨S3x640x56x160, .f32⟩
  | 11 => ⟨S3x640x56x160, .f32⟩
  | 12 => ⟨S1x1x56x160, .f32⟩
  | 13 => ⟨S3x640x56x160, .f32⟩
  | 14 => ⟨S3x640x56x160, .f32⟩
  | 15 => ⟨S3x640x56x160, .f32⟩
  | 16 => ⟨S3x640x1x1, .f32⟩
  | 17 => ⟨S3x640x56x160, .f32⟩
  | 18 => ⟨S3x640x56x160, .f32⟩
  | 19 => ⟨S1x1x56x160, .f32⟩
  | 20 => ⟨S3x640x56x160, .f32⟩
  | 21 => ⟨S3x640x56x160, .f32⟩
  | 22 => ⟨S3x640x56x64, .f32⟩
  | 23 => ⟨S3x640x1x1, .f32⟩
  | 24 => ⟨S3x640x56x64, .f32⟩
  | 25 => ⟨S3x640x56x64, .f32⟩
  | 26 => ⟨S1x1x56x64, .f32⟩
  | 27 => ⟨S3x640x56x64, .f32⟩
  | 28 => ⟨S3x640x56x64, .f32⟩
  | 29 => ⟨S_, .f32⟩
  | 30 => ⟨S3x640x56, .f32⟩
  | 31 => ⟨S3x640x56x1, .f32⟩
  | 32 => ⟨S3x640x56x160, .f32⟩
  | 33 => ⟨S3x640x56x160, .f32⟩
  | 34 => ⟨S3x640x56x160, .f32⟩
  | 35 => ⟨S_, .f32⟩
  | 36 => ⟨S3x640x56, .f32⟩
  | 37 => ⟨S3x640x56x1, .f32⟩
  | 38 => ⟨S3x640x56x160, .f32⟩
  | 39 => ⟨S3x640x56x160, .f32⟩
  | 40 => ⟨S3x640x56x64, .f32⟩
  | 41 => ⟨S_, .f32⟩
  | 42 => ⟨S3x640x56, .f32⟩
  | 43 => ⟨S_, .f32⟩
  | 44 => ⟨S3x640x56, .f32⟩
  | 45 => ⟨S3x640x56, .f32⟩
  | 46 => ⟨S252, .i32⟩
  | 47 => ⟨S_, .i32⟩
  | 48 => ⟨S252, .i32⟩
  | 49 => ⟨S252, .i32⟩
  | 50 => ⟨S252, .f32⟩
  | 51 => ⟨S_, .f32⟩
  | 52 => ⟨S252, .f32⟩
  | 53 => ⟨S252, .f32⟩
  | 54 => ⟨S3x640x56x1, .f32⟩
  | 55 => ⟨S1x1x1x252, .f32⟩
  | 56 => ⟨S3x640x56x252, .f32⟩
  | 57 => ⟨S3x640x56x252, .f32⟩
  | 58 => ⟨S3x640x56x252, .i1⟩
  | 59 => ⟨S_, .f32⟩
  | 60 => ⟨S_, .f32⟩
  | 61 => ⟨S3x640x56x252, .f32⟩
  | 62 => ⟨S3x640x56x252, .f32⟩
  | 63 => ⟨S3x640x56x252, .f32⟩
  | 64 => ⟨S3x640x56x252, .f32⟩
  | 65 => ⟨S_, .f32⟩
  | 66 => ⟨S3x640x56, .f32⟩
  | 67 => ⟨S_, .f32⟩
  | 68 => ⟨S3x640x56, .f32⟩
  | 69 => ⟨S3x640x56, .f32⟩
  | 70 => ⟨S_, .f32⟩
  | 71 => ⟨S3x640x56, .f32⟩
  | 72 => ⟨S3x640x56, .i1⟩
  | 73 => ⟨S_, .f32⟩
  | 74 => ⟨S_, .f32⟩
  | 75 => ⟨S3x640x56, .f32⟩
  | 76 => ⟨S3x640x56, .f32⟩
  | 77 => ⟨S_, .f32⟩
  | 78 => ⟨S3x640x56, .f32⟩
  | 79 => ⟨S3x640x56, .f32⟩
  | 80 => ⟨S3x640x56, .f32⟩
  | 81 => ⟨S_, .f32⟩
  | 82 => ⟨S3x640x56, .f32⟩
  | 83 => ⟨S3x640x56, .f32⟩
  | 84 => ⟨S3x640x56x1, .f32⟩
  | 85 => ⟨S3x640x56x64, .f32⟩
  | 86 => ⟨S3x640x56x64, .f32⟩
  | 87 => ⟨S_, .f32⟩
  | 88 => ⟨S_, .f32⟩
  | 89 => ⟨S_, .f32⟩
  | 90 => ⟨S3x640x56x64, .f32⟩
  | 91 => ⟨S3x640x56x64, .f32⟩
  | 92 => ⟨S_, .f32⟩
  | 93 => ⟨S3x640x56x64, .f32⟩
  | 94 => ⟨S3x640x56x64, .f32⟩
  | 95 => ⟨S3x640x56x64, .fp8e4m3⟩
  | 96 => ⟨S3x5x128x56x160, .f32⟩
  | 97 => ⟨S3x5x128x56x160, .f32⟩
  | 98 => ⟨S3x5x128x56, .f32⟩
  | 99 => ⟨S3x5x128x56x64, .f32⟩
  | 100 => ⟨S3x5x128x56x64, .bf16⟩
  | 101 => ⟨S_, .f32⟩
  | 102 => ⟨S3x5x56x160, .f32⟩
  | 103 => ⟨S3x1x56x160, .f32⟩
  | 104 => ⟨S3x56x160, .f32⟩
  | 105 => ⟨S3x1x56x160, .f32⟩
  | 106 => ⟨S3x56x160, .f32⟩
  | 107 => ⟨S3x56x160, .f32⟩
  | 108 => ⟨S3x1x56x160, .f32⟩
  | 109 => ⟨S3x56x160, .f32⟩
  | 110 => ⟨S3x56x160, .f32⟩
  | 111 => ⟨S3x1x56x160, .f32⟩
  | 112 => ⟨S3x56x160, .f32⟩
  | 113 => ⟨S3x56x160, .f32⟩
  | 114 => ⟨S3x1x56x160, .f32⟩
  | 115 => ⟨S3x56x160, .f32⟩
  | 116 => ⟨S3x56x160, .f32⟩
  | 117 => ⟨S3x1x56x160, .f32⟩
  | 118 => ⟨S3x1x56x160, .f32⟩
  | 119 => ⟨S3x1x56x160, .f32⟩
  | 120 => ⟨S3x1x56x160, .f32⟩
  | 121 => ⟨S3x1x56x160, .f32⟩
  | 122 => ⟨S3x5x56x160, .f32⟩
  | 123 => ⟨S3x1x56x160, .f32⟩
  | 124 => ⟨S3x1x56x160, .f32⟩
  | 125 => ⟨S3x1x56x160, .f32⟩
  | 126 => ⟨S3x1x56x160, .f32⟩
  | 127 => ⟨S3x1x56x160, .f32⟩
  | _ => ⟨S3x640x3584, .f32⟩

abbrev hbmTy0_1 (i : Nat) : BufTy := match i % 128 with
  | 0 => ⟨S3x5x56x160, .f32⟩
  | 1 => ⟨S3x5x1x56x160, .f32⟩
  | 2 => ⟨S3x5x128x56x160, .f32⟩
  | 3 => ⟨S3x5x128x56x160, .f32⟩
  | 4 => ⟨S3x5x128x56x160, .f32⟩
  | 5 => ⟨S_, .f32⟩
  | 6 => ⟨S_, .f32⟩
  | 7 => ⟨S3x5x128x56x160, .f32⟩
  | 8 => ⟨S3x5x1x56x160, .f32⟩
  | 9 => ⟨S3x5x56x160, .f32⟩
  | 10 => ⟨S3x5x128x56x1, .f32⟩
  | 11 => ⟨S3x5x128x56x160, .f32⟩
  | 12 => ⟨S3x5x128x56x160, .f32⟩
  | 13 => ⟨S3x5x128x56x160, .bf16⟩
  | 14 => ⟨S3x5x56x160x64, .f32⟩
  | 15 => ⟨S3x5x56x160, .f32⟩
  | 16 => ⟨S3x5x56x160, .f32⟩
  | 17 => ⟨S_, .f32⟩
  | 18 => ⟨S3x56x160x64, .f32⟩
  | 19 => ⟨S_, .f32⟩
  | 20 => ⟨S3x56x160, .f32⟩
  | 21 => ⟨S3x1x56x160, .f32⟩
  | 22 => ⟨S3x56x160, .f32⟩
  | 23 => ⟨S3x56x160x1, .f32⟩
  | 24 => ⟨S3x56x160x64, .f32⟩
  | 25 => ⟨S3x56x160x64, .f32⟩
  | 26 => ⟨S3x1x56x160, .f32⟩
  | 27 => ⟨S3x56x160, .f32⟩
  | 28 => ⟨S3x56x160, .f32⟩
  | 29 => ⟨S3x1x56x160x64, .f32⟩
  | 30 => ⟨S3x56x160x64, .f32⟩
  | 31 => ⟨S3x56x160x64, .f32⟩
  | 32 => ⟨S3x1x56x160, .f32⟩
  | 33 => ⟨S3x56x160, .f32⟩
  | 34 => ⟨S3x56x160, .f32⟩
  | 35 => ⟨S3x1x56x160, .f32⟩
  | 36 => ⟨S3x56x160, .f32⟩
  | 37 => ⟨S3x56x160x1, .f32⟩
  | 38 => ⟨S3x56x160x64, .f32⟩
  | 39 => ⟨S3x56x160x64, .f32⟩
  | 40 => ⟨S3x1x56x160, .f32⟩
  | 41 => ⟨S3x56x160, .f32⟩
  | 42 => ⟨S3x56x160, .f32⟩
  | 43 => ⟨S3x1x56x160x64, .f32⟩
  | 44 => ⟨S3x56x160x64, .f32⟩
  | 45 => ⟨S3x56x160x64, .f32⟩
  | 46 => ⟨S3x1x56x160, .f32⟩
  | 47 => ⟨S3x56x160, .f32⟩
  | 48 => ⟨S3x56x160, .f32⟩
  | 49 => ⟨S3x1x56x160, .f32⟩
  | 50 => ⟨S3x56x160, .f32⟩
  | 51 => ⟨S3x56x160x1, .f32⟩
  | 52 => ⟨S3x56x160x64, .f32⟩
  | 53 => ⟨S3x56x160x64, .f32⟩
  | 54 => ⟨S3x1x56x160, .f32⟩
  | 55 => ⟨S3x56x160, .f32⟩
  | 56 => ⟨S3x56x160, .f32⟩
  | 57 => ⟨S3x1x56x160x64, .f32⟩
  | 58 => ⟨S3x56x160x64, .f32⟩
  | 59 => ⟨S3x56x160x64, .f32⟩
  | 60 => ⟨S3x1x56x160, .f32⟩
  | 61 => ⟨S3x56x160, .f32⟩
  | 62 => ⟨S3x56x160, .f32⟩
  | 63 => ⟨S3x1x56x160, .f32⟩
  | 64 => ⟨S3x56x160, .f32⟩
  | 65 => ⟨S3x56x160x1, .f32⟩
  | 66 => ⟨S3x56x160x64, .f32⟩
  | 67 => ⟨S3x56x160x64, .f32⟩
  | 68 => ⟨S3x1x56x160, .f32⟩
  | 69 => ⟨S3x56x160, .f32⟩
  | 70 => ⟨S3x56x160, .f32⟩
  | 71 => ⟨S3x1x56x160x64, .f32⟩
  | 72 => ⟨S3x56x160x64, .f32⟩
  | 73 => ⟨S3x56x160x64, .f32⟩
  | 74 => ⟨S3x1x56x160, .f32⟩
  | 75 => ⟨S3x56x160, .f32⟩
  | 76 => ⟨S3x56x160, .f32⟩
  | 77 => ⟨S3x1x56x160, .f32⟩
  | 78 => ⟨S3x56x160, .f32⟩
  | 79 => ⟨S3x56x160x1, .f32⟩
  | 80 => ⟨S3x56x160x64, .f32⟩
  | 81 => ⟨S3x56x160x64, .f32⟩
  | 82 => ⟨S3x1x56x160, .f32⟩
  | 83 => ⟨S3x56x160, .f32⟩
  | 84 => ⟨S3x56x160, .f32⟩
  | 85 => ⟨S3x1x56x160x64, .f32⟩
  | 86 => ⟨S3x56x160x64, .f32⟩
  | 87 => ⟨S3x56x160x64, .f32⟩
  | 88 => ⟨S3x1x56x160, .f32⟩
  | 89 => ⟨S3x56x160, .f32⟩
  | 90 => ⟨S3x56x160, .f32⟩
  | 91 => ⟨S3x1x56x160x64, .f32⟩
  | 92 => ⟨S3x1x56x160x64, .f32⟩
  | 93 => ⟨S3x1x56x160x64, .f32⟩
  | 94 => ⟨S3x1x56x160x64, .f32⟩
  | 95 => ⟨S3x1x56x160x64, .f32⟩
  | 96 => ⟨S3x5x56x160x64, .f32⟩
  | 97 => ⟨S3x1x56x160, .f32⟩
  | 98 => ⟨S3x1x56x160, .f32⟩
  | 99 => ⟨S3x1x56x160, .f32⟩
  | 100 => ⟨S3x1x56x160, .f32⟩
  | 101 => ⟨S3x1x56x160, .f32⟩
  | 102 => ⟨S3x5x56x160, .f32⟩
  | 103 => ⟨S3x5x1x56x160, .f32⟩
  | 104 => ⟨S3x5x128x56x160, .f32⟩
  | 105 => ⟨S3x5x128x56x160, .f32⟩
  | 106 => ⟨S3x5x128x56x160, .f32⟩
  | 107 => ⟨S3x5x56x64x128, .f32⟩
  | 108 => ⟨S3x5x128x56x64, .f32⟩
  | 109 => ⟨S3x5x56x128x128, .f32⟩
  | 110 => ⟨S128, .i32⟩
  | 111 => ⟨S128x1, .i32⟩
  | 112 => ⟨S128, .i32⟩
  | 113 => ⟨S1x128, .i32⟩
  | 114 => ⟨S128x128, .i32⟩
  | 115 => ⟨S128x128, .i32⟩
  | 116 => ⟨S128x128, .i1⟩
  | 117 => ⟨S_, .f32⟩
  | 118 => ⟨S_, .f32⟩
  | 119 => ⟨S3x5x56x128x128, .i1⟩
  | 120 => ⟨S3x5x56x128x128, .f32⟩
  | 121 => ⟨S3x5x56x128x128, .f32⟩
  | 122 => ⟨S3x5x56x128, .f32⟩
  | 123 => ⟨S3x5x56x1x128, .f32⟩
  | 124 => ⟨S3x5x56x128x128, .f32⟩
  | 125 => ⟨S3x5x56x128x128, .f32⟩
  | 126 => ⟨S3x5x56x128x128, .bf16⟩
  | 127 => ⟨S3x5x56x64x128, .f32⟩
  | _ => ⟨S3x640x3584, .f32⟩

abbrev hbmTy0_2 (i : Nat) : BufTy := match i % 128 with
  | 0 => ⟨S3x5x128x56x64, .f32⟩
  | 1 => ⟨S3x5x128x56x64, .f32⟩
  | 2 => ⟨S1920x3584, .f32⟩
  | 3 => ⟨S1920x3584, .bf16⟩
  | 4 => ⟨S3x56x64x640, .fp8e4m3⟩
  | 5 => ⟨S3x56x640, .f32⟩
  | _ => ⟨S3x640x3584, .f32⟩

abbrev hbmTy (i : Nat) : BufTy := match i / 128 with
  | 0 => hbmTy0_0 i
  | 1 => hbmTy0_1 i
  | 2 => hbmTy0_2 i
  | _ => ⟨S3x640x3584, .f32⟩

abbrev bufTy : (tb : Table) → Fin (tcTables nBuf tb) → BufTy
  | .hbm, ⟨i, _⟩ => hbmTy i
  | _, _ => ⟨S3x640x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_cst_13 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call3_call0_cst : Ref sig .tc := ⟨.hbm, 133, rfl⟩
abbrev main_call3_call0_v0 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_15 : Ref sig .tc := ⟨.hbm, 145, rfl⟩
abbrev main_v109 : Ref sig .tc := ⟨.hbm, 146, rfl⟩
abbrev main_cst_16 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_cst_17 : Ref sig .tc := ⟨.hbm, 245, rfl⟩
abbrev main_call4_v0 : Ref sig .tc := ⟨.hbm, 246, rfl⟩
abbrev main_call4_v1 : Ref sig .tc := ⟨.hbm, 247, rfl⟩
abbrev main_call4_v2 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩

abbrev nD : Nat := 1
abbrev τ : Topo := Topo.v7x

variable {F : FTy → Type} [FloatOps F]
-- ==== Quant.lean ====
abbrev S3x640x3584 : Shape := ⟨3, ![3, 640, 3584]⟩
abbrev S3x640 : Shape := ⟨2, ![3, 640]⟩
abbrev S3x128x3584 : Shape := ⟨3, ![3, 128, 3584]⟩
abbrev S3x128 : Shape := ⟨2, ![3, 128]⟩
abbrev S1x128x3584 : Shape := ⟨3, ![1, 128, 3584]⟩
abbrev S128x3584 : Shape := ⟨2, ![128, 3584]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S3x640x3584, .bf16⟩
  | .hbm, ⟨1, _⟩ => ⟨S3x640x3584, .fp8e4m3⟩
  | .hbm, ⟨2, _⟩ => ⟨S3x640, .f32⟩
  | .local _ .vmem, ⟨0, _⟩ => ⟨S3x128x3584, .bf16⟩
  | .local _ .vmem, ⟨1, _⟩ => ⟨S3x128x3584, .bf16⟩
  | .local _ .vmem, ⟨2, _⟩ => ⟨S3x128x3584, .fp8e4m3⟩
  | .local _ .vmem, ⟨3, _⟩ => ⟨S3x128x3584, .fp8e4m3⟩
  | .local _ .vmem, ⟨4, _⟩ => ⟨S3x128, .f32⟩
  | .local _ .vmem, ⟨5, _⟩ => ⟨S3x128, .f32⟩
  | _, _ => ⟨S3x640x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantisedIdeal.lean ====
abbrev S3x640x3584 : Shape := ⟨3, ![3, 640, 3584]⟩
abbrev S_ : Shape := ⟨0, ![]⟩
abbrev S3x640 : Shape := ⟨2, ![3, 640]⟩
abbrev S252 : Shape := ⟨1, ![252]⟩
abbrev S3x640x1 : Shape := ⟨3, ![3, 640, 1]⟩
abbrev S1x1x252 : Shape := ⟨3, ![1, 1, 252]⟩
abbrev S3x640x252 : Shape := ⟨3, ![3, 640, 252]⟩

abbrev nBuf : Space → Nat
  | .hbm => 58
  | .vmem => 0
  | .smem => 0
  | _ => 0

abbrev bufTy : (tb : Table) → Fin (tcTables nBuf tb) → BufTy
  | .hbm, ⟨0, _⟩ => ⟨S3x640x3584, .bf16⟩
  | .hbm, ⟨1, _⟩ => ⟨S3x640x3584, .f32⟩
  | .hbm, ⟨2, _⟩ => ⟨S3x640x3584, .f32⟩
  | .hbm, ⟨3, _⟩ => ⟨S_, .f32⟩
  | .hbm, ⟨4, _⟩ => ⟨S3x640, .f32⟩
  | .hbm, ⟨5, _⟩ => ⟨S_, .f32⟩
  | .hbm, ⟨6, _⟩ => ⟨S3x640, .f32⟩
  | .hbm, ⟨7, _⟩ => ⟨S3x640, .f32⟩
  | .hbm, ⟨8, _⟩ => ⟨S252, .i32⟩
  | .hbm, ⟨9, _⟩ => ⟨S_, .i32⟩
  | .hbm, ⟨10, _⟩ => ⟨S252, .i32⟩
  | .hbm, ⟨11, _⟩ => ⟨S252, .i32⟩
  | .hbm, ⟨12, _⟩ => ⟨S252, .f32⟩
  | .hbm, ⟨13, _⟩ => ⟨S_, .f32⟩
  | .hbm, ⟨14, _⟩ => ⟨S252, .f32⟩
  | .hbm, ⟨15, _⟩ => ⟨S252, .f32⟩
  | .hbm, ⟨16, _⟩ => ⟨S3x640x1, .f32⟩
  | .hbm, ⟨17, _⟩ => ⟨S1x1x252, .f32⟩
  | .hbm, ⟨18, _⟩ => ⟨S3x640x252, .f32⟩
  | .hbm, ⟨19, _⟩ => ⟨S3x640x252, .f32⟩
  | .hbm, ⟨20, _⟩ => ⟨S3x640x252, .i1⟩
  | .hbm, ⟨21, _⟩ => ⟨S_, .f32⟩
  | .hbm, ⟨22, _⟩ => ⟨S_, .f32⟩
  | .hbm, ⟨23, _⟩ => ⟨S3x640x252, .f32⟩
  | .hbm, ⟨24, _⟩ => ⟨S3x640x252, .f32⟩
  | .hbm, ⟨25, _⟩ => ⟨S3x640x252, .f32⟩
  | .hbm, ⟨26, _⟩ => ⟨S3x640x252, .f32⟩
  | .hbm, ⟨27, _⟩ => ⟨S_, .f32⟩
  | .hbm, ⟨28, _⟩ => ⟨S3x640, .f32⟩
  | .hbm, ⟨29, _⟩ => ⟨S_, .f32⟩
  | .hbm, ⟨30, _⟩ => ⟨S3x640, .f32⟩
  | .hbm, ⟨31, _⟩ => ⟨S3x640, .f32⟩
  | .hbm, ⟨32, _⟩ => ⟨S_, .f32⟩
  | .hbm, ⟨33, _⟩ => ⟨S3x640, .f32⟩
  | .hbm, ⟨34, _⟩ => ⟨S3x640, .i1⟩
  | .hbm, ⟨35, _⟩ => ⟨S_, .f32⟩
  | .hbm, ⟨36, _⟩ => ⟨S_, .f32⟩
  | .hbm, ⟨37, _⟩ => ⟨S3x640, .f32⟩
  | .hbm, ⟨38, _⟩ => ⟨S3x640, .f32⟩
  | .hbm, ⟨39, _⟩ => ⟨S3x640, .f32⟩
  | .hbm, ⟨40, _⟩ => ⟨S_, .f32⟩
  | .hbm, ⟨41, _⟩ => ⟨S3x640, .f32⟩
  | .hbm, ⟨42, _⟩ => ⟨S3x640, .f32⟩
  | .hbm, ⟨43, _⟩ => ⟨S3x640x1, .f32⟩
  | .hbm, ⟨44, _⟩ => ⟨S3x640x3584, .f32⟩
  | .hbm, ⟨45, _⟩ => ⟨S3x640x3584, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S3x640x3584, .f32⟩
  | .hbm, ⟨50, _⟩ => ⟨S3x640x3584, .f32⟩
  | .hbm, ⟨51, _⟩ => ⟨S_, .f32⟩
  | .hbm, ⟨52, _⟩ => ⟨S3x640x3584, .f32⟩
  | .hbm, ⟨53, _⟩ => ⟨S3x640x3584, .f32⟩
  | .hbm, ⟨54, _⟩ => ⟨S3x640x3584, .fp8e4m3⟩
  | .hbm, ⟨55, _⟩ => ⟨S_, .f32⟩
  | .hbm, ⟨56, _⟩ => ⟨S3x640, .f32⟩
  | .hbm, ⟨57, _⟩ => ⟨S3x640, .f32⟩
  | _, _ => ⟨S3x640x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_cst_10 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v30 : Ref sig .tc := ⟨.hbm, 53, rfl⟩
abbrev main_v31 : Ref sig .tc := ⟨.hbm, 54, rfl⟩
abbrev main_cst_11 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Proof.K.Loop.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
set_option maxHeartbeats 4000000 in
/-- The invariant of the chunk loop for the frame: the projections' scratch at the contents it was entered with, and the
    six buffers that a chunk writes at some contents. -/
@[sl_loop] def loopInv (𝒱 : Variants) (c : Dev nD) (bd : Option 𝒱.V) (E : Set ℕ) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec F S128x128 .bf16) (v176 : FVec F S128x128 .bf16) (v178 : IVec S128x128 1) (v179 : IVec S8x128 32) (v181 : BitVec 32) (X : BufTy.Contents (Elt F) arg10.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v170 v175 v176 v178 v179 v181 where
  inv _ _ := iprop((arg10.view.loc (c : Thread nD τ) ↦[arg10.view.set]{fullShare} X)
    ∗ (∃ f, arg7.view.loc (c : Thread nD τ) ↦[arg7.view.set]{fullShare} f)
    ∗ (∃ f, arg8.view.loc (c : Thread nD τ) ↦[arg8.view.set]{fullShare} f)
    ∗ (∃ f, arg9.view.loc (c : Thread nD τ) ↦[arg9.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f))
  step k acc := by
    have hk : k.val < 5 := Nat.lt_of_lt_of_le k.isLt k0_t1_abs.2.1
    unfold k0_t1_body
    iintro ⟨HX, ⟨%f7, H7⟩, ⟨%f8, H8⟩, ⟨%f9, H9⟩, ⟨%f11, H11⟩, ⟨%f12, H12⟩, ⟨%f13, H13⟩⟩
    sl_exec
    sl_step
    isplitl [HX]; · iexact HX
    isplitl [H7]; · iexists _; iexact H7
    isplitl [H8]; · iexists _; iexact H8
    isplitl [H9]; · iexists _; iexact H9
    isplitl [H11]; · iexists _; iexact H11
    isplitl [H12]; · iexists _; iexact H12
    iexists _; iexact H13

end Cert.Kernel.Hand

end
-- ==== Proof.K.Frame.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.K.Loop
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1920x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x160x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x160x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x160x5 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1920x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x2x64x640 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x8x640 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S768x1920 .f32 := Memref.whole cc0_scratch0
abbrev scM0_1 : Memref sig .tc .vmem S3x160x128 .f32 := Memref.whole cc0_scratch1
abbrev scM0_2 : Memref sig .tc .vmem S3x2x160x128 .f32 := Memref.whole cc0_scratch2
abbrev scM0_3 : Memref sig .tc .vmem S3x2x160x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: checking it walks past the default budget)
set_option maxHeartbeats 4000000 in
/-- The body's triple: on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole)
    (x0 : Vec F S1920x3584 .fp8e4m3) (x1 : Vec F S3x640 .f32) (x2 : Vec F S2x160x3584 .fp8e4m3) (x3 : Vec F S2x160x3584 .fp8e4m3) (x4 : Vec F S2x64x3584 .fp8e4m3) (x5 : Vec F S1x160x5 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_latte i arg1 harg1 arg2 harg2 arg3 harg3 arg4 harg4 arg5 harg5 arg6 harg6 arg7 harg7 arg8 harg8 arg9 harg9 arg10 harg10 arg11 harg11 arg12 harg12 arg13 harg13) K := by
    intro E K
    simp only [cc0_latte_eq_skeleton]; unfold cc0_latte_skel
    simp only [k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
 -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.KI.LoopF.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
set_option maxHeartbeats 4000000 in
/-- The invariant of the chunk loop for the frame: the projections' scratch at the contents it was entered with, and the
    six buffers that a chunk writes at some contents. -/
@[sl_loop] def loopInv (𝒱 : Variants) (c : Dev nD) (bd : Option 𝒱.V) (E : Set ℕ) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec F S128x128 .bf16) (v176 : FVec F S128x128 .bf16) (v178 : IVec S128x128 1) (v179 : IVec S8x128 32) (v181 : BitVec 32) (X : BufTy.Contents (Elt F) arg10.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v170 v175 v176 v178 v179 v181 where
  inv _ _ := iprop((arg10.view.loc (c : Thread nD τ) ↦[arg10.view.set]{fullShare} X)
    ∗ (∃ f, arg7.view.loc (c : Thread nD τ) ↦[arg7.view.set]{fullShare} f)
    ∗ (∃ f, arg8.view.loc (c : Thread nD τ) ↦[arg8.view.set]{fullShare} f)
    ∗ (∃ f, arg9.view.loc (c : Thread nD τ) ↦[arg9.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f))
  step k acc := by
    have hk : k.val < 5 := Nat.lt_of_lt_of_le k.isLt k0_t1_abs.2.1
    unfold k0_t1_body
    iintro ⟨HX, ⟨%f7, H7⟩, ⟨%f8, H8⟩, ⟨%f9, H9⟩, ⟨%f11, H11⟩, ⟨%f12, H12⟩, ⟨%f13, H13⟩⟩
    sl_exec
    sl_step
    isplitl [HX]; · iexact HX
    isplitl [H7]; · iexists _; iexact H7
    isplitl [H8]; · iexists _; iexact H8
    isplitl [H9]; · iexists _; iexact H9
    isplitl [H11]; · iexists _; iexact H11
    isplitl [H12]; · iexists _; iexact H12
    iexists _; iexact H13

end Cert.KernelIdeal.Hand

end
-- ==== Proof.KI.FrameF.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.LoopF
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1920x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x160x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x160x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x160x5 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1920x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x2x64x640 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x8x640 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S768x1920 .f32 := Memref.whole cc0_scratch0
abbrev scM0_1 : Memref sig .tc .vmem S3x160x128 .f32 := Memref.whole cc0_scratch1
abbrev scM0_2 : Memref sig .tc .vmem S3x2x160x128 .f32 := Memref.whole cc0_scratch2
abbrev scM0_3 : Memref sig .tc .vmem S3x2x160x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: checking it walks past the default budget)
set_option maxHeartbeats 4000000 in
/-- The body's triple: on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole)
    (x0 : Vec F S1920x3584 .fp8e4m3) (x1 : Vec F S3x640 .f32) (x2 : Vec F S2x160x3584 .fp8e4m3) (x3 : Vec F S2x160x3584 .fp8e4m3) (x4 : Vec F S2x64x3584 .fp8e4m3) (x5 : Vec F S1x160x5 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_latte i arg1 harg1 arg2 harg2 arg3 harg3 arg4 harg4 arg5 harg5 arg6 harg6 arg7 harg7 arg8 harg8 arg9 harg9 arg10 harg10 arg11 harg11 arg12 harg12 arg13 harg13) K := by
    intro E K
    simp only [cc0_latte_eq_skeleton]; unfold cc0_latte_skel
    simp only [k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
 -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.KI.Stage.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The steps of one chunk for one batch row, as functions of the vectors that the kernel loads. -/

/-- The largest magnitude per token, over 448. -/
def amaxOf (V : Vec F S64x128 .f32) : FVec F S1x128 .f32 :=
  mulf (shapeCast S1x128 (multiReduction .maximumf [0] S128 (absf V) 0xFF800000#32 reduces_S64x128_S128 (.inl rfl) rfl) shapeCasts_S128_S1x128)
    (broadcast S1x128 (Scalar.ofBits .f32 0x3B124925#32))

/-- One step of the search for the exponent field. -/
def ladder (s : FVec F S1x128 .f32) (f : IVec S1x128 32) (n : BitVec 32) : IVec S1x128 32 :=
  select (cmpf .oge s (bitcastToFloat .f32 (shli (addi f (broadcast S1x128 n)) (broadcast S1x128 23#32)))) (addi f (broadcast S1x128 n)) f

/-- The exponent field. -/
def fieldOf (s : FVec F S1x128 .f32) : IVec S1x128 32 :=
  ladder s (ladder s (ladder s (ladder s (ladder s (ladder s (ladder s (ladder s (broadcast S1x128 0#32) 125#32) 64#32) 32#32) 16#32) 8#32) 4#32) 2#32) 1#32

/-- The scale from the exponent field, and its inverse. -/
def scaleOf (f : IVec S1x128 32) : FVec F S1x128 .f32 :=
  bitcastToFloat .f32 (shli (select (cmpi .eq f (broadcast S1x128 0#32)) (broadcast S1x128 127#32) (addi f (broadcast S1x128 1#32))) (broadcast S1x128 23#32))
def invOf (f : IVec S1x128 32) : FVec F S1x128 .f32 :=
  bitcastToFloat .f32 (shli (select (cmpi .eq f (broadcast S1x128 0#32)) (broadcast S1x128 127#32) (subi (broadcast S1x128 253#32) f)) (broadcast S1x128 23#32))

/-- The codes. -/
def codesOf (V : Vec F S64x128 .f32) : FVec F S64x128 .fp8e4m3 :=
  truncf .fp8e4m3 (minimumf (broadcast S64x128 (Scalar.ofBits .f32 0x43E00000#32)) (maximumf (broadcast S64x128 (Scalar.ofBits .f32 0xC3E00000#32))
    (mulf V (broadcastTo S64x128 (invOf (F := F) (fieldOf (amaxOf V))) broadcasts_S1x128_S64x128)))) bitsLt_fp8e4m3_f32

/-- The codes times the scale. -/
def deqOf (V : Vec F S64x128 .f32) : FVec F S64x128 .bf16 :=
  truncf .bf16 (mulf (extf .f32 (codesOf V) bitsLt_fp8e4m3_f32) (broadcastTo S64x128 (scaleOf (F := F) (fieldOf (amaxOf V))) broadcasts_S1x128_S64x128)) bitsLt_bf16_f32

/-- Both heads' dequantised values, tokens by lanes; and each head's alone. -/
def vtOf (V0 V1 : Vec F S64x128 .f32) : FVec F S128x128 .bf16 :=
  transpose S128x128 [1, 0] (concatenate S128x128 0 [⟨S64x128, deqOf V0⟩, ⟨S64x128, deqOf V1⟩] concatenates_S64x128_S64x128_S128x128_d0) transposes_S128x128_p1_0_S128x128
def vh0Of (fh : IVec S128x128 1) (V0 V1 : Vec F S64x128 .f32) : FVec F S128x128 .bf16 :=
  select fh (vtOf V0 V1) (broadcast S128x128 (Scalar.ofBits .bf16 0x0000#16))
def vh1Of (fh : IVec S128x128 1) (V0 V1 : Vec F S64x128 .f32) : FVec F S128x128 .bf16 :=
  select fh (broadcast S128x128 (Scalar.ofBits .bf16 0x0000#16)) (vtOf V0 V1)

/-- The rows of scales: those found, or zeros at the group's first point, with the two heads' set. -/
def vsOf (row8 : IVec S8x128 32) (row0 : BitVec 32) (VS : Vec F S1x8x128 .f32) (V0 V1 : Vec F S64x128 .f32) : FVec F S1x8x128 .f32 :=
  shapeCast S1x8x128 (select (cmpi .eq row8 (broadcast S8x128 (Scalar.addi row0 1#32)))
    (broadcastTo S8x128 (shapeCast S1x128 (scaleOf (F := F) (fieldOf (amaxOf V1))) shapeCasts_S1x128_S1x128) broadcasts_S1x128_S8x128)
    (select (cmpi .eq row8 (broadcast S8x128 (Scalar.addi row0 0#32)))
      (broadcastTo S8x128 (shapeCast S1x128 (scaleOf (F := F) (fieldOf (amaxOf V0))) shapeCasts_S1x128_S1x128) broadcasts_S1x128_S8x128)
      (Scalar.select (Scalar.cmpi .eq row0 0#32) (broadcast S8x128 (Scalar.ofBits .f32 0x00000000#32)) (shapeCast S8x128 VS shapeCasts_S1x8x128_S8x128))))
    shapeCasts_S8x128_S1x8x128

def vcOf (V : Vec F S64x128 .f32) : FVec F S1x1x64x128 .fp8e4m3 := shapeCast S1x1x64x128 (codesOf V) shapeCasts_S64x128_S1x1x64x128

/-- The running maximum, the decay and the exponentials. -/
def mNew (K : Vec F S160x128 .f32) (M : Vec F S1x1x160x128 .f32) : FVec F S160x128 .f32 :=
  maximumf (shapeCast S160x128 M shapeCasts_S1x1x160x128_S160x128)
    (broadcastTo S160x128 (shapeCast S160x1 (multiReduction .maximumf [1] S160 K 0xFF800000#32 reduces_S160x128_S160 (.inl rfl) rfl) shapeCasts_S160_S160x1) broadcasts_S160x1_S160x128)
def mOf (K : Vec F S160x128 .f32) (M : Vec F S1x1x160x128 .f32) : FVec F S1x1x160x128 .f32 := shapeCast S1x1x160x128 (mNew K M) shapeCasts_S160x128_S1x1x160x128
def decOf (K : Vec F S160x128 .f32) (M : Vec F S1x1x160x128 .f32) : FVec F S160x128 .f32 :=
  exp (subf (shapeCast S160x128 M shapeCasts_S1x1x160x128_S160x128) (mNew K M))
def eOf (K : Vec F S160x128 .f32) (M : Vec F S1x1x160x128 .f32) : FVec F S160x128 .f32 := exp (subf K (mNew K M))

/-- The three parts of a vector. -/
def hiOf (x : FVec F S160x128 .f32) : FVec F S160x128 .bf16 := truncf .bf16 x bitsLt_bf16_f32
def restOf (x : FVec F S160x128 .f32) : FVec F S160x128 .f32 := subf x (extf .f32 (hiOf x) bitsLt_bf16_f32)
def midOf (x : FVec F S160x128 .f32) : FVec F S160x128 .bf16 := hiOf (restOf x)
def loOf (x : FVec F S160x128 .f32) : FVec F S160x128 .bf16 := midOf (restOf x)

/-- The low parts' running sums, of both heads. -/
def zcOf (triu zcc : FVec F S128x128 .bf16) (e0 e1 : FVec F S160x128 .f32) : FVec F S160x256 .f32 :=
  matmul dot_S160x256_S256x256_S160x256_1_0_0_1_n_n none
    (concatenate S160x256 1 [⟨S160x128, loOf e0⟩, ⟨S160x128, loOf e1⟩] concatenates_S160x128_S160x128_S160x256_d1)
    (k0_pay1 triu zcc) (constant S160x256 .f32 0x00000000#32)

/-- The decayed state. -/
def sdOf (fh : IVec S128x128 1) (d0 d1 : FVec F S160x128 .f32) (ST : Vec F S1x160x128 .f32) : FVec F S160x128 .f32 :=
  mulf (shapeCast S160x128 ST shapeCasts_S1x160x128_S160x128)
    (select (broadcastTo S160x128 (shapeCast S1x128 (extractStridedSlice S1x128 ![0, 0] fh slices_S128x128_o0_0_S1x128) shapeCasts_S1x128_S1x128) broadcasts_S1x128_S160x128) d0 d1)

/-- The running sums and the chunk's contribution to the state, of one head. -/
def zuOf (triu zcc vh : FVec F S128x128 .bf16) (e : FVec F S160x128 .f32) : FVec F S160x256 .f32 :=
  matmul dot_S160x256_S256x256_S160x256_1_0_0_1_n_n none
    (concatenate S160x256 1 [⟨S160x128, hiOf e⟩, ⟨S160x128, midOf e⟩] concatenates_S160x128_S160x128_S160x256_d1)
    (concatenate S256x256 0 [⟨S128x256, concatenate S128x256 1 [⟨S128x128, triu⟩, ⟨S128x128, vh⟩] concatenates_S128x128_S128x128_S128x256_d1⟩,
      ⟨S128x256, concatenate S128x256 1 [⟨S128x128, triu⟩, ⟨S128x128, zcc⟩] concatenates_S128x128_S128x128_S128x256_d1⟩] concatenates_S128x256_S128x256_S256x256_d0)
    (constant S160x256 .f32 0x00000000#32)
def uOf (zu : FVec F S160x256 .f32) : FVec F S160x128 .f32 := extractStridedSlice S160x128 ![0, 128] zu slices_S160x256_o0_128_S160x128
def loHalf (zu : FVec F S160x256 .f32) : FVec F S160x128 .f32 := extractStridedSlice S160x128 ![0, 0] zu slices_S160x256_o0_0_S160x128

/-- The denominators, and their last column in every lane. -/
def denOf (Z : Vec F S1x1x160x128 .f32) (d : FVec F S160x128 .f32) (zu : FVec F S160x256 .f32) (zl : FVec F S160x128 .f32) : FVec F S160x128 .f32 :=
  addf (mulf (shapeCast S160x128 Z shapeCasts_S1x1x160x128_S160x128) d) (addf (loHalf zu) zl)
def zOf (den : FVec F S160x128 .f32) : FVec F S1x1x160x128 .f32 :=
  shapeCast S1x1x160x128 (broadcastTo S160x128 (shapeCast S160x1 (extractStridedSlice S160x1 ![0, 127] den slices_S160x128_o0_127_S160x1) shapeCasts_S160x1_S160x1) broadcasts_S160x1_S160x128) shapeCasts_S160x128_S1x1x160x128

/-- The queries' softmax over the denominators. -/
def peOf (Q : Vec F S160x128 .f32) : FVec F S160x128 .f32 :=
  exp (subf Q (broadcastTo S160x128 (shapeCast S1x128 (multiReduction .maximumf [0] S128 Q 0xFF800000#32 reduces_S160x128_S128 (.inl rfl) rfl) shapeCasts_S128_S1x128) broadcasts_S1x128_S160x128))
def rOf (Q : Vec F S160x128 .f32) (den : FVec F S160x128 .f32) : FVec F S160x128 .f32 :=
  mulf (mulf (peOf Q) (broadcastTo S160x128 (divf (broadcast S1x128 (Scalar.ofBits .f32 0x3F800000#32))
      (shapeCast S1x128 (multiReduction .add [0] S128 (peOf Q) 0x00000000#32 reduces_S160x128_S128 (.inl rfl) rfl) shapeCasts_S128_S1x128)) broadcasts_S1x128_S160x128))
    (divf (broadcast S160x128 (Scalar.ofBits .f32 0x3F800000#32)) den)

/-- The stacked operands of the attention product. -/
def topT (x : FVec F S160x128 .bf16) : FVec F S128x128 .bf16 :=
  transpose S128x128 [1, 0] (extractStridedSlice S128x128 ![0, 0] x slices_S160x128_o0_0_S128x128) transposes_S128x128_p1_0_S128x128
def tail (x : FVec F S160x128 .bf16) : FVec F S32x128 .bf16 := extractStridedSlice S32x128 ![128, 0] x slices_S160x128_o128_0_S32x128
def lhsOf (r : FVec F S160x128 .f32) : FVec F S128x1024 .bf16 :=
  concatenate S128x1024 1 [⟨S128x128, topT (hiOf r)⟩, ⟨S128x128, topT (hiOf r)⟩, ⟨S128x128, topT (midOf r)⟩, ⟨S128x128, topT (midOf r)⟩, ⟨S128x128, topT (hiOf r)⟩, ⟨S128x128, topT (loOf r)⟩,
    ⟨S128x256, transpose S128x256 [1, 0] (concatenate S256x128 0 [⟨S32x128, tail (hiOf r)⟩, ⟨S32x128, tail (hiOf r)⟩, ⟨S32x128, tail (midOf r)⟩, ⟨S32x128, tail (hiOf r)⟩, ⟨S32x128, tail (loOf r)⟩, ⟨S32x128, tail (midOf r)⟩, ⟨S64x128, k0_pay2 (F := F)⟩] concatenates_S32x128_S32x128_S32x128_S32x128_S32x128_S32x128_S64x128_S256x128_d0) transposes_S256x128_p1_0_S128x256⟩]
    concatenates_S128x128_S128x128_S128x128_S128x128_S128x128_S128x128_S128x256_S128x1024_d1
def besideOf (a b : FVec F S160x128 .bf16) : FVec F S160x256 .bf16 := concatenate S160x256 1 [⟨S160x128, a⟩, ⟨S160x128, b⟩] concatenates_S160x128_S160x128_S160x256_d1
def top2 (x : FVec F S160x256 .bf16) : FVec F S128x256 .bf16 := extractStridedSlice S128x256 ![0, 0] x slices_S160x256_o0_0_S128x256
def tail2 (x : FVec F S160x256 .bf16) : FVec F S32x256 .bf16 := extractStridedSlice S32x256 ![128, 0] x slices_S160x256_o128_0_S32x256
def rhsOf (e sd : FVec F S160x128 .f32) : FVec F S1024x256 .bf16 :=
  concatenate S1024x256 0 [⟨S128x256, top2 (besideOf (hiOf e) (hiOf sd))⟩, ⟨S128x256, top2 (besideOf (midOf e) (midOf sd))⟩, ⟨S128x256, top2 (besideOf (hiOf e) (hiOf sd))⟩, ⟨S128x256, top2 (besideOf (midOf e) (midOf sd))⟩, ⟨S128x256, top2 (besideOf (loOf e) (loOf sd))⟩, ⟨S128x256, top2 (besideOf (hiOf e) (hiOf sd))⟩,
    ⟨S32x256, tail2 (besideOf (hiOf e) (hiOf sd))⟩, ⟨S32x256, tail2 (besideOf (midOf e) (midOf sd))⟩, ⟨S32x256, tail2 (besideOf (hiOf e) (hiOf sd))⟩, ⟨S32x256, tail2 (besideOf (loOf e) (loOf sd))⟩, ⟨S32x256, tail2 (besideOf (hiOf e) (hiOf sd))⟩, ⟨S32x256, tail2 (besideOf (midOf e) (midOf sd))⟩, ⟨S64x256, k0_pay3 (F := F)⟩]
    concatenates_S128x256_S128x256_S128x256_S128x256_S128x256_S128x256_S32x256_S32x256_S32x256_S32x256_S32x256_S32x256_S64x256_S1024x256_d0
def aiOf (r e sd : FVec F S160x128 .f32) : FVec F S128x256 .f32 :=
  matmul dot_S128x1024_S1024x256_S128x256_1_0_0_1_n_n none (lhsOf r) (rhsOf e sd) (constant S128x256 .f32 0x00000000#32)
def aOf (causal : IVec S128x128 1) (ai : FVec F S128x256 .f32) : FVec F S128x128 .bf16 :=
  truncf .bf16 (select causal (extractStridedSlice S128x128 ![0, 0] ai slices_S128x256_o0_0_S128x128) (broadcast S128x128 (Scalar.ofBits .f32 0x00000000#32))) bitsLt_bf16_f32
def yiOf (ai : FVec F S128x256 .f32) : FVec F S128x128 .f32 := extractStridedSlice S128x128 ![0, 128] ai slices_S128x256_o0_128_S128x128
def ymOf (fh : IVec S128x128 1) (ai0 ai1 : FVec F S128x256 .f32) (a0 a1 vh0 vh1 : FVec F S128x128 .bf16) : FVec F S128x128 .bf16 :=
  truncf .bf16 (addf (select fh (yiOf ai0) (yiOf ai1))
    (matmul dot_S128x256_S256x128_S128x128_1_0_0_1_n_n none (concatenate S128x256 1 [⟨S128x128, a0⟩, ⟨S128x128, a1⟩] concatenates_S128x128_S128x128_S128x256_d1)
      (concatenate S256x128 0 [⟨S128x128, vh0⟩, ⟨S128x128, vh1⟩] concatenates_S128x128_S128x128_S256x128_d0) (constant S128x128 .f32 0x00000000#32))) bitsLt_bf16_f32

/-! The results of one chunk for one batch row. -/

def den0 (triu zcc : FVec F S128x128 .bf16) (fh : IVec S128x128 1) (V0 V1 : Vec F S64x128 .f32) (K0 K1 : Vec F S160x128 .f32) (M0 M1 Z0 : Vec F S1x1x160x128 .f32) : FVec F S160x128 .f32 :=
  denOf Z0 (decOf K0 M0) (zuOf triu zcc (vh0Of fh V0 V1) (eOf K0 M0)) (loHalf (zcOf triu zcc (eOf K0 M0) (eOf K1 M1)))
def den1 (triu zcc : FVec F S128x128 .bf16) (fh : IVec S128x128 1) (V0 V1 : Vec F S64x128 .f32) (K0 K1 : Vec F S160x128 .f32) (M0 M1 Z1 : Vec F S1x1x160x128 .f32) : FVec F S160x128 .f32 :=
  denOf Z1 (decOf K1 M1) (zuOf triu zcc (vh1Of fh V0 V1) (eOf K1 M1)) (uOf (zcOf triu zcc (eOf K0 M0) (eOf K1 M1)))
def stOf (triu zcc : FVec F S128x128 .bf16) (fh : IVec S128x128 1) (V0 V1 : Vec F S64x128 .f32) (K0 K1 : Vec F S160x128 .f32) (M0 M1 : Vec F S1x1x160x128 .f32) (ST : Vec F S1x160x128 .f32) : FVec F S1x160x128 .f32 :=
  shapeCast S1x160x128 (addf (addf (sdOf fh (decOf K0 M0) (decOf K1 M1) ST) (uOf (zuOf triu zcc (vh0Of fh V0 V1) (eOf K0 M0)))) (uOf (zuOf triu zcc (vh1Of fh V0 V1) (eOf K1 M1)))) shapeCasts_S160x128_S1x160x128
def yOf (causal : IVec S128x128 1) (triu zcc : FVec F S128x128 .bf16) (fh : IVec S128x128 1) (V0 V1 : Vec F S64x128 .f32) (K0 K1 Q0 Q1 : Vec F S160x128 .f32) (M0 M1 Z0 Z1 : Vec F S1x1x160x128 .f32) (ST : Vec F S1x160x128 .f32) : FVec F S128x128 .bf16 :=
  ymOf fh (aiOf (rOf Q0 (den0 triu zcc fh V0 V1 K0 K1 M0 M1 Z0)) (eOf K0 M0) (sdOf fh (decOf K0 M0) (decOf K1 M1) ST))
    (aiOf (rOf Q1 (den1 triu zcc fh V0 V1 K0 K1 M0 M1 Z1)) (eOf K1 M1) (sdOf fh (decOf K0 M0) (decOf K1 M1) ST))
    (aOf causal (aiOf (rOf Q0 (den0 triu zcc fh V0 V1 K0 K1 M0 M1 Z0)) (eOf K0 M0) (sdOf fh (decOf K0 M0) (decOf K1 M1) ST)))
    (aOf causal (aiOf (rOf Q1 (den1 triu zcc fh V0 V1 K0 K1 M0 M1 Z1)) (eOf K1 M1) (sdOf fh (decOf K0 M0) (decOf K1 M1) ST)))
    (vh0Of fh V0 V1) (vh1Of fh V0 V1)

end Cert.KernelIdeal.Hand

end
-- ==== Proof.Spec.lean ====
module

public import Idealize.ShloMosaic.Lib.Pointwise

@[expose] public section

noncomputable section

namespace Cert.Spec

open Idealize.ShloMosaic

/-! The mathematics of one head of one batch row, over the reals. `K c l s` and `Q c l s` are the logits of chunk `c`, feature `l` and token `s`; `G c s d` are the
dequantised values. -/

/-- A sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals, read in the extended reals. -/
theorem sup_coe {ι : Type} [Fintype ι] [Nonempty ι] (f : ι → ℝ) :
    (Finset.univ.sup fun i => ((f i : ℝ) : EReal)) = ((Finset.univ.sup' Finset.univ_nonempty f : ℝ) : EReal) := by
  apply le_antisymm
  · exact Finset.sup_le fun i hi => EReal.coe_le_coe_iff.2 (Finset.le_sup' f hi)
  · obtain ⟨i, hi, he⟩ := Finset.exists_mem_eq_sup' (Finset.univ_nonempty) f
    rw [he]
    exact Finset.le_sup (f := fun i => ((f i : ℝ) : EReal)) hi

theorem coe_max (a b : ℝ) : max (a : EReal) (b : EReal) = ((max a b : ℝ) : EReal) :=
  (EReal.coe_strictMono.monotone.map_max).symm

theorem div_coe (x y : ℝ) (h : y ≠ 0) : Ideal.div (x : EReal) (y : EReal) = ((x / y : ℝ) : EReal) := by
  rw [Ideal.div_coe h, ← EReal.coe_mul]; congr 1; ring

theorem one_div_coe (y : ℝ) (h : y ≠ 0) : Ideal.div 1 (y : EReal) = ((1 / y : ℝ) : EReal) := div_coe 1 y h

section Head

variable (K Q : ℕ → Fin 160 → Fin 128 → ℝ) (G : ℕ → Fin 128 → Fin 64 → ℝ)

/-- The greatest logit of a chunk. -/
def top (c : ℕ) (l : Fin 160) : ℝ := Finset.univ.sup' Finset.univ_nonempty (K c l)

/-- The running maximum after chunk `c`. -/
def M : ℕ → Fin 160 → ℝ
  | 0, l => top K 0 l
  | c + 1, l => max (M c l) (top K (c + 1) l)

/-- The running maximum before chunk `c`. -/
def Mb : ℕ → Fin 160 → EReal
  | 0, _ => ⊥
  | c + 1, l => ((M K c l : ℝ) : EReal)

/-- The exponentials. -/
def E (c : ℕ) (l : Fin 160) (s : Fin 128) : ℝ := Real.exp (K c l s - M K c l)

/-- The decay at the start of a chunk. -/
def D : ℕ → Fin 160 → ℝ
  | 0, _ => 0
  | c + 1, l => Real.exp (M K c l - M K (c + 1) l)

/-- The sum of the exponentials before chunk `c`. -/
def Z : ℕ → Fin 160 → ℝ
  | 0, _ => 0
  | c + 1, l => Z c l * D K c l + ∑ s, E K c l s

/-- The state before chunk `c`. -/
def S : ℕ → Fin 160 → Fin 64 → ℝ
  | 0, _, _ => 0
  | c + 1, l, d => S c l d * D K c l + ∑ s, E K c l s * G c s d

/-- The denominators. -/
def Den (c : ℕ) (l : Fin 160) (t : Fin 128) : ℝ := Z K c l * D K c l + ∑ s, E K c l s * (if s ≤ t then 1 else 0)

/-- The exponentials of the queries, and their softmax over the denominators. -/
def Pe (c : ℕ) (l : Fin 160) (t : Fin 128) : ℝ := Real.exp (Q c l t - Finset.univ.sup' Finset.univ_nonempty fun l => Q c l t)
def R (c : ℕ) (l : Fin 160) (t : Fin 128) : ℝ := Pe Q c l t / (∑ l, Pe Q c l t) / Den K c l t

/-- The result. -/
def Y (c : ℕ) (t : Fin 128) (d : Fin 64) : ℝ :=
  (∑ l, R K Q c l t * (S K G c l d * D K c l)) + ∑ s, (if s ≤ t then ∑ l, R K Q c l t * E K c l s else 0) * G c s d

theorem max_Mb (c : ℕ) (l : Fin 160) : max (Mb K c l) ((top K c l : ℝ) : EReal) = ((M K c l : ℝ) : EReal) := by
  cases c with
  | zero => exact bot_sup_eq _
  | succ c => exact coe_max _ _

theorem exp_Mb (c : ℕ) (l : Fin 160) : Ideal.exp (Mb K c l - ((M K c l : ℝ) : EReal)) = ((D K c l : ℝ) : EReal) := by
  cases c with
  | zero => show Ideal.exp (⊥ - _) = ((0 : ℝ) : EReal); rw [EReal.bot_sub]; rfl
  | succ c => show Ideal.exp (((M K c l : ℝ) : EReal) - _) = _; rw [← EReal.coe_sub]; rfl

theorem E_pos (c : ℕ) (l : Fin 160) (s : Fin 128) : 0 < E K c l s := Real.exp_pos _

theorem D_nonneg (c : ℕ) (l : Fin 160) : 0 ≤ D K c l := by
  cases c with
  | zero => exact le_refl _
  | succ c => exact (Real.exp_pos _).le

theorem Z_nonneg (c : ℕ) (l : Fin 160) : 0 ≤ Z K c l := by
  induction c with
  | zero => exact le_refl _
  | succ c ih => exact add_nonneg (mul_nonneg ih (D_nonneg K c l)) (Finset.sum_nonneg fun s _ => (E_pos K c l s).le)

theorem Den_pos (c : ℕ) (l : Fin 160) (t : Fin 128) : 0 < Den K c l t := by
  refine add_pos_of_nonneg_of_pos (mul_nonneg (Z_nonneg K c l) (D_nonneg K c l)) ?_
  refine Finset.sum_pos' (fun s _ => ?_) ⟨t, Finset.mem_univ _, ?_⟩
  · exact mul_nonneg (E_pos K c l s).le (by split_ifs <;> norm_num)
  · simpa using E_pos K c l t

theorem Pe_pos (c : ℕ) (l : Fin 160) (t : Fin 128) : 0 < Pe Q c l t := Real.exp_pos _

theorem sumPe_pos (c : ℕ) (t : Fin 128) : 0 < ∑ l, Pe Q c l t := Finset.sum_pos (fun l _ => Pe_pos Q c l t) Finset.univ_nonempty

end Head

/-! The quantiser of one row of numbers. -/

/-- The largest magnitude, over 448. -/
def mag {n : ℕ} (V : Fin n → EReal) : EReal := (Finset.univ.sup fun d => max (V d) (-V d)) * Ideal.ofBits .f32 0x3B124925#32

/-- How many of the powers `2^-126 … 2^125` are at most `a`. -/
def N (a : EReal) : ℕ := (Finset.univ.filter fun i : Fin 252 => (((2 : ℝ) ^ ((i.val : ℤ) - 126) : ℝ) : EReal) ≤ a).card

/-- The scale, its inverse, the codes and the dequantised values. -/
def scl (a : EReal) : ℝ := if N a = 0 then 1 else (2 : ℝ) ^ ((N a : ℤ) - 126)
def inv (a : EReal) : ℝ := if N a = 0 then 1 else (2 : ℝ) ^ (126 - (N a : ℤ))
def code {n : ℕ} (V : Fin n → EReal) (d : Fin n) : EReal :=
  min (Ideal.ofBits .f32 0x43E00000#32) (max (Ideal.ofBits .f32 0xC3E00000#32) (V d * ((inv (mag V) : ℝ) : EReal)))
def codeR {n : ℕ} (V : Fin n → EReal) (d : Fin n) : ℝ := (code V d).toReal

/-- The dequantised values of every chunk and token. -/
def deq (v : ℕ → Fin 128 → Fin 64 → EReal) (c : ℕ) (s : Fin 128) (d : Fin 64) : ℝ := codeR (v c s) d * scl (mag (v c s))

theorem ofBits_448 : Ideal.ofBits .f32 0x43E00000#32 = ((448 : ℝ) : EReal) := by
  simp [Ideal.ofBits, Ideal.ieee, -EReal.coe_mul, -EReal.coe_neg]; norm_num

theorem ofBits_neg448 : Ideal.ofBits .f32 0xC3E00000#32 = ((-448 : ℝ) : EReal) := by
  simp [Ideal.ofBits, Ideal.ieee, -EReal.coe_mul, -EReal.coe_neg]; norm_num

theorem code_coe {n : ℕ} (V : Fin n → EReal) (d : Fin n) : code V d = ((codeR V d : ℝ) : EReal) := by
  have h1 : code V d ≠ ⊤ := by
    refine ne_of_lt (lt_of_le_of_lt (min_le_left _ _) ?_)
    rw [ofBits_448]; exact EReal.coe_lt_top _
  have h2 : code V d ≠ ⊥ := by
    refine ne_of_gt (lt_of_lt_of_le ?_ (le_min ?_ (le_max_left _ _)))
    · rw [ofBits_neg448]; exact EReal.bot_lt_coe _
    · rw [ofBits_neg448, ofBits_448, EReal.coe_le_coe_iff]; norm_num
  exact (EReal.coe_toReal h1 h2).symm

/-- A power at most `a` is one of those counted. -/
theorem pow_le_iff (a : EReal) (j : ℕ) (h1 : 1 ≤ j) (h2 : j ≤ 252) : (((2 : ℝ) ^ ((j : ℤ) - 127) : ℝ) : EReal) ≤ a ↔ j ≤ N a := by
  have mono : ∀ i k : ℕ, i ≤ k → ((2 : ℝ) ^ ((i : ℤ) - 126)) ≤ (2 : ℝ) ^ ((k : ℤ) - 126) := fun i k h =>
    zpow_le_zpow_right₀ (by norm_num) (by omega)
  have e : ((j : ℤ) - 127) = (((j - 1 : ℕ) : ℤ) - 126) := by omega
  rw [e]
  constructor
  · intro h
    have hsub : Finset.univ.filter (fun i : Fin 252 => i.val < j) ⊆ Finset.univ.filter fun i : Fin 252 => (((2 : ℝ) ^ ((i.val : ℤ) - 126) : ℝ) : EReal) ≤ a := by
      intro i hi
      rw [Finset.mem_filter] at hi ⊢
      exact ⟨hi.1, le_trans (EReal.coe_le_coe_iff.2 (mono i.val (j - 1) (by omega))) h⟩
    have hc := Finset.card_le_card hsub
    have : (Finset.univ.filter fun i : Fin 252 => i.val < j).card = j := by
      rw [Fin.card_filter_val_lt]; omega
    rw [this] at hc; exact hc
  · intro h
    by_contra hn
    have hsub : (Finset.univ.filter fun i : Fin 252 => (((2 : ℝ) ^ ((i.val : ℤ) - 126) : ℝ) : EReal) ≤ a) ⊆ Finset.univ.filter (fun i : Fin 252 => i.val < j - 1) := by
      intro i hi
      rw [Finset.mem_filter] at hi ⊢
      refine ⟨hi.1, ?_⟩
      by_contra hlt
      exact hn (le_trans (EReal.coe_le_coe_iff.2 (mono (j - 1) i.val (by omega))) hi.2)
    have hc := Finset.card_le_card hsub
    have : (Finset.univ.filter fun i : Fin 252 => i.val < j - 1).card = j - 1 := by
      rw [Fin.card_filter_val_lt]; omega
    rw [this] at hc
    have : N a ≤ j - 1 := hc
    omega

theorem N_le (a : EReal) : N a ≤ 252 := by
  have := Finset.card_le_univ (Finset.univ.filter fun i : Fin 252 => (((2 : ℝ) ^ ((i.val : ℤ) - 126) : ℝ) : EReal) ≤ a)
  simpa [N] using this

theorem field_value (j : ℕ) (h1 : 1 ≤ j) (h2 : j ≤ 254) (b : BitVec 32) (a1 : b.extractLsb' (8 + 23) 1 = 0#1)
    (a2 : (b.extractLsb' 23 8).toNat = j) (a3 : (b.extractLsb' 0 23).toNat = 0) : Ideal.ieee 8 23 b = (((2 : ℝ) ^ ((j : ℤ) - 127) : ℝ) : EReal) := by
  unfold Ideal.ieee
  simp only [a1, a2, a3]
  rw [if_neg (by omega), if_neg (by omega)]
  have e1 : (2 : ℝ) ^ ((j : ℤ) - 127) = (2 : ℝ) ^ (23 : ℕ) * (2 : ℝ) ^ ((j : ℤ) - 150) := by
    rw [← zpow_natCast, ← zpow_add₀ (by norm_num)]; congr 1; push_cast; ring
  have e2 : ((j : ℤ) - (2 ^ (8 - 1) - 1) - ((23 : ℕ) : ℤ)) = (j : ℤ) - 150 := by push_cast; ring
  rw [e2, e1]
  congr 1
  norm_num

/-- The word with exponent field `j` and nothing else is a power of two. -/
theorem ofBits_field (j : ℕ) (h1 : 1 ≤ j) (h2 : j ≤ 254) (b : BitVec 32) (hb : b.toNat = j * 8388608) : Ideal.ofBits .f32 b = (((2 : ℝ) ^ ((j : ℤ) - 127) : ℝ) : EReal) := by
  refine field_value j h1 h2 b ?_ ?_ ?_
  · apply BitVec.eq_of_toNat_eq
    simp only [BitVec.extractLsb'_toNat, Nat.shiftRight_eq_div_pow, hb]
    norm_num
    omega
  · simp only [BitVec.extractLsb'_toNat, Nat.shiftRight_eq_div_pow, hb]
    norm_num
    omega
  · simp only [BitVec.extractLsb'_toNat, Nat.shiftRight_eq_div_pow, hb]
    norm_num

end Cert.Spec

end
-- ==== Proof.Expo.lean ====
module

public import proofs.«01_k».proof.Proof.Spec

@[expose] public section

noncomputable section

namespace Cert.Spec

open Idealize.ShloMosaic

/-! What both references share: reading an array at equal indices, and the exponent they find by counting the
powers of two that are at most a number. -/

theorem at1 {α : Type} {d : Fin 1 → ℕ} (y : (⟨1, d⟩ : Shape).Idx → α) (i j : (⟨1, d⟩ : Shape).Idx) (h0 : (i 0).val = (j 0).val) : y i = y j :=
  congrArg y (funext fun a => match a with
    | 0 => Fin.ext h0)
theorem at2 {α : Type} {d : Fin 2 → ℕ} (y : (⟨2, d⟩ : Shape).Idx → α) (i j : (⟨2, d⟩ : Shape).Idx) (h0 : (i 0).val = (j 0).val) (h1 : (i 1).val = (j 1).val) : y i = y j :=
  congrArg y (funext fun a => match a with
    | 0 => Fin.ext h0
    | 1 => Fin.ext h1)
theorem at3 {α : Type} {d : Fin 3 → ℕ} (y : (⟨3, d⟩ : Shape).Idx → α) (i j : (⟨3, d⟩ : Shape).Idx) (h0 : (i 0).val = (j 0).val) (h1 : (i 1).val = (j 1).val) (h2 : (i 2).val = (j 2).val) : y i = y j :=
  congrArg y (funext fun a => match a with
    | 0 => Fin.ext h0
    | 1 => Fin.ext h1
    | 2 => Fin.ext h2)
theorem at4 {α : Type} {d : Fin 4 → ℕ} (y : (⟨4, d⟩ : Shape).Idx → α) (i j : (⟨4, d⟩ : Shape).Idx) (h0 : (i 0).val = (j 0).val) (h1 : (i 1).val = (j 1).val) (h2 : (i 2).val = (j 2).val)
    (h3 : (i 3).val = (j 3).val) : y i = y j :=
  congrArg y (funext fun a => match a with
    | 0 => Fin.ext h0
    | 1 => Fin.ext h1
    | 2 => Fin.ext h2
    | 3 => Fin.ext h3)
theorem at5 {α : Type} {d : Fin 5 → ℕ} (y : (⟨5, d⟩ : Shape).Idx → α) (i j : (⟨5, d⟩ : Shape).Idx) (h0 : (i 0).val = (j 0).val) (h1 : (i 1).val = (j 1).val) (h2 : (i 2).val = (j 2).val)
    (h3 : (i 3).val = (j 3).val) (h4 : (i 4).val = (j 4).val) : y i = y j :=
  congrArg y (funext fun a => match a with
    | 0 => Fin.ext h0
    | 1 => Fin.ext h1
    | 2 => Fin.ext h2
    | 3 => Fin.ext h3
    | 4 => Fin.ext h4)

theorem ofBits_negInf : Ideal.ofBits .f32 0xFF800000#32 = (⊥ : EReal) := by simp [Ideal.ofBits, Ideal.ieee]
theorem ofBits_two : Ideal.ofBits .f32 0x40000000#32 = ((2 : ℝ) : EReal) := by
  simp [Ideal.ofBits, Ideal.ieee, -EReal.coe_mul, -EReal.coe_neg]; norm_num
theorem ofBits_one : Ideal.ofBits .f32 0x3F800000#32 = ((1 : ℝ) : EReal) := by
  simp [Ideal.ofBits, Ideal.ieee, -EReal.coe_mul, -EReal.coe_neg]; norm_num
theorem ofBits_zero : Ideal.ofBits .f32 0x00000000#32 = ((0 : ℝ) : EReal) := by simp [Ideal.ofBits, Ideal.ieee]
theorem ofBits_126 : Ideal.ofBits .f32 0x42FC0000#32 = ((126 : ℝ) : EReal) := by
  simp [Ideal.ofBits, Ideal.ieee, -EReal.coe_mul, -EReal.coe_neg]; norm_num
theorem ofBits_tiny : Ideal.ofBits .f32 0x00800000#32 = (((2 : ℝ) ^ (((1 : ℕ) : ℤ) - 127) : ℝ) : EReal) :=
  ofBits_field 1 (by norm_num) (by norm_num) _ rfl

theorem pow_two (e : ℤ) : Ideal.pow ((2 : ℝ) : EReal) (((e : ℤ) : ℝ) : EReal) = (((2 : ℝ) ^ e : ℝ) : EReal) :=
  congrArg (fun r : ℝ => (r : EReal)) (Real.rpow_intCast 2 e)

/-- A choice by a comparison. -/
theorem sel_le {α : Type} (a b : EReal) (u v : α) : Scalar.select (FloatOps.cmpf (F := Ideal) (φ := .f32) CmpFPredicate.ole a b) u v = if a ≤ b then u else v := by
  show (if Ideal.cmp .ole a b = 1#1 then u else v) = _
  unfold Ideal.cmp
  by_cases h : a ≤ b <;> simp [h]
theorem sel_lt {α : Type} (a b : EReal) (u v : α) : Scalar.select (FloatOps.cmpf (F := Ideal) (φ := .f32) CmpFPredicate.olt a b) u v = if a < b then u else v := by
  show (if Ideal.cmp .olt a b = 1#1 then u else v) = _
  unfold Ideal.cmp
  by_cases h : a < b <;> simp [h]

/-- The exponent of two in the scale. -/
def expo (a : EReal) : ℤ := if N a = 0 then 0 else (N a : ℤ) - 126

/-- The `k`-th power's exponent, from its word. -/
theorem word_toInt (k : Fin 252) : (IntOp.addi 4294967170#32 (BitVec.ofNat 32 k.val)).toInt = (k.val : ℤ) - 126 := by
  revert k
  decide +kernel

/-- A comparison as the number one or zero. -/
theorem flag_eq (a b : EReal) : Scalar.select (FloatOps.cmpf (F := Ideal) (φ := .f32) CmpFPredicate.ole a b) (FloatOps.ofBits (F := Ideal) .f32 0x3F800000#32) (FloatOps.ofBits (F := Ideal) .f32 0x00000000#32)
    = ((if a ≤ b then (1 : ℝ) else 0 : ℝ) : EReal) := by
  refine (sel_le _ _ _ _).trans ?_
  rw [apply_ite (fun r : ℝ => (r : EReal)), show FloatOps.ofBits (F := Ideal) .f32 0x3F800000#32 = _ from ofBits_one, show FloatOps.ofBits (F := Ideal) .f32 0x00000000#32 = _ from ofBits_zero]

/-- The sum of the flags is the count. -/
theorem count_eq (a : EReal) :
    Ideal.ofBits .f32 0x00000000#32 + ∑ k : Fin 252, ((if (((2 : ℝ) ^ ((k.val : ℤ) - 126) : ℝ) : EReal) ≤ a then (1 : ℝ) else 0 : ℝ) : EReal) = ((N a : ℝ) : EReal) := by
  rw [coe_sum]
  refine (congrArg (· + _) ofBits_zero).trans ?_
  rw [← EReal.coe_add, zero_add, Finset.sum_boole]
  rfl

/-- The exponent, chosen from the count. -/
theorem expo_eq (a : EReal) : Scalar.select (FloatOps.cmpf (F := Ideal) (φ := .f32) CmpFPredicate.olt a (Ideal.ofBits .f32 0x00800000#32)) (Ideal.ofBits .f32 0x00000000#32)
    (((N a : ℝ) : EReal) - Ideal.ofBits .f32 0x42FC0000#32) = ((expo a : ℝ) : EReal) := by
  refine (sel_lt _ _ _ _).trans ?_
  have ht : (a < Ideal.ofBits .f32 0x00800000#32) ↔ N a = 0 := by
    rw [ofBits_tiny, ← not_le, pow_le_iff _ 1 le_rfl (by norm_num)]
    omega
  unfold expo
  by_cases h : N a = 0
  · rw [if_pos (ht.2 h), if_pos h]
    exact ofBits_zero.trans (by rw [Int.cast_zero])
  · rw [if_neg (fun h' => h (ht.1 h')), if_neg h, ofBits_126, ← EReal.coe_sub]
    push_cast
    rfl

/-- The scale and its inverse, as powers of two. -/
theorem pow_expo (a : EReal) : Ideal.pow (Ideal.ofBits .f32 0x40000000#32) ((expo a : ℝ) : EReal) = ((scl a : ℝ) : EReal) := by
  rw [ofBits_two, pow_two]
  unfold expo scl
  split_ifs with h
  · rw [zpow_zero]
  · rfl
theorem pow_neg_expo (a : EReal) : Ideal.pow (Ideal.ofBits .f32 0x40000000#32) (-((expo a : ℝ) : EReal)) = ((inv a : ℝ) : EReal) := by
  rw [ofBits_two, ← EReal.coe_neg, ← Int.cast_neg, pow_two]
  unfold expo inv
  split_ifs with h
  · rw [neg_zero, zpow_zero]
  · rw [neg_sub]

/-- The codes and the scales of an array's rows. -/
def codesAll {n : ℕ} (X : (⟨3, ![3, n, 3584]⟩ : Shape).Idx → EReal) (y : (⟨3, ![3, n, 3584]⟩ : Shape).Idx) : EReal := code (fun d => X (ix3 (y 0) (y 1) d)) (y 2)
def scalesAll {n : ℕ} (X : (⟨3, ![3, n, 3584]⟩ : Shape).Idx → EReal) (y : (⟨2, ![3, n]⟩ : Shape).Idx) : EReal := ((scl (mag fun d => X (ix3 (y 0) (y 1) d)) : ℝ) : EReal)

end Cert.Spec

end
-- ==== Proof.KI.Sem.lean ====
module

public import proofs.«01_k».proof.Proof.KI.Stage
public import proofs.«01_k».proof.Proof.Expo
public import Idealize.ShloMosaic.Lib.Pointwise

@[expose] public section

set_option maxRecDepth 16384

noncomputable section

namespace Cert.KernelIdeal.Hand

open Cert.KernelIdeal Cert.KernelIdeal.Gen
open Idealize.ShloMosaic

/-! What the steps of one chunk are at the extended reals, index by index. -/

abbrev V128 := FVec Ideal S160x128 .f32

/-- A vector all of whose entries are real. -/
def IsReal (x : V128) : Prop := ∃ xr : S160x128.Idx → ℝ, ∀ j, x j = ((xr j : ℝ) : EReal)

theorem ofBits_zero16 : Ideal.ofBits .bf16 0x0000#16 = (0 : EReal) := by simp [Ideal.ofBits, Ideal.ieee]

theorem hiOf_eq (x : V128) (j : S160x128.Idx) : hiOf x j = x j := rfl

/-- The rest after the leading part is zero where the value is real. -/
theorem restOf_eq (x : V128) (hx : IsReal x) (j : S160x128.Idx) : restOf x j = 0 := by
  obtain ⟨xr, hx⟩ := hx
  show x j - x j = 0
  rw [hx, ← EReal.coe_sub, sub_self]; rfl

theorem midOf_eq (x : V128) (hx : IsReal x) : midOf x = fun _ => 0 := funext fun j => restOf_eq x hx j

theorem loOf_eq (x : V128) (hx : IsReal x) : loOf x = fun _ => 0 := funext fun j => by
  show restOf x j - restOf x j = 0
  rw [restOf_eq x hx]; simp

theorem mNew_eq (K : Vec Ideal S160x128 .f32) (M : Vec Ideal S1x1x160x128 .f32) (l : Fin 160) (t : Fin 128) :
    mNew K M (ix2 l t) = max (M (ix4 0 0 l t)) (Finset.univ.sup fun s : Fin 128 => K (ix2 l s)) := by
  pointwise [mNew]
  rw [Spec.ofBits_negInf]; rfl

theorem amaxOf_eq (V : Vec Ideal S64x128 .f32) (t : Fin 128) :
    amaxOf V (ix2 0 t) = (Finset.univ.sup fun s : Fin 64 => max (V (ix2 s t)) (-V (ix2 s t))) * Ideal.ofBits .f32 0x3B124925#32 := by
  pointwise [amaxOf]
  rw [Spec.ofBits_negInf]; rfl

theorem zu_lo (triu zcc vh : FVec Ideal S128x128 .bf16) (e : V128) (he : IsReal e) (l : Fin 160) (t : Fin 128) :
    loHalf (zuOf triu zcc vh e) (ix2 l t) = ∑ s : Fin 128, e (ix2 l s) * triu (ix2 s t) := by
  pointwise [loHalf, zuOf]
  simp only [midOf_eq e he, hiOf_eq, zero_mul, Finset.sum_const_zero, add_zero]

theorem zu_hi (triu zcc vh : FVec Ideal S128x128 .bf16) (e : V128) (he : IsReal e) (l : Fin 160) (t : Fin 128) :
    uOf (zuOf triu zcc vh e) (ix2 l t) = ∑ s : Fin 128, e (ix2 l s) * vh (ix2 s t) := by
  pointwise [uOf, zuOf]
  simp only [midOf_eq e he, hiOf_eq, zero_mul, Finset.sum_const_zero, add_zero]

theorem zc_eq (triu zcc : FVec Ideal S128x128 .bf16) (e0 e1 : V128) (h0 : IsReal e0) (h1 : IsReal e1) (l : Fin 160) (t : Fin 256) :
    zcOf triu zcc e0 e1 (ix2 l t) = 0 := by
  unfold zcOf
  rw [loOf_eq e0 h0, loOf_eq e1 h1]
  pointwise
  simp only [zero_mul, Finset.sum_const_zero, add_zero]

theorem peOf_eq (Q : Vec Ideal S160x128 .f32) (l : Fin 160) (t : Fin 128) :
    peOf Q (ix2 l t) = Ideal.exp (Q (ix2 l t) - Finset.univ.sup fun s : Fin 160 => Q (ix2 s t)) := by
  pointwise [peOf]
  rw [Spec.ofBits_negInf]; rfl

theorem rOf_eq (Q : Vec Ideal S160x128 .f32) (den : V128) (l : Fin 160) (t : Fin 128) :
    rOf Q den (ix2 l t) = peOf Q (ix2 l t) * Ideal.div 1 (∑ s : Fin 160, peOf Q (ix2 s t)) * Ideal.div 1 (den (ix2 l t)) := by
  pointwise [rOf]

theorem lcat (x1 x2 x3 x4 x5 x6 : FVec Ideal S128x128 .bf16) (x7 : FVec Ideal S128x256 .bf16) (t : Fin 128) (k : Fin 1024) :
    concatenate S128x1024 1 [⟨S128x128, x1⟩, ⟨S128x128, x2⟩, ⟨S128x128, x3⟩, ⟨S128x128, x4⟩, ⟨S128x128, x5⟩, ⟨S128x128, x6⟩, ⟨S128x256, x7⟩] concatenates_S128x128_S128x128_S128x128_S128x128_S128x128_S128x128_S128x256_S128x1024_d1 (ix2 t k)
    = if h : k.val < 128 then x1 (ix2 t ⟨k, h⟩) else if h : k.val < 256 then x2 (ix2 t ⟨k - 128, by omega⟩) else if h : k.val < 384 then x3 (ix2 t ⟨k - 256, by omega⟩)
     else if h : k.val < 512 then x4 (ix2 t ⟨k - 384, by omega⟩) else if h : k.val < 640 then x5 (ix2 t ⟨k - 512, by omega⟩) else if h : k.val < 768 then x6 (ix2 t ⟨k - 640, by omega⟩)
     else x7 (ix2 t ⟨k - 768, by omega⟩) := by
  pointwise
  simp only [Nat.sub_sub, Nat.reduceAdd]
  by_cases h0 : k.val < 128
  · rw [dif_pos (show k.val < 128 by omega), dif_pos h0]
  rw [dif_neg (show ¬ k.val < 128 by omega), dif_neg h0]
  by_cases h128 : k.val < 256
  · rw [dif_pos (show k.val - 128 < 128 by omega), dif_pos h128]
  rw [dif_neg (show ¬ k.val - 128 < 128 by omega), dif_neg h128]
  by_cases h256 : k.val < 384
  · rw [dif_pos (show k.val - 256 < 128 by omega), dif_pos h256]
  rw [dif_neg (show ¬ k.val - 256 < 128 by omega), dif_neg h256]
  by_cases h384 : k.val < 512
  · rw [dif_pos (show k.val - 384 < 128 by omega), dif_pos h384]
  rw [dif_neg (show ¬ k.val - 384 < 128 by omega), dif_neg h384]
  by_cases h512 : k.val < 640
  · rw [dif_pos (show k.val - 512 < 128 by omega), dif_pos h512]
  rw [dif_neg (show ¬ k.val - 512 < 128 by omega), dif_neg h512]
  by_cases h640 : k.val < 768
  · rw [dif_pos (show k.val - 640 < 128 by omega), dif_pos h640]
  rw [dif_neg (show ¬ k.val - 640 < 128 by omega), dif_neg h640]

theorem tcat (x1 x2 x3 x4 x5 x6 : FVec Ideal S32x128 .bf16) (x7 : FVec Ideal S64x128 .bf16) (t : Fin 128) (k : Fin 256) :
    transpose S128x256 [1, 0] (concatenate S256x128 0 [⟨S32x128, x1⟩, ⟨S32x128, x2⟩, ⟨S32x128, x3⟩, ⟨S32x128, x4⟩, ⟨S32x128, x5⟩, ⟨S32x128, x6⟩, ⟨S64x128, x7⟩] concatenates_S32x128_S32x128_S32x128_S32x128_S32x128_S32x128_S64x128_S256x128_d0) transposes_S256x128_p1_0_S128x256 (ix2 t k)
    = if h : k.val < 32 then x1 (ix2 ⟨k, h⟩ t) else if h : k.val < 64 then x2 (ix2 ⟨k - 32, by omega⟩ t) else if h : k.val < 96 then x3 (ix2 ⟨k - 64, by omega⟩ t)
     else if h : k.val < 128 then x4 (ix2 ⟨k - 96, by omega⟩ t) else if h : k.val < 160 then x5 (ix2 ⟨k - 128, by omega⟩ t) else if h : k.val < 192 then x6 (ix2 ⟨k - 160, by omega⟩ t)
     else x7 (ix2 ⟨k - 192, by omega⟩ t) := by
  pointwise
  simp only [Nat.sub_sub, Nat.reduceAdd]
  by_cases h0 : k.val < 32
  · rw [dif_pos (show k.val < 32 by omega), dif_pos h0]
  rw [dif_neg (show ¬ k.val < 32 by omega), dif_neg h0]
  by_cases h32 : k.val < 64
  · rw [dif_pos (show k.val - 32 < 32 by omega), dif_pos h32]
  rw [dif_neg (show ¬ k.val - 32 < 32 by omega), dif_neg h32]
  by_cases h64 : k.val < 96
  · rw [dif_pos (show k.val - 64 < 32 by omega), dif_pos h64]
  rw [dif_neg (show ¬ k.val - 64 < 32 by omega), dif_neg h64]
  by_cases h96 : k.val < 128
  · rw [dif_pos (show k.val - 96 < 32 by omega), dif_pos h96]
  rw [dif_neg (show ¬ k.val - 96 < 32 by omega), dif_neg h96]
  by_cases h128 : k.val < 160
  · rw [dif_pos (show k.val - 128 < 32 by omega), dif_pos h128]
  rw [dif_neg (show ¬ k.val - 128 < 32 by omega), dif_neg h128]
  by_cases h160 : k.val < 192
  · rw [dif_pos (show k.val - 160 < 32 by omega), dif_pos h160]
  rw [dif_neg (show ¬ k.val - 160 < 32 by omega), dif_neg h160]

theorem cat0 (xs : List ((s : Shape) × (s.Idx → EReal))) (h : Shape.Concatenates (xs.map (·.1)) S1024x256 0) (k : Fin 1024) (t : Fin 256)
    (p : ℕ) (hp : p < xs.length) (w : ℕ) (x : (⟨2, ![w, 256]⟩ : Shape).Idx → EReal) (hx : xs[p] = ⟨⟨2, ![w, 256]⟩, x⟩) (pre : ℕ)
    (hpre : (((xs.take p).map (·.1)).map fun s : Shape => if h : s.rank = 2 then s.size ((0 : Fin 2).cast h.symm) else 0).sum = pre)
    (i : Fin w) (hi : pre + i.val = k.val) : concatenate S1024x256 0 xs h (ix2 k t) = x (ix2 i t) := by
  refine concatenate_apply_piece (t := S1024x256) 0 xs h (ix2 k t) p hp ⟨2, ![w, 256]⟩ x hx rfl pre hpre (ix2 i t) ?_ hi
  intro b hb
  match b with
  | 0 => exact absurd rfl hb
  | 1 => rfl

theorem rcat (x1 x2 x3 x4 x5 x6 : FVec Ideal S128x256 .bf16) (w1 w2 w3 w4 w5 w6 : FVec Ideal S32x256 .bf16) (w7 : FVec Ideal S64x256 .bf16) (t : Fin 256) (k : Fin 1024) :
    concatenate S1024x256 0 [⟨S128x256, x1⟩, ⟨S128x256, x2⟩, ⟨S128x256, x3⟩, ⟨S128x256, x4⟩, ⟨S128x256, x5⟩, ⟨S128x256, x6⟩, ⟨S32x256, w1⟩, ⟨S32x256, w2⟩, ⟨S32x256, w3⟩, ⟨S32x256, w4⟩, ⟨S32x256, w5⟩, ⟨S32x256, w6⟩, ⟨S64x256, w7⟩]
     concatenates_S128x256_S128x256_S128x256_S128x256_S128x256_S128x256_S32x256_S32x256_S32x256_S32x256_S32x256_S32x256_S64x256_S1024x256_d0 (ix2 k t)
    = if h : k.val < 128 then x1 (ix2 ⟨k, h⟩ t) else if h : k.val < 256 then x2 (ix2 ⟨k - 128, by omega⟩ t) else if h : k.val < 384 then x3 (ix2 ⟨k - 256, by omega⟩ t)
     else if h : k.val < 512 then x4 (ix2 ⟨k - 384, by omega⟩ t) else if h : k.val < 640 then x5 (ix2 ⟨k - 512, by omega⟩ t) else if h : k.val < 768 then x6 (ix2 ⟨k - 640, by omega⟩ t)
     else if h : k.val < 800 then w1 (ix2 ⟨k - 768, by omega⟩ t) else if h : k.val < 832 then w2 (ix2 ⟨k - 800, by omega⟩ t) else if h : k.val < 864 then w3 (ix2 ⟨k - 832, by omega⟩ t)
     else if h : k.val < 896 then w4 (ix2 ⟨k - 864, by omega⟩ t) else if h : k.val < 928 then w5 (ix2 ⟨k - 896, by omega⟩ t) else if h : k.val < 960 then w6 (ix2 ⟨k - 928, by omega⟩ t)
     else w7 (ix2 ⟨k - 960, by omega⟩ t) := by
  by_cases h0 : k.val < 128
  · rw [dif_pos h0]
    exact cat0 _ _ k t 0 (by simp) 128 x1 rfl 0 rfl ⟨k.val - 0, by omega⟩ (by simp only []; omega)
  rw [dif_neg h0]
  by_cases h128 : k.val < 256
  · rw [dif_pos h128]
    exact cat0 _ _ k t 1 (by simp) 128 x2 rfl 128 rfl ⟨k.val - 128, by omega⟩ (by simp only []; omega)
  rw [dif_neg h128]
  by_cases h256 : k.val < 384
  · rw [dif_pos h256]
    exact cat0 _ _ k t 2 (by simp) 128 x3 rfl 256 rfl ⟨k.val - 256, by omega⟩ (by simp only []; omega)
  rw [dif_neg h256]
  by_cases h384 : k.val < 512
  · rw [dif_pos h384]
    exact cat0 _ _ k t 3 (by simp) 128 x4 rfl 384 rfl ⟨k.val - 384, by omega⟩ (by simp only []; omega)
  rw [dif_neg h384]
  by_cases h512 : k.val < 640
  · rw [dif_pos h512]
    exact cat0 _ _ k t 4 (by simp) 128 x5 rfl 512 rfl ⟨k.val - 512, by omega⟩ (by simp only []; omega)
  rw [dif_neg h512]
  by_cases h640 : k.val < 768
  · rw [dif_pos h640]
    exact cat0 _ _ k t 5 (by simp) 128 x6 rfl 640 rfl ⟨k.val - 640, by omega⟩ (by simp only []; omega)
  rw [dif_neg h640]
  by_cases h768 : k.val < 800
  · rw [dif_pos h768]
    exact cat0 _ _ k t 6 (by simp) 32 w1 rfl 768 rfl ⟨k.val - 768, by omega⟩ (by simp only []; omega)
  rw [dif_neg h768]
  by_cases h800 : k.val < 832
  · rw [dif_pos h800]
    exact cat0 _ _ k t 7 (by simp) 32 w2 rfl 800 rfl ⟨k.val - 800, by omega⟩ (by simp only []; omega)
  rw [dif_neg h800]
  by_cases h832 : k.val < 864
  · rw [dif_pos h832]
    exact cat0 _ _ k t 8 (by simp) 32 w3 rfl 832 rfl ⟨k.val - 832, by omega⟩ (by simp only []; omega)
  rw [dif_neg h832]
  by_cases h864 : k.val < 896
  · rw [dif_pos h864]
    exact cat0 _ _ k t 9 (by simp) 32 w4 rfl 864 rfl ⟨k.val - 864, by omega⟩ (by simp only []; omega)
  rw [dif_neg h864]
  by_cases h896 : k.val < 928
  · rw [dif_pos h896]
    exact cat0 _ _ k t 10 (by simp) 32 w5 rfl 896 rfl ⟨k.val - 896, by omega⟩ (by simp only []; omega)
  rw [dif_neg h896]
  by_cases h928 : k.val < 960
  · rw [dif_pos h928]
    exact cat0 _ _ k t 11 (by simp) 32 w6 rfl 928 rfl ⟨k.val - 928, by omega⟩ (by simp only []; omega)
  rw [dif_neg h928]
  exact cat0 _ _ k t 12 (by simp) 64 w7 rfl 960 rfl ⟨k.val - 960, by omega⟩ (by simp only []; omega)

theorem beside_zero : besideOf (F := Ideal) (fun _ => (0 : EReal)) (fun _ => (0 : EReal)) = fun _ => (0 : EReal) := by
  funext j
  idx_vars j
  pointwise [besideOf]
  split_ifs <;> rfl

theorem topT_eq (x : FVec Ideal S160x128 .bf16) (t k : Fin 128) : topT x (ix2 t k) = x (ix2 ⟨k, by omega⟩ t) := by
  pointwise [topT]

theorem tail_eq (x : FVec Ideal S160x128 .bf16) (t : Fin 128) (k : Fin 32) : tail x (ix2 k t) = x (ix2 ⟨128 + k, by omega⟩ t) := by
  pointwise [tail]

theorem pay2_eq (j : S64x128.Idx) : k0_pay2 (F := Ideal) j = 0 := by
  pointwise [k0_pay2]

/-- The two sides of the attention product, where the second and third parts vanish. -/
theorem lhs_read (r : V128) (hr : IsReal r) (t : Fin 128) (k : Fin 1024) :
    lhsOf r (ix2 t k) = if h : k.val < 128 then r (ix2 ⟨k, by omega⟩ t) else if h : k.val < 256 then r (ix2 ⟨k - 128, by omega⟩ t) else if h : k.val < 512 then 0
      else if h : k.val < 640 then r (ix2 ⟨k - 512, by omega⟩ t) else if h : k.val < 768 then 0
      else if h : k.val < 800 then r (ix2 ⟨128 + (k - 768), by omega⟩ t) else if h : k.val < 832 then r (ix2 ⟨128 + (k - 800), by omega⟩ t)
      else if h : k.val < 864 then 0 else if h : k.val < 896 then r (ix2 ⟨128 + (k - 864), by omega⟩ t) else 0 := by
  unfold lhsOf
  rw [midOf_eq r hr, loOf_eq r hr, lcat]
  by_cases h0 : k.val < 128
  · rw [dif_pos h0, dif_pos h0, topT_eq]; rfl
  rw [dif_neg h0, dif_neg h0]
  by_cases h1 : k.val < 256
  · rw [dif_pos h1, dif_pos h1, topT_eq]; rfl
  rw [dif_neg h1, dif_neg h1]
  by_cases h2 : k.val < 384
  · rw [dif_pos h2, dif_pos (show k.val < 512 by omega)]; rfl
  rw [dif_neg h2]
  by_cases h3 : k.val < 512
  · rw [dif_pos h3, dif_pos h3]; rfl
  rw [dif_neg h3, dif_neg h3]
  by_cases h4 : k.val < 640
  · rw [dif_pos h4, dif_pos h4, topT_eq]; rfl
  rw [dif_neg h4, dif_neg h4]
  by_cases h5 : k.val < 768
  · rw [dif_pos h5, dif_pos h5]; rfl
  rw [dif_neg h5, dif_neg h5, tcat]
  by_cases h6 : k.val < 800
  · rw [dif_pos (show k.val - 768 < 32 by omega), dif_pos h6, tail_eq]; rfl
  rw [dif_neg (show ¬ k.val - 768 < 32 by omega), dif_neg h6]
  by_cases h7 : k.val < 832
  · rw [dif_pos (show k.val - 768 < 64 by omega), dif_pos h7, tail_eq, hiOf_eq]
    exact congrArg (fun z => r (ix2 z t)) (Fin.ext (show 128 + (k.val - 768 - 32) = 128 + (k.val - 800) by omega))
  rw [dif_neg (show ¬ k.val - 768 < 64 by omega), dif_neg h7]
  by_cases h8 : k.val < 864
  · rw [dif_pos (show k.val - 768 < 96 by omega), dif_pos h8]; rfl
  rw [dif_neg (show ¬ k.val - 768 < 96 by omega), dif_neg h8]
  by_cases h9 : k.val < 896
  · rw [dif_pos (show k.val - 768 < 128 by omega), dif_pos h9, tail_eq, hiOf_eq]
    exact congrArg (fun z => r (ix2 z t)) (Fin.ext (show 128 + (k.val - 768 - 96) = 128 + (k.val - 864) by omega))
  rw [dif_neg (show ¬ k.val - 768 < 128 by omega), dif_neg h9]
  by_cases ha : k.val < 928
  · rw [dif_pos (show k.val - 768 < 160 by omega)]; rfl
  rw [dif_neg (show ¬ k.val - 768 < 160 by omega)]
  by_cases hb : k.val < 960
  · rw [dif_pos (show k.val - 768 < 192 by omega)]; rfl
  rw [dif_neg (show ¬ k.val - 768 < 192 by omega), pay2_eq]

theorem rhs_zero (e sd : V128) (he : IsReal e) (hs : IsReal sd) (t : Fin 256) (k : Fin 1024)
    (hk : 128 ≤ k.val ∧ k.val < 256 ∨ 512 ≤ k.val ∧ k.val < 640 ∨ 800 ≤ k.val ∧ k.val < 832 ∨ 864 ≤ k.val ∧ k.val < 896) : rhsOf e sd (ix2 k t) = 0 := by
  unfold rhsOf
  rw [midOf_eq e he, loOf_eq e he, midOf_eq sd hs, loOf_eq sd hs, beside_zero, rcat]
  rcases hk with h | h | h | h
  · rw [dif_neg (show ¬ k.val < 128 by omega), dif_pos (show k.val < 256 by omega)]; rfl
  · rw [dif_neg (show ¬ k.val < 128 by omega), dif_neg (show ¬ k.val < 256 by omega), dif_neg (show ¬ k.val < 384 by omega), dif_neg (show ¬ k.val < 512 by omega), dif_pos (show k.val < 640 by omega)]; rfl
  · rw [dif_neg (show ¬ k.val < 128 by omega), dif_neg (show ¬ k.val < 256 by omega), dif_neg (show ¬ k.val < 384 by omega), dif_neg (show ¬ k.val < 512 by omega), dif_neg (show ¬ k.val < 640 by omega), dif_neg (show ¬ k.val < 768 by omega), dif_neg (show ¬ k.val < 800 by omega), dif_pos (show k.val < 832 by omega)]; rfl
  · rw [dif_neg (show ¬ k.val < 128 by omega), dif_neg (show ¬ k.val < 256 by omega), dif_neg (show ¬ k.val < 384 by omega), dif_neg (show ¬ k.val < 512 by omega), dif_neg (show ¬ k.val < 640 by omega), dif_neg (show ¬ k.val < 768 by omega), dif_neg (show ¬ k.val < 800 by omega), dif_neg (show ¬ k.val < 832 by omega), dif_neg (show ¬ k.val < 864 by omega), dif_pos (show k.val < 896 by omega)]; rfl

theorem rhs_top (e sd : V128) (t : Fin 256) (k : Fin 1024) (hk : k.val < 128) :
    rhsOf e sd (ix2 k t) = besideOf (hiOf e) (hiOf sd) (ix2 ⟨k, by omega⟩ t) := by
  unfold rhsOf
  rw [rcat, dif_pos hk]
  pointwise [top2]

theorem rhs_tail (e sd : V128) (t : Fin 256) (k : Fin 1024) (hk : 768 ≤ k.val) (hk' : k.val < 800) :
    rhsOf e sd (ix2 k t) = besideOf (hiOf e) (hiOf sd) (ix2 ⟨128 + (k - 768), by omega⟩ t) := by
  unfold rhsOf
  rw [rcat, dif_neg (by omega), dif_neg (by omega), dif_neg (by omega), dif_neg (by omega), dif_neg (by omega), dif_neg (by omega), dif_pos hk']
  pointwise [tail2]

/-- A sum over 1024 places of which only the first 128 and the 32 from 768 on count. -/
theorem sum_1024 (f : Fin 1024 → EReal) (g : Fin 160 → EReal)
    (h1 : ∀ k : Fin 1024, (hk : k.val < 128) → f k = g ⟨k, by omega⟩)
    (h2 : ∀ k : Fin 1024, (hk : 768 ≤ k.val) → (hk' : k.val < 800) → f k = g ⟨128 + (k - 768), by omega⟩)
    (h0 : ∀ k : Fin 1024, 128 ≤ k.val → (k.val < 768 ∨ 800 ≤ k.val) → f k = 0) : ∑ k, f k = ∑ l, g l := by
  symm
  refine Finset.sum_of_injOn (fun l : Fin 160 => if l.val < 128 then (⟨l, by omega⟩ : Fin 1024) else ⟨l.val + 640, by omega⟩) ?_ (fun _ _ => Finset.mem_coe.2 (Finset.mem_univ _)) ?_ ?_
  · intro a _ b _ hab
    ext
    by_cases ha : a.val < 128 <;> by_cases hb : b.val < 128 <;> simp [ha, hb] at hab <;> omega
  · intro k _ hk
    apply h0
    · by_contra hlt
      exact hk ⟨⟨k, by omega⟩, Finset.mem_coe.2 (Finset.mem_univ _), by simp [show k.val < 128 by omega]⟩
    · by_contra hlt
      exact hk ⟨⟨k - 640, by omega⟩, Finset.mem_coe.2 (Finset.mem_univ _), by
        have : ¬ (k.val - 640 < 128) := by omega
        simp only [this, if_false]; ext; simp; omega⟩
  · intro l _
    by_cases hl : l.val < 128
    · simp only [hl, if_true]; rw [h1 _ hl]
    · simp only [hl, if_false]; rw [h2 _ (by simp; omega) (by simp; omega)]
      congr 1; ext; simp; omega

theorem aiOf_eq (r e sd : V128) (hr : IsReal r) (he : IsReal e) (hs : IsReal sd) (t : Fin 128) (j : Fin 256) :
    aiOf r e sd (ix2 t j) = ∑ l : Fin 160, r (ix2 l t) * besideOf (hiOf e) (hiOf sd) (ix2 l j) := by
  pointwise [aiOf]
  refine sum_1024 _ _ ?_ ?_ ?_
  · intro k hk
    rw [lhs_read r hr, rhs_top e sd _ _ hk, dif_pos hk]
  · intro k hk hk'
    rw [lhs_read r hr, rhs_tail e sd _ _ hk hk', dif_neg (by omega), dif_neg (by omega), dif_neg (by omega), dif_neg (by omega), dif_neg (by omega), dif_pos hk']
  · intro k hk hk'
    by_cases hz : 128 ≤ k.val ∧ k.val < 256 ∨ 512 ≤ k.val ∧ k.val < 640 ∨ 800 ≤ k.val ∧ k.val < 832 ∨ 864 ≤ k.val ∧ k.val < 896
    · rw [rhs_zero e sd he hs _ _ hz, mul_zero]
    · have : lhsOf r (ix2 t k) = 0 := by
        rw [lhs_read r hr]
        split_ifs <;> first | rfl | omega
      rw [this, zero_mul]

theorem ai_lo (r e sd : V128) (hr : IsReal r) (he : IsReal e) (hs : IsReal sd) (t s : Fin 128) :
    extractStridedSlice S128x128 ![0, 0] (aiOf r e sd) slices_S128x256_o0_0_S128x128 (ix2 t s) = ∑ l : Fin 160, r (ix2 l t) * e (ix2 l s) := by
  pointwise
  rw [aiOf_eq r e sd hr he hs]
  pointwise [besideOf]
  simp only [s.isLt, dite_true, hiOf_eq]

theorem yiOf_eq (r e sd : V128) (hr : IsReal r) (he : IsReal e) (hs : IsReal sd) (t s : Fin 128) :
    yiOf (aiOf r e sd) (ix2 t s) = ∑ l : Fin 160, r (ix2 l t) * sd (ix2 l s) := by
  pointwise [yiOf]
  rw [aiOf_eq r e sd hr he hs]
  pointwise [besideOf]
  rfl

theorem sdOf_eq (fh : IVec S128x128 1) (d0 d1 : V128) (ST : Vec Ideal S1x160x128 .f32) (l : Fin 160) (t : Fin 128) :
    sdOf fh d0 d1 ST (ix2 l t) = ST (ix3 0 l t) * Scalar.select (fh (ix2 0 t)) (d0 (ix2 l t)) (d1 (ix2 l t)) := by
  pointwise [sdOf]

theorem ymOf_eq (fh : IVec S128x128 1) (ai0 ai1 : FVec Ideal S128x256 .f32) (a0 a1 vh0 vh1 : FVec Ideal S128x128 .bf16) (t j : Fin 128) :
    ymOf fh ai0 ai1 a0 a1 vh0 vh1 (ix2 t j) = Scalar.select (fh (ix2 t j)) (yiOf ai0 (ix2 t j)) (yiOf ai1 (ix2 t j))
      + ((∑ s : Fin 128, a0 (ix2 t s) * vh0 (ix2 s j)) + ∑ s : Fin 128, a1 (ix2 t s) * vh1 (ix2 s j)) := by
  pointwise [ymOf]

theorem vtOf_eq (V0 V1 : Vec Ideal S64x128 .f32) (t j : Fin 128) :
    vtOf V0 V1 (ix2 t j) = if h : j.val < 64 then deqOf V0 (ix2 ⟨j, h⟩ t) else deqOf V1 (ix2 ⟨j - 64, by omega⟩ t) := by
  pointwise [vtOf]

theorem vh0Of_eq (fh : IVec S128x128 1) (V0 V1 : Vec Ideal S64x128 .f32) (t j : Fin 128) :
    vh0Of fh V0 V1 (ix2 t j) = Scalar.select (fh (ix2 t j)) (vtOf V0 V1 (ix2 t j)) 0 := by
  pointwise [vh0Of]

theorem vh1Of_eq (fh : IVec S128x128 1) (V0 V1 : Vec Ideal S64x128 .f32) (t j : Fin 128) :
    vh1Of fh V0 V1 (ix2 t j) = Scalar.select (fh (ix2 t j)) 0 (vtOf V0 V1 (ix2 t j)) := by
  pointwise [vh1Of]

theorem deqOf_eq (V : Vec Ideal S64x128 .f32) (t : Fin 128) (d : Fin 64) :
    deqOf V (ix2 d t) = codesOf V (ix2 d t) * scaleOf (F := Ideal) (fieldOf (amaxOf V)) (ix2 0 t) := by
  pointwise [deqOf]

theorem codesOf_eq (V : Vec Ideal S64x128 .f32) (t : Fin 128) (d : Fin 64) :
    codesOf V (ix2 d t) = min (Ideal.ofBits .f32 0x43E00000#32) (max (Ideal.ofBits .f32 0xC3E00000#32) (V (ix2 d t) * invOf (F := Ideal) (fieldOf (amaxOf V)) (ix2 0 t))) := by
  pointwise [codesOf]

theorem denOf_eq (Z : Vec Ideal S1x1x160x128 .f32) (d : V128) (zu : FVec Ideal S160x256 .f32) (zl : V128) (l : Fin 160) (t : Fin 128) :
    denOf Z d zu zl (ix2 l t) = Z (ix4 0 0 l t) * d (ix2 l t) + (loHalf zu (ix2 l t) + zl (ix2 l t)) := by
  pointwise [denOf]

theorem zOf_eq (den : V128) (l : Fin 160) (t : Fin 128) : zOf den (ix4 0 0 l t) = den (ix2 l ⟨127, by omega⟩) := by
  pointwise [zOf]

theorem mOf_eq (K : Vec Ideal S160x128 .f32) (M : Vec Ideal S1x1x160x128 .f32) (l : Fin 160) (t : Fin 128) : mOf K M (ix4 0 0 l t) = mNew K M (ix2 l t) := by
  pointwise [mOf]

theorem decOf_eq (K : Vec Ideal S160x128 .f32) (M : Vec Ideal S1x1x160x128 .f32) (l : Fin 160) (t : Fin 128) :
    decOf K M (ix2 l t) = Ideal.exp (M (ix4 0 0 l t) - mNew K M (ix2 l t)) := by
  pointwise [decOf]

theorem eOf_eq (K : Vec Ideal S160x128 .f32) (M : Vec Ideal S1x1x160x128 .f32) (l : Fin 160) (t : Fin 128) :
    eOf K M (ix2 l t) = Ideal.exp (K (ix2 l t) - mNew K M (ix2 l t)) := by
  pointwise [eOf]

theorem vcOf_eq (V : Vec Ideal S64x128 .f32) (d : Fin 64) (t : Fin 128) : vcOf V (ix4 0 0 d t) = codesOf V (ix2 d t) := by
  pointwise [vcOf]

theorem vsOf_eq (row8 : IVec S8x128 32) (row0 : BitVec 32) (VS : Vec Ideal S1x8x128 .f32) (V0 V1 : Vec Ideal S64x128 .f32) (r : Fin 8) (t : Fin 128) :
    vsOf row8 row0 VS V0 V1 (ix3 0 r t) = Scalar.select (IntOp.cmpi .eq (row8 (ix2 r t)) (IntOp.addi row0 1#32)) (scaleOf (F := Ideal) (fieldOf (amaxOf V1)) (ix2 0 t))
      (Scalar.select (IntOp.cmpi .eq (row8 (ix2 r t)) (IntOp.addi row0 0#32)) (scaleOf (F := Ideal) (fieldOf (amaxOf V0)) (ix2 0 t))
        (Scalar.select (IntOp.cmpi .eq row0 0#32) 0 (VS (ix3 0 r t)))) := by
  pointwise [vsOf]
  rfl

theorem aOf_eq (causal : IVec S128x128 1) (ai : FVec Ideal S128x256 .f32) (t s : Fin 128) :
    aOf causal ai (ix2 t s) = Scalar.select (causal (ix2 t s)) (extractStridedSlice S128x128 ![0, 0] ai slices_S128x256_o0_0_S128x128 (ix2 t s)) 0 := by
  pointwise [aOf]

theorem stOf_eq (triu zcc : FVec Ideal S128x128 .bf16) (fh : IVec S128x128 1) (V0 V1 : Vec Ideal S64x128 .f32) (K0 K1 : Vec Ideal S160x128 .f32) (M0 M1 : Vec Ideal S1x1x160x128 .f32) (ST : Vec Ideal S1x160x128 .f32) (l : Fin 160) (t : Fin 128) :
    stOf triu zcc fh V0 V1 K0 K1 M0 M1 ST (ix3 0 l t) = sdOf fh (decOf K0 M0) (decOf K1 M1) ST (ix2 l t) + uOf (zuOf triu zcc (vh0Of fh V0 V1) (eOf K0 M0)) (ix2 l t)
      + uOf (zuOf triu zcc (vh1Of fh V0 V1) (eOf K1 M1)) (ix2 l t) := by
  pointwise [stOf]

end Cert.KernelIdeal.Hand

end
-- ==== Proof.Field.lean ====
module

public import proofs.«01_k».proof.Proof.Spec
public import Idealize.ShloMosaic.Lib.Pointwise

@[expose] public section

noncomputable section

namespace Cert.Spec

open Idealize.ShloMosaic

/-! The search by which both kernels find a scale, on one number: the exponent field is found by trying eight
steps, and the scale and its inverse are built from that field's bits. -/

/-- One step of the search: the field with `n` added, where the power it stands for is at most `s`. -/
def step (s : EReal) (f n : BitVec 32) : BitVec 32 :=
  Scalar.select (Ideal.cmp .oge s (Ideal.ofBits .f32 (IntOp.shli .vector (IntOp.addi f n) 23#32))) (IntOp.addi f n) f

/-- The exponent field. -/
def field (s : EReal) : BitVec 32 :=
  step s (step s (step s (step s (step s (step s (step s (step s 0#32 125#32) 64#32) 32#32) 16#32) 8#32) 4#32) 2#32) 1#32

/-- The scale and its inverse from the field. -/
def sclOf (f : BitVec 32) : EReal := Ideal.ofBits .f32 (IntOp.shli .vector (Scalar.select (IntOp.cmpi .eq f 0#32) 127#32 (IntOp.addi f 1#32)) 23#32)
def invOf (f : BitVec 32) : EReal := Ideal.ofBits .f32 (IntOp.shli .vector (Scalar.select (IntOp.cmpi .eq f 0#32) 127#32 (IntOp.subi 253#32 f)) 23#32)

theorem select_ofBool {α : Type} (p : Bool) (a b : α) : Scalar.select (BitVec.ofBool p) a b = if p then a else b := by
  cases p <;> rfl

theorem shl_field (j : ℕ) (h : j ≤ 254) : (IntOp.shli .vector (BitVec.ofNat 32 j) 23#32).toNat = j * 8388608 := by
  simp [IntOp.shli, BitVec.toNat_shiftLeft, Nat.shiftLeft_eq]
  omega

theorem shl_ofBits (j : ℕ) (h1 : 1 ≤ j) (h : j ≤ 254) : Ideal.ofBits .f32 (IntOp.shli .vector (BitVec.ofNat 32 j) 23#32) = (((2 : ℝ) ^ ((j : ℤ) - 127) : ℝ) : EReal) :=
  ofBits_field j h1 h _ (shl_field j h)

/-- One step of the search, on the count. -/
theorem step_eq (s : EReal) (f : BitVec 32) (m n : ℕ) (hf : f = BitVec.ofNat 32 m) (hn : 1 ≤ n) (hmn : m + n ≤ 252) :
    step s f (BitVec.ofNat 32 n) = BitVec.ofNat 32 (if m + n ≤ N s then m + n else m) := by
  unfold step
  rw [hf]
  have e : IntOp.addi (BitVec.ofNat 32 m) (BitVec.ofNat 32 n) = BitVec.ofNat 32 (m + n) := by
    simp [IntOp.addi, BitVec.ofNat_add]
  rw [e, shl_ofBits _ (by omega) (by omega)]
  have h := pow_le_iff s (m + n) (by omega) hmn
  by_cases hh : m + n ≤ N s
  · rw [if_pos hh]
    have := h.2 hh
    simp only [Ideal.cmp, select_ofBool]
    rw [decide_eq_true this]; rfl
  · rw [if_neg hh]
    have := mt h.1 hh
    simp only [Ideal.cmp, select_ofBool]
    rw [decide_eq_false this]; rfl

def up (N m n : ℕ) : ℕ := if m + n ≤ N then m + n else m

theorem up_all (N : ℕ) (h : N ≤ 252) : up N (up N (up N (up N (up N (up N (up N (up N 0 125) 64) 32) 16) 8) 4) 2) 1 = N := by
  have : ∀ N : Fin 253, up N (up N (up N (up N (up N (up N (up N (up N 0 125) 64) 32) 16) 8) 4) 2) 1 = N := by decide
  exact this ⟨N, by omega⟩

theorem up_le (N m n b : ℕ) (h : m + n ≤ b) : up N m n ≤ b := by unfold up; split_ifs <;> omega

/-- The exponent field is the count. -/
theorem field_eq (s : EReal) : field s = BitVec.ofNat 32 (N s) := by
  unfold field
  have hN := N_le s
  set M := N s with hM
  have b1 : up M 0 125 ≤ 125 := up_le _ _ _ _ (by omega)
  have b2 : up M (up M 0 125) 64 ≤ 189 := up_le _ _ _ _ (by omega)
  have b3 : up M (up M (up M 0 125) 64) 32 ≤ 221 := up_le _ _ _ _ (by omega)
  have b4 : up M (up M (up M (up M 0 125) 64) 32) 16 ≤ 237 := up_le _ _ _ _ (by omega)
  have b5 : up M (up M (up M (up M (up M 0 125) 64) 32) 16) 8 ≤ 245 := up_le _ _ _ _ (by omega)
  have b6 : up M (up M (up M (up M (up M (up M 0 125) 64) 32) 16) 8) 4 ≤ 249 := up_le _ _ _ _ (by omega)
  have b7 : up M (up M (up M (up M (up M (up M (up M 0 125) 64) 32) 16) 8) 4) 2 ≤ 251 := up_le _ _ _ _ (by omega)
  have h1 := step_eq s _ 0 125 rfl (by omega) (by omega)
  have h2 := step_eq s _ _ 64 h1 (by omega) (by change up M 0 125 + 64 ≤ 252; omega)
  have h3 := step_eq s _ _ 32 h2 (by omega) (by change up M (up M 0 125) 64 + 32 ≤ 252; omega)
  have h4 := step_eq s _ _ 16 h3 (by omega) (by change up M (up M (up M 0 125) 64) 32 + 16 ≤ 252; omega)
  have h5 := step_eq s _ _ 8 h4 (by omega) (by change up M (up M (up M (up M 0 125) 64) 32) 16 + 8 ≤ 252; omega)
  have h6 := step_eq s _ _ 4 h5 (by omega) (by change up M (up M (up M (up M (up M 0 125) 64) 32) 16) 8 + 4 ≤ 252; omega)
  have h7 := step_eq s _ _ 2 h6 (by omega) (by change up M (up M (up M (up M (up M (up M 0 125) 64) 32) 16) 8) 4 + 2 ≤ 252; omega)
  have h8 := step_eq s _ _ 1 h7 (by omega) (by change up M (up M (up M (up M (up M (up M (up M 0 125) 64) 32) 16) 8) 4) 2 + 1 ≤ 252; omega)
  refine h8.trans (congrArg _ ?_)
  exact up_all M hN

theorem ofNat_eq_zero (n : ℕ) (h : n ≤ 252) : (BitVec.ofNat 32 n = 0#32) ↔ n = 0 := by
  constructor
  · intro e
    have := congrArg BitVec.toNat e
    simp at this
    omega
  · rintro rfl; rfl

/-- The scale. -/
theorem sclOf_eq (s : EReal) : sclOf (field s) = ((scl s : ℝ) : EReal) := by
  rw [field_eq]
  unfold sclOf scl
  have hN := N_le s
  set M := N s
  by_cases h : M = 0
  · rw [if_pos h, h]
    exact (shl_ofBits 127 (by omega) (by omega)).trans (by norm_num)
  · rw [if_neg h]
    have h' := mt (ofNat_eq_zero M hN).1 h
    have e1 : Scalar.select (IntOp.cmpi .eq (BitVec.ofNat 32 M) 0#32) 127#32 (IntOp.addi (BitVec.ofNat 32 M) 1#32) = BitVec.ofNat 32 (M + 1) := by
      simp [select_ofBool, IntOp.cmpi, h', IntOp.addi, BitVec.ofNat_add]
    rw [e1, shl_ofBits (M + 1) (by omega) (by omega)]
    congr 2
    push_cast; ring

/-- Its inverse. -/
theorem invOf_eq (s : EReal) : invOf (field s) = ((inv s : ℝ) : EReal) := by
  rw [field_eq]
  unfold invOf inv
  have hN := N_le s
  set M := N s
  by_cases h : M = 0
  · rw [if_pos h, h]
    exact (shl_ofBits 127 (by omega) (by omega)).trans (by norm_num)
  · rw [if_neg h]
    have h' := mt (ofNat_eq_zero M hN).1 h
    have e1 : Scalar.select (IntOp.cmpi .eq (BitVec.ofNat 32 M) 0#32) 127#32 (IntOp.subi 253#32 (BitVec.ofNat 32 M)) = BitVec.ofNat 32 (253 - M) := by
      have : IntOp.subi 253#32 (BitVec.ofNat 32 M) = BitVec.ofNat 32 (253 - M) := by
        apply BitVec.eq_of_toNat_eq
        simp [IntOp.subi, BitVec.toNat_sub]
        omega
      simp [select_ofBool, IntOp.cmpi, h', this]
    rw [e1, shl_ofBits (253 - M) (by omega) (by omega)]
    congr 2
    omega

end Cert.Spec

end
-- ==== Proof.KI.Quant.lean ====
module

public import proofs.«01_k».proof.Proof.KI.Sem
public import proofs.«01_k».proof.Proof.Field

@[expose] public section

noncomputable section

namespace Cert.KernelIdeal.Hand

open Cert.KernelIdeal Cert.KernelIdeal.Gen
open Idealize.ShloMosaic Idealize.ShloMosaic.TcCoe

/-! The quantiser of the kernel finds the scale, its inverse and the codes that the specification states. -/

theorem select_ite {α : Type} (p : Prop) [Decidable p] (a b : α) : Scalar.select (if p then 1#1 else 0#1) a b = if p then a else b := by
  by_cases h : p <;> simp [h, Scalar.select]

theorem ladder_at (s : FVec Ideal S1x128 .f32) (f : IVec S1x128 32) (n : BitVec 32) (j : S1x128.Idx) : ladder s f n j = Spec.step (s j) (f j) n := rfl

/-- The exponent field of a token. -/
theorem field_at (s : FVec Ideal S1x128 .f32) (j : S1x128.Idx) : fieldOf s j = Spec.field (s j) := by
  unfold fieldOf
  simp only [ladder_at]
  rfl

theorem scaleOf_at (f : IVec S1x128 32) (j : S1x128.Idx) : scaleOf (F := Ideal) f j = Spec.sclOf (f j) := rfl
theorem invOf_at (f : IVec S1x128 32) (j : S1x128.Idx) : invOf (F := Ideal) f j = Spec.invOf (f j) := rfl

/-- The scale. -/
theorem scale_eq (s : FVec Ideal S1x128 .f32) (t : Fin 128) : scaleOf (F := Ideal) (fieldOf s) (ix2 0 t) = ((Spec.scl (s (ix2 0 t)) : ℝ) : EReal) := by
  rw [scaleOf_at, field_at, Spec.sclOf_eq]

/-- Its inverse. -/
theorem inv_eq (s : FVec Ideal S1x128 .f32) (t : Fin 128) : invOf (F := Ideal) (fieldOf s) (ix2 0 t) = ((Spec.inv (s (ix2 0 t)) : ℝ) : EReal) := by
  rw [invOf_at, field_at, Spec.invOf_eq]

/-- The codes and the dequantised values of the tokens' values `v`. -/
theorem codes_eq (V : Vec Ideal S64x128 .f32) (v : Fin 128 → Fin 64 → EReal) (hv : ∀ d t, V (ix2 d t) = v t d) (d : Fin 64) (t : Fin 128) :
    codesOf V (ix2 d t) = Spec.code (v t) d ∧ scaleOf (F := Ideal) (fieldOf (amaxOf V)) (ix2 0 t) = ((Spec.scl (Spec.mag (v t)) : ℝ) : EReal)
     ∧ deqOf V (ix2 d t) = ((Spec.codeR (v t) d * Spec.scl (Spec.mag (v t)) : ℝ) : EReal) := by
  have ha : amaxOf V (ix2 0 t) = Spec.mag (v t) := by
    rw [amaxOf_eq]; simp only [hv]; rfl
  have h1 : codesOf V (ix2 d t) = Spec.code (v t) d := by
    rw [codesOf_eq, inv_eq, ha, hv]; rfl
  have h2 : scaleOf (F := Ideal) (fieldOf (amaxOf V)) (ix2 0 t) = ((Spec.scl (Spec.mag (v t)) : ℝ) : EReal) := by
    rw [scale_eq, ha]
  refine ⟨h1, h2, ?_⟩
  rw [deqOf_eq, h1, h2, Spec.code_coe, EReal.coe_mul]

end Cert.KernelIdeal.Hand
-- ==== Proof.KI.Chunk.lean ====
module

public import proofs.«01_k».proof.Proof.KI.Quant

@[expose] public section

noncomputable section

namespace Cert.KernelIdeal.Hand

open Cert.KernelIdeal Cert.KernelIdeal.Gen
open Idealize.ShloMosaic Idealize.ShloMosaic.TcCoe

/-! What one chunk of one batch row computes, for the two heads of a group. -/

/-- The kernel's masks: lower triangle, upper triangle, and the first head's lanes. -/
structure Masks (causal : IVec S128x128 1) (triu : FVec Ideal S128x128 .bf16) (fh : IVec S128x128 1) : Prop where
  causal : ∀ t s : Fin 128, causal (ix2 t s) = if s ≤ t then 1#1 else 0#1
  triu : ∀ s t : Fin 128, triu (ix2 s t) = (((if s ≤ t then 1 else 0 : ℝ)) : EReal)
  fh : ∀ t j : Fin 128, fh (ix2 t j) = if j.val < 64 then 1#1 else 0#1

/-- A head's loads for chunk `c`: logits of the keys and queries, values, and the running maximum and sum. -/
structure Loads (k q : ℕ → Fin 160 → Fin 128 → ℝ) (v : ℕ → Fin 128 → Fin 64 → EReal) (c : ℕ) (V : Vec Ideal S64x128 .f32) (K Q : Vec Ideal S160x128 .f32)
    (M Z : Vec Ideal S1x1x160x128 .f32) : Prop where
  V : ∀ d t, V (ix2 d t) = v c t d
  K : ∀ l t, K (ix2 l t) = ((k c l t : ℝ) : EReal)
  Q : ∀ l t, Q (ix2 l t) = ((q c l t : ℝ) : EReal)
  M : ∀ l t, M (ix4 0 0 l t) = Spec.Mb k c l
  Z : ∀ l t, Z (ix4 0 0 l t) = ((Spec.Z k c l : ℝ) : EReal)

/-- The state in lanes: the first head's in the first 64, the second's in the others. -/
def lanes (a b : Fin 160 → Fin 64 → ℝ) (l : Fin 160) (j : Fin 128) : ℝ := if h : j.val < 64 then a l ⟨j, h⟩ else b l ⟨j - 64, by omega⟩

theorem mNew_sem (k : ℕ → Fin 160 → Fin 128 → ℝ) (c : ℕ) (K : Vec Ideal S160x128 .f32) (M : Vec Ideal S1x1x160x128 .f32) (hK : ∀ l t, K (ix2 l t) = ((k c l t : ℝ) : EReal))
    (hM : ∀ l t, M (ix4 0 0 l t) = Spec.Mb k c l) (l : Fin 160) (t : Fin 128) : mNew K M (ix2 l t) = ((Spec.M k c l : ℝ) : EReal) := by
  rw [mNew_eq, hM]
  simp only [hK]
  rw [Spec.sup_coe]
  exact Spec.max_Mb k c l

theorem dec_sem (k : ℕ → Fin 160 → Fin 128 → ℝ) (c : ℕ) (K : Vec Ideal S160x128 .f32) (M : Vec Ideal S1x1x160x128 .f32) (hK : ∀ l t, K (ix2 l t) = ((k c l t : ℝ) : EReal))
    (hM : ∀ l t, M (ix4 0 0 l t) = Spec.Mb k c l) (l : Fin 160) (t : Fin 128) : decOf K M (ix2 l t) = ((Spec.D k c l : ℝ) : EReal) := by
  rw [decOf_eq, mNew_sem k c K M hK hM, hM]
  exact Spec.exp_Mb k c l

theorem e_sem (k : ℕ → Fin 160 → Fin 128 → ℝ) (c : ℕ) (K : Vec Ideal S160x128 .f32) (M : Vec Ideal S1x1x160x128 .f32) (hK : ∀ l t, K (ix2 l t) = ((k c l t : ℝ) : EReal))
    (hM : ∀ l t, M (ix4 0 0 l t) = Spec.Mb k c l) (l : Fin 160) (t : Fin 128) : eOf K M (ix2 l t) = ((Spec.E k c l t : ℝ) : EReal) := by
  rw [eOf_eq, mNew_sem k c K M hK hM, hK, ← EReal.coe_sub]
  rfl

theorem isReal_of (x : V128) (f : Fin 160 → Fin 128 → ℝ) (h : ∀ l t, x (ix2 l t) = ((f l t : ℝ) : EReal)) : IsReal x :=
  ⟨fun j => f (j 0) (j 1), fun j => by rw [eq_ix2 j]; exact h _ _⟩

theorem pe_sem (q : ℕ → Fin 160 → Fin 128 → ℝ) (c : ℕ) (Q : Vec Ideal S160x128 .f32) (hQ : ∀ l t, Q (ix2 l t) = ((q c l t : ℝ) : EReal)) (l : Fin 160) (t : Fin 128) :
    peOf Q (ix2 l t) = ((Spec.Pe q c l t : ℝ) : EReal) := by
  rw [peOf_eq]
  simp only [hQ]
  rw [Spec.sup_coe, ← EReal.coe_sub]
  rfl

theorem r_sem (k q : ℕ → Fin 160 → Fin 128 → ℝ) (c : ℕ) (Q : Vec Ideal S160x128 .f32) (hQ : ∀ l t, Q (ix2 l t) = ((q c l t : ℝ) : EReal)) (den : V128)
    (hd : ∀ l t, den (ix2 l t) = ((Spec.Den k c l t : ℝ) : EReal)) (l : Fin 160) (t : Fin 128) : rOf Q den (ix2 l t) = ((Spec.R k q c l t : ℝ) : EReal) := by
  rw [rOf_eq, hd]
  simp only [pe_sem q c Q hQ]
  rw [Spec.coe_sum, Spec.one_div_coe _ (Spec.sumPe_pos q c t).ne', Spec.one_div_coe _ (Spec.Den_pos k c l t).ne', ← EReal.coe_mul, ← EReal.coe_mul]
  congr 1
  unfold Spec.R
  ring

section
variable (causal : IVec S128x128 1) (triu zcc : FVec Ideal S128x128 .bf16) (fh : IVec S128x128 1) (hm : Masks causal triu fh)
variable (k0 k1 q0 q1 : ℕ → Fin 160 → Fin 128 → ℝ) (v0 v1 : ℕ → Fin 128 → Fin 64 → EReal) (c : ℕ)
variable (V0 V1 : Vec Ideal S64x128 .f32) (K0 K1 Q0 Q1 : Vec Ideal S160x128 .f32) (M0 M1 Z0 Z1 : Vec Ideal S1x1x160x128 .f32) (ST : Vec Ideal S1x160x128 .f32)
variable (h0 : Loads k0 q0 v0 c V0 K0 Q0 M0 Z0) (h1 : Loads k1 q1 v1 c V1 K1 Q1 M1 Z1)
variable (hST : ∀ l j, ST (ix3 0 l j) = ((lanes (Spec.S k0 (Spec.deq v0) c) (Spec.S k1 (Spec.deq v1) c) l j : ℝ) : EReal))

include h0 in
theorem m_sem (l : Fin 160) (t : Fin 128) : mOf K0 M0 (ix4 0 0 l t) = Spec.Mb k0 (c + 1) l := by
  rw [mOf_eq, mNew_sem k0 c K0 M0 h0.K h0.M]; rfl

include hm in
/-- The denominators from a chunk's running sums, where the low parts add nothing. -/
theorem den_sem (k : ℕ → Fin 160 → Fin 128 → ℝ) (K : Vec Ideal S160x128 .f32) (M Z : Vec Ideal S1x1x160x128 .f32) (vh : FVec Ideal S128x128 .bf16) (zl : V128)
    (hK : ∀ l t, K (ix2 l t) = ((k c l t : ℝ) : EReal)) (hM : ∀ l t, M (ix4 0 0 l t) = Spec.Mb k c l)
    (hZ : ∀ l t, Z (ix4 0 0 l t) = ((Spec.Z k c l : ℝ) : EReal)) (hz : ∀ l t, zl (ix2 l t) = 0) (l : Fin 160) (t : Fin 128) :
    denOf Z (decOf K M) (zuOf triu zcc vh (eOf K M)) zl (ix2 l t) = ((Spec.Den k c l t : ℝ) : EReal) := by
  rw [denOf_eq, zu_lo triu zcc vh _ (isReal_of _ _ (e_sem k c K M hK hM)), hz, hZ, dec_sem k c K M hK hM, add_zero]
  simp only [e_sem k c K M hK hM, hm.triu, ← EReal.coe_mul]
  rw [Spec.coe_sum, ← EReal.coe_add]
  rfl

include h0 h1 in
theorem zc_lo (l : Fin 160) (t : Fin 128) : loHalf (zcOf triu zcc (eOf K0 M0) (eOf K1 M1)) (ix2 l t) = 0 := by
  have : loHalf (zcOf triu zcc (eOf K0 M0) (eOf K1 M1)) (ix2 l t) = zcOf triu zcc (eOf K0 M0) (eOf K1 M1) (ix2 l ⟨t, by omega⟩) := by
    pointwise [loHalf]
  rw [this]
  exact zc_eq _ _ _ _ (isReal_of _ _ (e_sem k0 c K0 M0 h0.K h0.M)) (isReal_of _ _ (e_sem k1 c K1 M1 h1.K h1.M)) _ _

include h0 h1 in
theorem zc_hi (l : Fin 160) (t : Fin 128) : uOf (zcOf triu zcc (eOf K0 M0) (eOf K1 M1)) (ix2 l t) = 0 := by
  have : uOf (zcOf triu zcc (eOf K0 M0) (eOf K1 M1)) (ix2 l t) = zcOf triu zcc (eOf K0 M0) (eOf K1 M1) (ix2 l ⟨128 + t, by omega⟩) := by
    pointwise [uOf]
  rw [this]
  exact zc_eq _ _ _ _ (isReal_of _ _ (e_sem k0 c K0 M0 h0.K h0.M)) (isReal_of _ _ (e_sem k1 c K1 M1 h1.K h1.M)) _ _

include hm h0 h1 in
theorem den0_sem (l : Fin 160) (t : Fin 128) : den0 triu zcc fh V0 V1 K0 K1 M0 M1 Z0 (ix2 l t) = ((Spec.Den k0 c l t : ℝ) : EReal) :=
  den_sem causal triu zcc fh hm c k0 K0 M0 Z0 _ _ h0.K h0.M h0.Z (zc_lo triu zcc k0 k1 q0 q1 v0 v1 c V0 V1 K0 K1 Q0 Q1 M0 M1 Z0 Z1 h0 h1) l t

include hm h0 h1 in
theorem den1_sem (l : Fin 160) (t : Fin 128) : den1 triu zcc fh V0 V1 K0 K1 M0 M1 Z1 (ix2 l t) = ((Spec.Den k1 c l t : ℝ) : EReal) :=
  den_sem causal triu zcc fh hm c k1 K1 M1 Z1 _ _ h1.K h1.M h1.Z (zc_hi triu zcc k0 k1 q0 q1 v0 v1 c V0 V1 K0 K1 Q0 Q1 M0 M1 Z0 Z1 h0 h1) l t

theorem Den_last (k : ℕ → Fin 160 → Fin 128 → ℝ) (c : ℕ) (l : Fin 160) : Spec.Den k c l ⟨127, by omega⟩ = Spec.Z k (c + 1) l := by
  unfold Spec.Den
  show _ = Spec.Z k c l * Spec.D k c l + ∑ s, Spec.E k c l s
  congr 1
  refine Finset.sum_congr rfl fun s _ => ?_
  rw [if_pos (Fin.le_def.2 (by show s.val ≤ 127; omega)), mul_one]

include hm h0 h1 in
/-- The sums carried to the next chunk. -/
theorem z0_sem (l : Fin 160) (t : Fin 128) : zOf (den0 triu zcc fh V0 V1 K0 K1 M0 M1 Z0) (ix4 0 0 l t) = ((Spec.Z k0 (c + 1) l : ℝ) : EReal) := by
  rw [zOf_eq, den0_sem causal triu zcc fh hm k0 k1 q0 q1 v0 v1 c V0 V1 K0 K1 Q0 Q1 M0 M1 Z0 Z1 h0 h1, Den_last]

include hm h0 h1 in
theorem z1_sem (l : Fin 160) (t : Fin 128) : zOf (den1 triu zcc fh V0 V1 K0 K1 M0 M1 Z1) (ix4 0 0 l t) = ((Spec.Z k1 (c + 1) l : ℝ) : EReal) := by
  rw [zOf_eq, den1_sem causal triu zcc fh hm k0 k1 q0 q1 v0 v1 c V0 V1 K0 K1 Q0 Q1 M0 M1 Z0 Z1 h0 h1, Den_last]

/-- Each head's dequantised values, zero in the other head's lanes. -/
def vl0 (v : ℕ → Fin 128 → Fin 64 → EReal) (c : ℕ) (s j : Fin 128) : ℝ := if h : j.val < 64 then Spec.deq v c s ⟨j, h⟩ else 0
def vl1 (v : ℕ → Fin 128 → Fin 64 → EReal) (c : ℕ) (s j : Fin 128) : ℝ := if h : j.val < 64 then 0 else Spec.deq v c s ⟨j - 64, by omega⟩

include hm h0 h1 in
theorem vh0_sem (s j : Fin 128) : vh0Of fh V0 V1 (ix2 s j) = ((vl0 v0 c s j : ℝ) : EReal) := by
  rw [vh0Of_eq, hm.fh, select_ite, vtOf_eq]
  unfold vl0
  by_cases h : j.val < 64
  · rw [if_pos h, dif_pos h, dif_pos h]; exact (codes_eq V0 (v0 c) h0.V _ _).2.2
  · rw [if_neg h, dif_neg h]; rfl

include hm h0 h1 in
theorem vh1_sem (s j : Fin 128) : vh1Of fh V0 V1 (ix2 s j) = ((vl1 v1 c s j : ℝ) : EReal) := by
  rw [vh1Of_eq, hm.fh, select_ite, vtOf_eq]
  unfold vl1
  by_cases h : j.val < 64
  · rw [if_pos h, dif_pos h]; rfl
  · rw [if_neg h, dif_neg h, dif_neg h]; exact (codes_eq V1 (v1 c) h1.V _ _).2.2

/-- The decayed state, in lanes. -/
def sdl (k0 k1 : ℕ → Fin 160 → Fin 128 → ℝ) (v0 v1 : ℕ → Fin 128 → Fin 64 → EReal) (c : ℕ) : Fin 160 → Fin 128 → ℝ :=
  lanes (fun l d => Spec.S k0 (Spec.deq v0) c l d * Spec.D k0 c l) (fun l d => Spec.S k1 (Spec.deq v1) c l d * Spec.D k1 c l)

include hm h0 h1 hST in
theorem sd_sem (l : Fin 160) (j : Fin 128) : sdOf fh (decOf K0 M0) (decOf K1 M1) ST (ix2 l j) = ((sdl k0 k1 v0 v1 c l j : ℝ) : EReal) := by
  rw [sdOf_eq, hm.fh, select_ite, hST, dec_sem k0 c K0 M0 h0.K h0.M, dec_sem k1 c K1 M1 h1.K h1.M]
  unfold sdl lanes
  by_cases h : j.val < 64
  · rw [if_pos h, dif_pos h, dif_pos h, ← EReal.coe_mul]
  · rw [if_neg h, dif_neg h, dif_neg h, ← EReal.coe_mul]

include hm h0 h1 hST in
/-- The state carried to the next chunk. -/
theorem st_sem (l : Fin 160) (j : Fin 128) : stOf triu zcc fh V0 V1 K0 K1 M0 M1 ST (ix3 0 l j)
    = ((lanes (Spec.S k0 (Spec.deq v0) (c + 1)) (Spec.S k1 (Spec.deq v1) (c + 1)) l j : ℝ) : EReal) := by
  rw [stOf_eq, sd_sem causal triu fh hm k0 k1 q0 q1 v0 v1 c V0 V1 K0 K1 Q0 Q1 M0 M1 Z0 Z1 ST h0 h1 hST,
    zu_hi _ _ _ _ (isReal_of _ _ (e_sem k0 c K0 M0 h0.K h0.M)), zu_hi _ _ _ _ (isReal_of _ _ (e_sem k1 c K1 M1 h1.K h1.M))]
  simp only [e_sem k0 c K0 M0 h0.K h0.M, e_sem k1 c K1 M1 h1.K h1.M, vh0_sem causal triu fh hm k0 k1 q0 q1 v0 v1 c V0 V1 K0 K1 Q0 Q1 M0 M1 Z0 Z1 h0 h1,
    vh1_sem causal triu fh hm k0 k1 q0 q1 v0 v1 c V0 V1 K0 K1 Q0 Q1 M0 M1 Z0 Z1 h0 h1, ← EReal.coe_mul]
  rw [Spec.coe_sum, Spec.coe_sum, ← EReal.coe_add, ← EReal.coe_add]
  congr 1
  unfold sdl lanes vl0 vl1
  by_cases h : j.val < 64
  · simp only [dif_pos h, mul_zero, Finset.sum_const_zero, add_zero]; rfl
  · simp only [dif_neg h, mul_zero, Finset.sum_const_zero, add_zero]; rfl

include hm in
/-- The causal part of the attention product. -/
theorem a_sem (k q : ℕ → Fin 160 → Fin 128 → ℝ) (r e sd : V128) (rr : Fin 160 → Fin 128 → ℝ) (er : Fin 160 → Fin 128 → ℝ) (hr : ∀ l t, r (ix2 l t) = ((rr l t : ℝ) : EReal))
    (he : ∀ l t, e (ix2 l t) = ((er l t : ℝ) : EReal)) (hs : IsReal sd) (t s : Fin 128) :
    aOf causal (aiOf r e sd) (ix2 t s) = (((if s ≤ t then ∑ l, rr l t * er l s else 0 : ℝ)) : EReal) := by
  rw [aOf_eq, hm.causal, select_ite, ai_lo r e sd (isReal_of _ _ hr) (isReal_of _ _ he) hs]
  by_cases h : s ≤ t
  · rw [if_pos h, if_pos h]
    simp only [hr, he, ← EReal.coe_mul]
    rw [Spec.coe_sum]
  · rw [if_neg h, if_neg h]; rfl

theorem yi_sem (r e sd : V128) (rr er sr : Fin 160 → Fin 128 → ℝ) (hr : ∀ l t, r (ix2 l t) = ((rr l t : ℝ) : EReal))
    (he : ∀ l t, e (ix2 l t) = ((er l t : ℝ) : EReal)) (hs : ∀ l t, sd (ix2 l t) = ((sr l t : ℝ) : EReal)) (t s : Fin 128) :
    yiOf (aiOf r e sd) (ix2 t s) = ((∑ l, rr l t * sr l s : ℝ) : EReal) := by
  rw [yiOf_eq r e sd (isReal_of _ _ hr) (isReal_of _ _ he) (isReal_of _ _ hs)]
  simp only [hr, hs, ← EReal.coe_mul]
  rw [Spec.coe_sum]

include hm h0 h1 hST in
/-- The chunk's result. -/
theorem y_sem (t j : Fin 128) : yOf causal triu zcc fh V0 V1 K0 K1 Q0 Q1 M0 M1 Z0 Z1 ST (ix2 t j)
    = (((if h : j.val < 64 then Spec.Y k0 q0 (Spec.deq v0) c t ⟨j, h⟩ else Spec.Y k1 q1 (Spec.deq v1) c t ⟨j - 64, by omega⟩ : ℝ)) : EReal) := by
  have hsd := sd_sem causal triu fh hm k0 k1 q0 q1 v0 v1 c V0 V1 K0 K1 Q0 Q1 M0 M1 Z0 Z1 ST h0 h1 hST
  have he0 := e_sem k0 c K0 M0 h0.K h0.M
  have he1 := e_sem k1 c K1 M1 h1.K h1.M
  have hr0 := r_sem k0 q0 c Q0 h0.Q _ (den0_sem causal triu zcc fh hm k0 k1 q0 q1 v0 v1 c V0 V1 K0 K1 Q0 Q1 M0 M1 Z0 Z1 h0 h1)
  have hr1 := r_sem k1 q1 c Q1 h1.Q _ (den1_sem causal triu zcc fh hm k0 k1 q0 q1 v0 v1 c V0 V1 K0 K1 Q0 Q1 M0 M1 Z0 Z1 h0 h1)
  unfold yOf
  rw [ymOf_eq, hm.fh, select_ite, yi_sem _ _ _ _ _ _ hr0 he0 hsd, yi_sem _ _ _ _ _ _ hr1 he1 hsd]
  simp only [a_sem causal triu fh hm k0 q0 _ _ _ _ _ hr0 he0 (isReal_of _ _ hsd), a_sem causal triu fh hm k1 q1 _ _ _ _ _ hr1 he1 (isReal_of _ _ hsd),
    vh0_sem causal triu fh hm k0 k1 q0 q1 v0 v1 c V0 V1 K0 K1 Q0 Q1 M0 M1 Z0 Z1 h0 h1, vh1_sem causal triu fh hm k0 k1 q0 q1 v0 v1 c V0 V1 K0 K1 Q0 Q1 M0 M1 Z0 Z1 h0 h1, ← EReal.coe_mul]
  rw [Spec.coe_sum, Spec.coe_sum, ← EReal.coe_add]
  unfold sdl lanes vl0 vl1
  by_cases h : j.val < 64
  · simp only [dif_pos h, if_pos h, mul_zero, Finset.sum_const_zero, add_zero]
    rw [← EReal.coe_add]; rfl
  · simp only [dif_neg h, if_neg h, mul_zero, Finset.sum_const_zero, zero_add]
    rw [← EReal.coe_add]; rfl

end

end Cert.KernelIdeal.Hand
-- ==== Proof.KI.Trip.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one chunk of the loop holds: the projections, which it reads, and the six buffers that it writes. -/
abbrev Held (c : Dev nD) (arg10 : Memref sig .tc .vmem S768x1920 .f32) (arg7 : Memref sig .tc .vmem S1920x128 .bf16) (arg8 : Memref sig .tc .vmem S3x2x64x640 .fp8e4m3) (arg9 : Memref sig .tc .vmem S3x8x640 .f32) (arg11 : Memref sig .tc .vmem S3x160x128 .f32) (arg12 : Memref sig .tc .vmem S3x2x160x128 .f32) (arg13 : Memref sig .tc .vmem S3x2x160x128 .f32) (X : BufTy.Contents (Elt F) arg10.view.ty) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty) : sProp 𝕄 :=
  iprop((arg10.view.loc (c : Thread nD τ) ↦[arg10.view.set]{fullShare} X) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

set_option maxHeartbeats 4000000 in
/-- One chunk of the loop, run symbolically: the pieces it writes to the six buffers, as functions of what it finds in
    them and of the projections in the scratch. -/
@[irreducible] def trip (𝒱 : Variants) (c : Dev nD) (bd : Option 𝒱.V) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec F S128x128 .bf16) (v176 : FVec F S128x128 .bf16) (v178 : IVec S128x128 1) (v179 : IVec S8x128 32) (v181 : BitVec 32) (X : BufTy.Contents (Elt F) arg10.view.ty) (k : Fin k0_t1_loop.trips) :
    Σ' (L7 : (BufTy.Contents (Elt F) arg7.view.ty → BufTy.Contents (Elt F) arg8.view.ty → BufTy.Contents (Elt F) arg9.view.ty → BufTy.Contents (Elt F) arg11.view.ty → BufTy.Contents (Elt F) arg12.view.ty → BufTy.Contents (Elt F) arg13.view.ty → List (View.Piece (Elt F) S1920x128 .bf16))) (L8 : (BufTy.Contents (Elt F) arg7.view.ty → BufTy.Contents (Elt F) arg8.view.ty → BufTy.Contents (Elt F) arg9.view.ty → BufTy.Contents (Elt F) arg11.view.ty → BufTy.Contents (Elt F) arg12.view.ty → BufTy.Contents (Elt F) arg13.view.ty → List (View.Piece (Elt F) S3x2x64x640 .fp8e4m3))) (L9 : (BufTy.Contents (Elt F) arg7.view.ty → BufTy.Contents (Elt F) arg8.view.ty → BufTy.Contents (Elt F) arg9.view.ty → BufTy.Contents (Elt F) arg11.view.ty → BufTy.Contents (Elt F) arg12.view.ty → BufTy.Contents (Elt F) arg13.view.ty → List (View.Piece (Elt F) S3x8x640 .f32))) (L11 : (BufTy.Contents (Elt F) arg7.view.ty → BufTy.Contents (Elt F) arg8.view.ty → BufTy.Contents (Elt F) arg9.view.ty → BufTy.Contents (Elt F) arg11.view.ty → BufTy.Contents (Elt F) arg12.view.ty → BufTy.Contents (Elt F) arg13.view.ty → List (View.Piece (Elt F) S3x160x128 .f32))) (L12 : (BufTy.Contents (Elt F) arg7.view.ty → BufTy.Contents (Elt F) arg8.view.ty → BufTy.Contents (Elt F) arg9.view.ty → BufTy.Contents (Elt F) arg11.view.ty → BufTy.Contents (Elt F) arg12.view.ty → BufTy.Contents (Elt F) arg13.view.ty → List (View.Piece (Elt F) S3x2x160x128 .f32))) , { L13 : (BufTy.Contents (Elt F) arg7.view.ty → BufTy.Contents (Elt F) arg8.view.ty → BufTy.Contents (Elt F) arg9.view.ty → BufTy.Contents (Elt F) arg11.view.ty → BufTy.Contents (Elt F) arg12.view.ty → BufTy.Contents (Elt F) arg13.view.ty → List (View.Piece (Elt F) S3x2x160x128 .f32)) // ∀ (E : Set ℕ) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty),
      Held c arg10 arg7 arg8 arg9 arg11 arg12 arg13 X f7 f8 f9 f11 f12 f13
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 v170 v175 v176 v178 v179 v181 k PUnit.unit)
          (fun _ => Held c arg10 arg7 arg8 arg9 arg11 arg12 arg13 X (arg7.view.writes (Elt F) f7 (L7 f7 f8 f9 f11 f12 f13)) (arg8.view.writes (Elt F) f8 (L8 f7 f8 f9 f11 f12 f13)) (arg9.view.writes (Elt F) f9 (L9 f7 f8 f9 f11 f12 f13)) (arg11.view.writes (Elt F) f11 (L11 f7 f8 f9 f11 f12 f13)) (arg12.view.writes (Elt F) f12 (L12 f7 f8 f9 f11 f12 f13)) (arg13.view.writes (Elt F) f13 (L13 f7 f8 f9 f11 f12 f13))) } := by
  have hk : k.val < 5 := Nat.lt_of_lt_of_le k.isLt k0_t1_abs.2.1
  refine ⟨?_, ?_, ?_, ?_, ?_, ?_, fun E f7 f8 f9 f11 f12 f13 => ?run⟩
  case run =>
    unfold k0_t1_body
    iintro ⟨HX, H7, H8, H9, H11, H12, H13⟩
    sl_exec
    sl_step
    sl_close

end Cert.KernelIdeal.Hand

end
-- ==== Proof.KI.Lists.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Trip
public import proofs.«01_k».proof.Proof.KI.Stage

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What one chunk loads, and the pieces that it writes: the steps of `Stage` at what it loads. -/

theorem inb12 : ∀ (b : Fin 3) (h : Fin 2) (a : Fin 4), (![b.val, h.val, 0, 0] : Fin 4 → ℕ) a + S1x1x160x128.size a ≤ S3x2x160x128.size a := by decide
theorem inb11 : ∀ (b : Fin 3) (a : Fin 3), (![b.val, 0, 0] : Fin 3 → ℕ) a + S1x160x128.size a ≤ S3x160x128.size a := by decide

def ldV0 (arg10 : Memref sig .tc .vmem S768x1920 .f32) (X : BufTy.Contents (Elt F) arg10.view.ty) (k : Fin k0_t1_loop.trips) (b : Fin 3) : Vec F S64x128 .f32 :=
  View.readAt (Elt F) arg10.view (Rect.unit (s := S768x1920) (k0_off2 k (BitVec.ofNat 32 (640 * b.val))) S64x128.size (k0_off2_inb k b)).toLoadRect X
def ldV1 (arg10 : Memref sig .tc .vmem S768x1920 .f32) (X : BufTy.Contents (Elt F) arg10.view.ty) (k : Fin k0_t1_loop.trips) (b : Fin 3) : Vec F S64x128 .f32 :=
  View.readAt (Elt F) arg10.view (Rect.unit (s := S768x1920) (k0_off4 k (BitVec.ofNat 32 (640 * b.val))) S64x128.size (k0_off4_inb k b)).toLoadRect X
def ldK0 (arg10 : Memref sig .tc .vmem S768x1920 .f32) (X : BufTy.Contents (Elt F) arg10.view.ty) (k : Fin k0_t1_loop.trips) (b : Fin 3) : Vec F S160x128 .f32 :=
  View.readAt (Elt F) arg10.view (Rect.unit (s := S768x1920) (k0_off6 k (BitVec.ofNat 32 (640 * b.val))) S160x128.size (k0_off6_inb k b)).toLoadRect X
def ldK1 (arg10 : Memref sig .tc .vmem S768x1920 .f32) (X : BufTy.Contents (Elt F) arg10.view.ty) (k : Fin k0_t1_loop.trips) (b : Fin 3) : Vec F S160x128 .f32 :=
  View.readAt (Elt F) arg10.view (Rect.unit (s := S768x1920) (k0_off7 k (BitVec.ofNat 32 (640 * b.val))) S160x128.size (k0_off7_inb k b)).toLoadRect X
def ldQ0 (arg10 : Memref sig .tc .vmem S768x1920 .f32) (X : BufTy.Contents (Elt F) arg10.view.ty) (k : Fin k0_t1_loop.trips) (b : Fin 3) : Vec F S160x128 .f32 :=
  View.readAt (Elt F) arg10.view (Rect.unit (s := S768x1920) (k0_off8 k (BitVec.ofNat 32 (640 * b.val))) S160x128.size (k0_off8_inb k b)).toLoadRect X
def ldQ1 (arg10 : Memref sig .tc .vmem S768x1920 .f32) (X : BufTy.Contents (Elt F) arg10.view.ty) (k : Fin k0_t1_loop.trips) (b : Fin 3) : Vec F S160x128 .f32 :=
  View.readAt (Elt F) arg10.view (Rect.unit (s := S768x1920) (k0_off9 k (BitVec.ofNat 32 (640 * b.val))) S160x128.size (k0_off9_inb k b)).toLoadRect X
def ldMZ (arg : Memref sig .tc .vmem S3x2x160x128 .f32) (f : BufTy.Contents (Elt F) arg.view.ty) (b : Fin 3) (h : Fin 2) : Vec F S1x1x160x128 .f32 :=
  View.readAt (Elt F) arg.view (Rect.unit (s := S3x2x160x128) ![b.val, h.val, 0, 0] S1x1x160x128.size (inb12 b h)).toLoadRect f
def ldST (arg : Memref sig .tc .vmem S3x160x128 .f32) (f : BufTy.Contents (Elt F) arg.view.ty) (b : Fin 3) : Vec F S1x160x128 .f32 :=
  View.readAt (Elt F) arg.view (Rect.unit (s := S3x160x128) ![b.val, 0, 0] S1x160x128.size (inb11 b)).toLoadRect f
def ldVS0 (arg : Memref sig .tc .vmem S3x8x640 .f32) (f : BufTy.Contents (Elt F) arg.view.ty) (k : Fin k0_t1_loop.trips) : Vec F S1x8x128 .f32 :=
  View.readAt (Elt F) arg.view (Rect.unit (s := S3x8x640) (k0_off1 k) S1x8x128.size (k0_off1_inb k)).toLoadRect f
def ldVS1 (arg : Memref sig .tc .vmem S3x8x640 .f32) (f : BufTy.Contents (Elt F) arg.view.ty) (k : Fin k0_t1_loop.trips) : Vec F S1x8x128 .f32 :=
  View.readAt (Elt F) arg.view (Rect.unit (s := S3x8x640) (k0_off11 k) S1x8x128.size (k0_off11_inb k)).toLoadRect f
def ldVS2 (arg : Memref sig .tc .vmem S3x8x640 .f32) (f : BufTy.Contents (Elt F) arg.view.ty) (k : Fin k0_t1_loop.trips) : Vec F S1x8x128 .f32 :=
  View.readAt (Elt F) arg.view (Rect.unit (s := S3x8x640) (k0_off14 k) S1x8x128.size (k0_off14_inb k)).toLoadRect f

set_option maxHeartbeats 4000000 in
/-- The pieces that one chunk writes to argument 7. -/
theorem list7 (𝒱 : Variants) (c : Dev nD) (bd : Option 𝒱.V) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec F S128x128 .bf16) (v176 : FVec F S128x128 .bf16) (v178 : IVec S128x128 1) (v179 : IVec S8x128 32) (v181 : BitVec 32) (X : BufTy.Contents (Elt F) arg10.view.ty) (k : Fin k0_t1_loop.trips) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).1 f7 f8 f9 f11 f12 f13 = [
      ⟨Rect.unit (s := S1920x128) (k0_off10 k (BitVec.ofNat 32 (640 * (2 : Fin 3).val))) S128x128.size (k0_off10_inb k 2), yOf v170 v175 v176 v178 (ldV0 arg10 X k 2) (ldV1 arg10 X k 2) (ldK0 arg10 X k 2) (ldK1 arg10 X k 2) (ldQ0 arg10 X k 2) (ldQ1 arg10 X k 2) (ldMZ arg12 f12 2 0) (ldMZ arg12 f12 2 1) (ldMZ arg13 f13 2 0) (ldMZ arg13 f13 2 1) (ldST arg11 f11 2)⟩,
      ⟨Rect.unit (s := S1920x128) (k0_off10 k (BitVec.ofNat 32 (640 * (1 : Fin 3).val))) S128x128.size (k0_off10_inb k 1), yOf v170 v175 v176 v178 (ldV0 arg10 X k 1) (ldV1 arg10 X k 1) (ldK0 arg10 X k 1) (ldK1 arg10 X k 1) (ldQ0 arg10 X k 1) (ldQ1 arg10 X k 1) (ldMZ arg12 f12 1 0) (ldMZ arg12 f12 1 1) (ldMZ arg13 f13 1 0) (ldMZ arg13 f13 1 1) (ldST arg11 f11 1)⟩,
      ⟨Rect.unit (s := S1920x128) (k0_off10 k (BitVec.ofNat 32 (640 * (0 : Fin 3).val))) S128x128.size (k0_off10_inb k 0), yOf v170 v175 v176 v178 (ldV0 arg10 X k 0) (ldV1 arg10 X k 0) (ldK0 arg10 X k 0) (ldK1 arg10 X k 0) (ldQ0 arg10 X k 0) (ldQ1 arg10 X k 0) (ldMZ arg12 f12 0 0) (ldMZ arg12 f12 0 1) (ldMZ arg13 f13 0 0) (ldMZ arg13 f13 0 1) (ldST arg11 f11 0)⟩] := by
  unfold trip; rfl

set_option maxHeartbeats 4000000 in
/-- The pieces that one chunk writes to argument 8. -/
theorem list8 (𝒱 : Variants) (c : Dev nD) (bd : Option 𝒱.V) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec F S128x128 .bf16) (v176 : FVec F S128x128 .bf16) (v178 : IVec S128x128 1) (v179 : IVec S8x128 32) (v181 : BitVec 32) (X : BufTy.Contents (Elt F) arg10.view.ty) (k : Fin k0_t1_loop.trips) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.1 f7 f8 f9 f11 f12 f13 = [
      ⟨Rect.unit (s := S3x2x64x640) (k0_off16 k) S1x1x64x128.size (k0_off16_inb k), vcOf (ldV1 arg10 X k 2)⟩,
      ⟨Rect.unit (s := S3x2x64x640) (k0_off15 k) S1x1x64x128.size (k0_off15_inb k), vcOf (ldV0 arg10 X k 2)⟩,
      ⟨Rect.unit (s := S3x2x64x640) (k0_off13 k) S1x1x64x128.size (k0_off13_inb k), vcOf (ldV1 arg10 X k 1)⟩,
      ⟨Rect.unit (s := S3x2x64x640) (k0_off12 k) S1x1x64x128.size (k0_off12_inb k), vcOf (ldV0 arg10 X k 1)⟩,
      ⟨Rect.unit (s := S3x2x64x640) (k0_off5 k) S1x1x64x128.size (k0_off5_inb k), vcOf (ldV1 arg10 X k 0)⟩,
      ⟨Rect.unit (s := S3x2x64x640) (k0_off3 k) S1x1x64x128.size (k0_off3_inb k), vcOf (ldV0 arg10 X k 0)⟩] := by
  unfold trip; rfl

set_option maxHeartbeats 4000000 in
/-- The pieces that one chunk writes to argument 9. -/
theorem list9 (𝒱 : Variants) (c : Dev nD) (bd : Option 𝒱.V) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec F S128x128 .bf16) (v176 : FVec F S128x128 .bf16) (v178 : IVec S128x128 1) (v179 : IVec S8x128 32) (v181 : BitVec 32) (X : BufTy.Contents (Elt F) arg10.view.ty) (k : Fin k0_t1_loop.trips) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.2.1 f7 f8 f9 f11 f12 f13 = [
      ⟨Rect.unit (s := S3x8x640) (k0_off14 k) S1x8x128.size (k0_off14_inb k), vsOf v179 v181 (ldVS2 arg9 f9 k) (ldV0 arg10 X k 2) (ldV1 arg10 X k 2)⟩,
      ⟨Rect.unit (s := S3x8x640) (k0_off11 k) S1x8x128.size (k0_off11_inb k), vsOf v179 v181 (ldVS1 arg9 f9 k) (ldV0 arg10 X k 1) (ldV1 arg10 X k 1)⟩,
      ⟨Rect.unit (s := S3x8x640) (k0_off1 k) S1x8x128.size (k0_off1_inb k), vsOf v179 v181 (ldVS0 arg9 f9 k) (ldV0 arg10 X k 0) (ldV1 arg10 X k 0)⟩] := by
  unfold trip; rfl

set_option maxHeartbeats 4000000 in
/-- The pieces that one chunk writes to argument 11. -/
theorem list11 (𝒱 : Variants) (c : Dev nD) (bd : Option 𝒱.V) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec F S128x128 .bf16) (v176 : FVec F S128x128 .bf16) (v178 : IVec S128x128 1) (v179 : IVec S8x128 32) (v181 : BitVec 32) (X : BufTy.Contents (Elt F) arg10.view.ty) (k : Fin k0_t1_loop.trips) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.2.2.1 f7 f8 f9 f11 f12 f13 = [
      ⟨Rect.unit (s := S3x160x128) ![(2 : Fin 3).val, 0, 0] S1x160x128.size (inb11 2), stOf v175 v176 v178 (ldV0 arg10 X k 2) (ldV1 arg10 X k 2) (ldK0 arg10 X k 2) (ldK1 arg10 X k 2) (ldMZ arg12 f12 2 0) (ldMZ arg12 f12 2 1) (ldST arg11 f11 2)⟩,
      ⟨Rect.unit (s := S3x160x128) ![(1 : Fin 3).val, 0, 0] S1x160x128.size (inb11 1), stOf v175 v176 v178 (ldV0 arg10 X k 1) (ldV1 arg10 X k 1) (ldK0 arg10 X k 1) (ldK1 arg10 X k 1) (ldMZ arg12 f12 1 0) (ldMZ arg12 f12 1 1) (ldST arg11 f11 1)⟩,
      ⟨Rect.unit (s := S3x160x128) ![(0 : Fin 3).val, 0, 0] S1x160x128.size (inb11 0), stOf v175 v176 v178 (ldV0 arg10 X k 0) (ldV1 arg10 X k 0) (ldK0 arg10 X k 0) (ldK1 arg10 X k 0) (ldMZ arg12 f12 0 0) (ldMZ arg12 f12 0 1) (ldST arg11 f11 0)⟩] := by
  unfold trip; rfl

set_option maxHeartbeats 4000000 in
/-- The pieces that one chunk writes to argument 12. -/
theorem list12 (𝒱 : Variants) (c : Dev nD) (bd : Option 𝒱.V) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec F S128x128 .bf16) (v176 : FVec F S128x128 .bf16) (v178 : IVec S128x128 1) (v179 : IVec S8x128 32) (v181 : BitVec 32) (X : BufTy.Contents (Elt F) arg10.view.ty) (k : Fin k0_t1_loop.trips) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.2.2.2.1 f7 f8 f9 f11 f12 f13 = [
      ⟨Rect.unit (s := S3x2x160x128) ![(2 : Fin 3).val, (1 : Fin 2).val, 0, 0] S1x1x160x128.size (inb12 2 1), mOf (ldK1 arg10 X k 2) (ldMZ arg12 f12 2 1)⟩,
      ⟨Rect.unit (s := S3x2x160x128) ![(2 : Fin 3).val, (0 : Fin 2).val, 0, 0] S1x1x160x128.size (inb12 2 0), mOf (ldK0 arg10 X k 2) (ldMZ arg12 f12 2 0)⟩,
      ⟨Rect.unit (s := S3x2x160x128) ![(1 : Fin 3).val, (1 : Fin 2).val, 0, 0] S1x1x160x128.size (inb12 1 1), mOf (ldK1 arg10 X k 1) (ldMZ arg12 f12 1 1)⟩,
      ⟨Rect.unit (s := S3x2x160x128) ![(1 : Fin 3).val, (0 : Fin 2).val, 0, 0] S1x1x160x128.size (inb12 1 0), mOf (ldK0 arg10 X k 1) (ldMZ arg12 f12 1 0)⟩,
      ⟨Rect.unit (s := S3x2x160x128) ![(0 : Fin 3).val, (1 : Fin 2).val, 0, 0] S1x1x160x128.size (inb12 0 1), mOf (ldK1 arg10 X k 0) (ldMZ arg12 f12 0 1)⟩,
      ⟨Rect.unit (s := S3x2x160x128) ![(0 : Fin 3).val, (0 : Fin 2).val, 0, 0] S1x1x160x128.size (inb12 0 0), mOf (ldK0 arg10 X k 0) (ldMZ arg12 f12 0 0)⟩] := by
  unfold trip; rfl

set_option maxHeartbeats 4000000 in
/-- The pieces that one chunk writes to argument 13. -/
theorem list13 (𝒱 : Variants) (c : Dev nD) (bd : Option 𝒱.V) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec F S128x128 .bf16) (v176 : FVec F S128x128 .bf16) (v178 : IVec S128x128 1) (v179 : IVec S8x128 32) (v181 : BitVec 32) (X : BufTy.Contents (Elt F) arg10.view.ty) (k : Fin k0_t1_loop.trips) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.2.2.2.2.1 f7 f8 f9 f11 f12 f13 = [
      ⟨Rect.unit (s := S3x2x160x128) ![(2 : Fin 3).val, (1 : Fin 2).val, 0, 0] S1x1x160x128.size (inb12 2 1), zOf (den1 v175 v176 v178 (ldV0 arg10 X k 2) (ldV1 arg10 X k 2) (ldK0 arg10 X k 2) (ldK1 arg10 X k 2) (ldMZ arg12 f12 2 0) (ldMZ arg12 f12 2 1) (ldMZ arg13 f13 2 1))⟩,
      ⟨Rect.unit (s := S3x2x160x128) ![(2 : Fin 3).val, (0 : Fin 2).val, 0, 0] S1x1x160x128.size (inb12 2 0), zOf (den0 v175 v176 v178 (ldV0 arg10 X k 2) (ldV1 arg10 X k 2) (ldK0 arg10 X k 2) (ldK1 arg10 X k 2) (ldMZ arg12 f12 2 0) (ldMZ arg12 f12 2 1) (ldMZ arg13 f13 2 0))⟩,
      ⟨Rect.unit (s := S3x2x160x128) ![(1 : Fin 3).val, (1 : Fin 2).val, 0, 0] S1x1x160x128.size (inb12 1 1), zOf (den1 v175 v176 v178 (ldV0 arg10 X k 1) (ldV1 arg10 X k 1) (ldK0 arg10 X k 1) (ldK1 arg10 X k 1) (ldMZ arg12 f12 1 0) (ldMZ arg12 f12 1 1) (ldMZ arg13 f13 1 1))⟩,
      ⟨Rect.unit (s := S3x2x160x128) ![(1 : Fin 3).val, (0 : Fin 2).val, 0, 0] S1x1x160x128.size (inb12 1 0), zOf (den0 v175 v176 v178 (ldV0 arg10 X k 1) (ldV1 arg10 X k 1) (ldK0 arg10 X k 1) (ldK1 arg10 X k 1) (ldMZ arg12 f12 1 0) (ldMZ arg12 f12 1 1) (ldMZ arg13 f13 1 0))⟩,
      ⟨Rect.unit (s := S3x2x160x128) ![(0 : Fin 3).val, (1 : Fin 2).val, 0, 0] S1x1x160x128.size (inb12 0 1), zOf (den1 v175 v176 v178 (ldV0 arg10 X k 0) (ldV1 arg10 X k 0) (ldK0 arg10 X k 0) (ldK1 arg10 X k 0) (ldMZ arg12 f12 0 0) (ldMZ arg12 f12 0 1) (ldMZ arg13 f13 0 1))⟩,
      ⟨Rect.unit (s := S3x2x160x128) ![(0 : Fin 3).val, (0 : Fin 2).val, 0, 0] S1x1x160x128.size (inb12 0 0), zOf (den0 v175 v176 v178 (ldV0 arg10 X k 0) (ldV1 arg10 X k 0) (ldK0 arg10 X k 0) (ldK1 arg10 X k 0) (ldMZ arg12 f12 0 0) (ldMZ arg12 f12 0 1) (ldMZ arg13 f13 0 0))⟩] := by
  unfold trip; rfl

end Cert.KernelIdeal.Hand

end
-- ==== Proof.KI.Offs.lean ====
module

public import proofs.«01_k».proof.Proof.KI.Lists
public import Idealize.ShloMosaic.Lib.WritesUnit
public import Idealize.ShloMosaic.Lib.Pointwise

@[expose] public section

noncomputable section

namespace Cert.KernelIdeal.Hand

open Cert.KernelIdeal Cert.KernelIdeal.Gen
open Idealize.ShloMosaic Idealize.ShloMosaic.TcCoe

/-! Where the loop's loads and stores lie, in closed form. -/

theorem off1_eq : ∀ k : Fin k0_t1_loop.trips, k0_off1 k = ![0, 0, 128 * k.val] := by decide
theorem off11_eq : ∀ k : Fin k0_t1_loop.trips, k0_off11 k = ![1, 0, 128 * k.val] := by decide
theorem off14_eq : ∀ k : Fin k0_t1_loop.trips, k0_off14 k = ![2, 0, 128 * k.val] := by decide
theorem off3_eq : ∀ k : Fin k0_t1_loop.trips, k0_off3 k = ![0, 0, 0, 128 * k.val] := by decide
theorem off5_eq : ∀ k : Fin k0_t1_loop.trips, k0_off5 k = ![0, 1, 0, 128 * k.val] := by decide
theorem off12_eq : ∀ k : Fin k0_t1_loop.trips, k0_off12 k = ![1, 0, 0, 128 * k.val] := by decide
theorem off13_eq : ∀ k : Fin k0_t1_loop.trips, k0_off13 k = ![1, 1, 0, 128 * k.val] := by decide
theorem off15_eq : ∀ k : Fin k0_t1_loop.trips, k0_off15 k = ![2, 0, 0, 128 * k.val] := by decide
theorem off16_eq : ∀ k : Fin k0_t1_loop.trips, k0_off16 k = ![2, 1, 0, 128 * k.val] := by decide
theorem off2_eq : ∀ (k : Fin k0_t1_loop.trips) (b : Fin 3), k0_off2 k (BitVec.ofNat 32 (640 * b.val)) = ![640, 640 * b.val + 128 * k.val] := by decide
theorem off4_eq : ∀ (k : Fin k0_t1_loop.trips) (b : Fin 3), k0_off4 k (BitVec.ofNat 32 (640 * b.val)) = ![704, 640 * b.val + 128 * k.val] := by decide
theorem off6_eq : ∀ (k : Fin k0_t1_loop.trips) (b : Fin 3), k0_off6 k (BitVec.ofNat 32 (640 * b.val)) = ![320, 640 * b.val + 128 * k.val] := by decide
theorem off7_eq : ∀ (k : Fin k0_t1_loop.trips) (b : Fin 3), k0_off7 k (BitVec.ofNat 32 (640 * b.val)) = ![480, 640 * b.val + 128 * k.val] := by decide
theorem off8_eq : ∀ (k : Fin k0_t1_loop.trips) (b : Fin 3), k0_off8 k (BitVec.ofNat 32 (640 * b.val)) = ![0, 640 * b.val + 128 * k.val] := by decide
theorem off9_eq : ∀ (k : Fin k0_t1_loop.trips) (b : Fin 3), k0_off9 k (BitVec.ofNat 32 (640 * b.val)) = ![160, 640 * b.val + 128 * k.val] := by decide
theorem off10_eq : ∀ (k : Fin k0_t1_loop.trips) (b : Fin 3), k0_off10 k (BitVec.ofNat 32 (640 * b.val)) = ![640 * b.val + 128 * k.val, 0] := by decide

/-- A load at a box reads the buffer at the box's offset plus the position. -/
theorem readAt_unit {sig : RefSig} {κ : Kind} {sp : Space} {s : Shape} {e : EltTy} {Val : EltTy → Type} (v : View sig κ sp s e) (f : v.ty.Contents Val)
    {off off' size : Fin s.rank → ℕ} (inb : ∀ a, off a + size a ≤ s.size a) (heq : off = off') (x : (Rect.unit off size inb).shape.Idx) (y : s.Idx)
    (hy : ∀ a, (y a).val = off' a + (x a).val) : v.readAt Val (Rect.unit off size inb).toLoadRect f x = v.read Val f y := by
  subst heq
  rw [View.readAt_apply]
  congr 1
  funext a
  apply Fin.ext
  show off a + 1 * (x a).val = (y a).val
  rw [hy a, Nat.one_mul]

end Cert.KernelIdeal.Hand
-- ==== Proof.KI.Pieces.lean ====
module

public import Idealize.ShloMosaic.Lib.WritesUnit
public import Idealize.ShloMosaic.Lib.Pointwise

@[expose] public section

noncomputable section

namespace Cert.KernelIdeal.Hand

open Idealize.ShloMosaic

/-! Lists of stores into disjoint boxes, read at an index: one box per batch row, or one per batch row and head. -/

section
variable {sig : RefSig} {κ : Kind} {sp : Space} {e : EltTy} {Val : EltTy → Type}

/-- Six boxes of a rank-4 buffer, read inside one of them. -/
theorem hit6 {A B C : ℕ} (v : View sig κ sp (⟨4, ![3, 2, A, B]⟩ : Shape) e) (f : v.ty.Contents Val) (o : ℕ)
    (o21 o20 o11 o10 o01 o00 : Fin 4 → ℕ) (i21 i20 i11 i10 i01 i00)
    (h21 : o21 = ![2, 1, 0, o]) (h20 : o20 = ![2, 0, 0, o]) (h11 : o11 = ![1, 1, 0, o]) (h10 : o10 = ![1, 0, 0, o]) (h01 : o01 = ![0, 1, 0, o]) (h00 : o00 = ![0, 0, 0, o])
    (W : Fin 3 → Fin 2 → (⟨4, ![1, 1, A, C]⟩ : Shape).Idx → Val e) (b : Fin 3) (h : Fin 2) (a : Fin A) (c : Fin B) (c' : Fin C) (hc : c.val = o + c'.val) :
    v.read Val (v.writes Val f [⟨Rect.unit (s := ⟨4, ![3, 2, A, B]⟩) o21 ![1, 1, A, C] i21, W 2 1⟩, ⟨Rect.unit (s := ⟨4, ![3, 2, A, B]⟩) o20 ![1, 1, A, C] i20, W 2 0⟩,
      ⟨Rect.unit (s := ⟨4, ![3, 2, A, B]⟩) o11 ![1, 1, A, C] i11, W 1 1⟩, ⟨Rect.unit (s := ⟨4, ![3, 2, A, B]⟩) o10 ![1, 1, A, C] i10, W 1 0⟩,
      ⟨Rect.unit (s := ⟨4, ![3, 2, A, B]⟩) o01 ![1, 1, A, C] i01, W 0 1⟩, ⟨Rect.unit (s := ⟨4, ![3, 2, A, B]⟩) o00 ![1, 1, A, C] i00, W 0 0⟩]) (ix4 b h a c) = W b h (ix4 0 0 a c') := by
  subst h21 h20 h11 h10 h01 h00
  have key : ∀ x : Fin 4, ((ix4 b h a c : (⟨4, ![3, 2, A, B]⟩ : Shape).Idx) x).val = (![b.val, h.val, 0, o] : Fin 4 → ℕ) x + ((ix4 0 0 a c' : (⟨4, ![1, 1, A, C]⟩ : Shape).Idx) x).val := by
    intro x
    match x with
    | 0 => rfl
    | 1 => rfl
    | 2 => exact (Nat.zero_add _).symm
    | 3 => exact hc
  fin_cases b <;> fin_cases h <;>
  (repeat (first
    | exact View.read_writes_cons_unit_of_mem _ _ _ _ _ _ _ rfl key
    | (refine (View.read_writes_cons_unit_of_not_mem _ _ _ _ _ _ rfl (0 : Fin 4) (by first | exact Or.inl (of_decide_eq_true rfl) | exact Or.inr (of_decide_eq_true rfl))).trans ?_)
    | (refine (View.read_writes_cons_unit_of_not_mem _ _ _ _ _ _ rfl (1 : Fin 4) (by first | exact Or.inl (of_decide_eq_true rfl) | exact Or.inr (of_decide_eq_true rfl))).trans ?_)))

/-- The same six boxes, read at a column outside them. -/
theorem miss6 {A B C : ℕ} (v : View sig κ sp (⟨4, ![3, 2, A, B]⟩ : Shape) e) (f : v.ty.Contents Val) (o : ℕ)
    (o21 o20 o11 o10 o01 o00 : Fin 4 → ℕ) (i21 i20 i11 i10 i01 i00)
    (h21 : o21 = ![2, 1, 0, o]) (h20 : o20 = ![2, 0, 0, o]) (h11 : o11 = ![1, 1, 0, o]) (h10 : o10 = ![1, 0, 0, o]) (h01 : o01 = ![0, 1, 0, o]) (h00 : o00 = ![0, 0, 0, o])
    (W : Fin 3 → Fin 2 → (⟨4, ![1, 1, A, C]⟩ : Shape).Idx → Val e) (b : Fin 3) (h : Fin 2) (a : Fin A) (c : Fin B) (hc : c.val < o ∨ o + C ≤ c.val) :
    v.read Val (v.writes Val f [⟨Rect.unit (s := ⟨4, ![3, 2, A, B]⟩) o21 ![1, 1, A, C] i21, W 2 1⟩, ⟨Rect.unit (s := ⟨4, ![3, 2, A, B]⟩) o20 ![1, 1, A, C] i20, W 2 0⟩,
      ⟨Rect.unit (s := ⟨4, ![3, 2, A, B]⟩) o11 ![1, 1, A, C] i11, W 1 1⟩, ⟨Rect.unit (s := ⟨4, ![3, 2, A, B]⟩) o10 ![1, 1, A, C] i10, W 1 0⟩,
      ⟨Rect.unit (s := ⟨4, ![3, 2, A, B]⟩) o01 ![1, 1, A, C] i01, W 0 1⟩, ⟨Rect.unit (s := ⟨4, ![3, 2, A, B]⟩) o00 ![1, 1, A, C] i00, W 0 0⟩]) (ix4 b h a c) = v.read Val f (ix4 b h a c) := by
  subst h21 h20 h11 h10 h01 h00
  iterate 6 refine (View.read_writes_cons_unit_of_not_mem _ _ _ _ _ _ rfl (3 : Fin 4) hc).trans ?_
  rfl

/-- Three boxes of a rank-3 buffer, read inside one of them. -/
theorem hit3 {A B C : ℕ} (v : View sig κ sp (⟨3, ![3, A, B]⟩ : Shape) e) (f : v.ty.Contents Val) (o : ℕ)
    (o2 o1 o0 : Fin 3 → ℕ) (i2 i1 i0) (h2 : o2 = ![2, 0, o]) (h1 : o1 = ![1, 0, o]) (h0 : o0 = ![0, 0, o])
    (W : Fin 3 → (⟨3, ![1, A, C]⟩ : Shape).Idx → Val e) (b : Fin 3) (a : Fin A) (c : Fin B) (c' : Fin C) (hc : c.val = o + c'.val) :
    v.read Val (v.writes Val f [⟨Rect.unit (s := ⟨3, ![3, A, B]⟩) o2 ![1, A, C] i2, W 2⟩, ⟨Rect.unit (s := ⟨3, ![3, A, B]⟩) o1 ![1, A, C] i1, W 1⟩,
      ⟨Rect.unit (s := ⟨3, ![3, A, B]⟩) o0 ![1, A, C] i0, W 0⟩]) (ix3 b a c) = W b (ix3 0 a c') := by
  subst h2 h1 h0
  have key : ∀ x : Fin 3, ((ix3 b a c : (⟨3, ![3, A, B]⟩ : Shape).Idx) x).val = (![b.val, 0, o] : Fin 3 → ℕ) x + ((ix3 0 a c' : (⟨3, ![1, A, C]⟩ : Shape).Idx) x).val := by
    intro x
    match x with
    | 0 => rfl
    | 1 => exact (Nat.zero_add _).symm
    | 2 => exact hc
  fin_cases b <;>
  (repeat (first
    | exact View.read_writes_cons_unit_of_mem _ _ _ _ _ _ _ rfl key
    | (refine (View.read_writes_cons_unit_of_not_mem _ _ _ _ _ _ rfl (0 : Fin 3) (by first | exact Or.inl (of_decide_eq_true rfl) | exact Or.inr (of_decide_eq_true rfl))).trans ?_)))

/-- The same three boxes, read at a column outside them. -/
theorem miss3 {A B C : ℕ} (v : View sig κ sp (⟨3, ![3, A, B]⟩ : Shape) e) (f : v.ty.Contents Val) (o : ℕ)
    (o2 o1 o0 : Fin 3 → ℕ) (i2 i1 i0) (h2 : o2 = ![2, 0, o]) (h1 : o1 = ![1, 0, o]) (h0 : o0 = ![0, 0, o])
    (W : Fin 3 → (⟨3, ![1, A, C]⟩ : Shape).Idx → Val e) (b : Fin 3) (a : Fin A) (c : Fin B) (hc : c.val < o ∨ o + C ≤ c.val) :
    v.read Val (v.writes Val f [⟨Rect.unit (s := ⟨3, ![3, A, B]⟩) o2 ![1, A, C] i2, W 2⟩, ⟨Rect.unit (s := ⟨3, ![3, A, B]⟩) o1 ![1, A, C] i1, W 1⟩,
      ⟨Rect.unit (s := ⟨3, ![3, A, B]⟩) o0 ![1, A, C] i0, W 0⟩]) (ix3 b a c) = v.read Val f (ix3 b a c) := by
  subst h2 h1 h0
  iterate 3 refine (View.read_writes_cons_unit_of_not_mem _ _ _ _ _ _ rfl (2 : Fin 3) hc).trans ?_
  rfl

/-- Three bands of rows of a rank-2 buffer, 640 rows apart, read inside one of them. -/
theorem hitR {R B C : ℕ} (v : View sig κ sp (⟨2, ![R, B]⟩ : Shape) e) (f : v.ty.Contents Val) (o : ℕ)
    (o2 o1 o0 : Fin 2 → ℕ) (i2 i1 i0) (h2 : o2 = ![640 * (2 : Fin 3).val + o, 0]) (h1 : o1 = ![640 * (1 : Fin 3).val + o, 0]) (h0 : o0 = ![640 * (0 : Fin 3).val + o, 0])
    (hC : C ≤ 640) (W : Fin 3 → (⟨2, ![C, B]⟩ : Shape).Idx → Val e) (b : Fin 3) (r : Fin R) (t : Fin C) (hr : r.val = 640 * b.val + o + t.val) (j : Fin B) :
    v.read Val (v.writes Val f [⟨Rect.unit (s := ⟨2, ![R, B]⟩) o2 ![C, B] i2, W 2⟩, ⟨Rect.unit (s := ⟨2, ![R, B]⟩) o1 ![C, B] i1, W 1⟩,
      ⟨Rect.unit (s := ⟨2, ![R, B]⟩) o0 ![C, B] i0, W 0⟩]) (ix2 r j) = W b (ix2 t j) := by
  subst h2 h1 h0
  have ht := t.isLt
  have key : ∀ x : Fin 2, ((ix2 r j : (⟨2, ![R, B]⟩ : Shape).Idx) x).val = (![640 * b.val + o, 0] : Fin 2 → ℕ) x + ((ix2 t j : (⟨2, ![C, B]⟩ : Shape).Idx) x).val := by
    intro x
    match x with
    | 0 => exact hr
    | 1 => exact (Nat.zero_add _).symm
  fin_cases b
  · refine (View.read_writes_cons_unit_of_not_mem _ _ _ _ _ _ rfl (0 : Fin 2) (Or.inl ?_)).trans ?_
    · show r.val < 640 * 2 + o
      simp at hr; omega
    refine (View.read_writes_cons_unit_of_not_mem _ _ _ _ _ _ rfl (0 : Fin 2) (Or.inl ?_)).trans ?_
    · show r.val < 640 * 1 + o
      simp at hr; omega
    exact View.read_writes_cons_unit_of_mem _ _ _ _ _ _ _ rfl key
  · refine (View.read_writes_cons_unit_of_not_mem _ _ _ _ _ _ rfl (0 : Fin 2) (Or.inl ?_)).trans ?_
    · show r.val < 640 * 2 + o
      simp at hr; omega
    exact View.read_writes_cons_unit_of_mem _ _ _ _ _ _ _ rfl key
  · exact View.read_writes_cons_unit_of_mem _ _ _ _ _ _ _ rfl key

/-- The same bands, read at a row outside them. -/
theorem missR {R B C : ℕ} (v : View sig κ sp (⟨2, ![R, B]⟩ : Shape) e) (f : v.ty.Contents Val) (o : ℕ)
    (o2 o1 o0 : Fin 2 → ℕ) (i2 i1 i0) (h2 : o2 = ![640 * (2 : Fin 3).val + o, 0]) (h1 : o1 = ![640 * (1 : Fin 3).val + o, 0]) (h0 : o0 = ![640 * (0 : Fin 3).val + o, 0])
    (W : Fin 3 → (⟨2, ![C, B]⟩ : Shape).Idx → Val e) (r : Fin R) (j : Fin B) (hr : ∀ b : Fin 3, r.val < 640 * b.val + o ∨ 640 * b.val + o + C ≤ r.val) :
    v.read Val (v.writes Val f [⟨Rect.unit (s := ⟨2, ![R, B]⟩) o2 ![C, B] i2, W 2⟩, ⟨Rect.unit (s := ⟨2, ![R, B]⟩) o1 ![C, B] i1, W 1⟩,
      ⟨Rect.unit (s := ⟨2, ![R, B]⟩) o0 ![C, B] i0, W 0⟩]) (ix2 r j) = v.read Val f (ix2 r j) := by
  subst h2 h1 h0
  refine (View.read_writes_cons_unit_of_not_mem _ _ _ _ _ _ rfl (0 : Fin 2) (hr 2)).trans ?_
  refine (View.read_writes_cons_unit_of_not_mem _ _ _ _ _ _ rfl (0 : Fin 2) (hr 1)).trans ?_
  refine (View.read_writes_cons_unit_of_not_mem _ _ _ _ _ _ rfl (0 : Fin 2) (hr 0)).trans ?_
  rfl

end

end Cert.KernelIdeal.Hand
-- ==== Proof.KI.Inv.lean ====
module

public import proofs.«01_k».proof.Proof.KI.Chunk
public import proofs.«01_k».proof.Proof.KI.Offs
public import proofs.«01_k».proof.Proof.KI.Pieces

@[expose] public section

noncomputable section

namespace Cert.KernelIdeal.Hand

open Cert.KernelIdeal Cert.KernelIdeal.Gen
open Idealize.ShloMosaic Idealize.ShloMosaic.TcCoe

/-! What the six buffers hold after some chunks, and that a chunk keeps it. -/

/-- The logits and the values, per batch row and head of the group, then chunk, feature and token. -/
abbrev Logits := Fin 3 → Fin 2 → ℕ → Fin 160 → Fin 128 → ℝ
abbrev Values := Fin 3 → Fin 2 → ℕ → Fin 128 → Fin 64 → EReal

/-- The projections' buffer holds the logits and the values. -/
structure Proj (kk qq : Logits) (vv : Values) (x : S768x1920.Idx → EReal) : Prop where
  q : ∀ (b : Fin 3) (h : Fin 2) (c : Fin 5) (l : Fin 160) (t : Fin 128), x (ix2 ⟨160 * h.val + l.val, by omega⟩ ⟨640 * b.val + 128 * c.val + t.val, by omega⟩) = ((qq b h c l t : ℝ) : EReal)
  k : ∀ (b : Fin 3) (h : Fin 2) (c : Fin 5) (l : Fin 160) (t : Fin 128), x (ix2 ⟨320 + 160 * h.val + l.val, by omega⟩ ⟨640 * b.val + 128 * c.val + t.val, by omega⟩) = ((kk b h c l t : ℝ) : EReal)
  v : ∀ (b : Fin 3) (h : Fin 2) (c : Fin 5) (d : Fin 64) (t : Fin 128), x (ix2 ⟨640 + 64 * h.val + d.val, by omega⟩ ⟨640 * b.val + 128 * c.val + t.val, by omega⟩) = vv b h c t d

/-- The result of chunk `c` for batch row `b` at token `t` and lane `j`. -/
def yAt (kk qq : Logits) (vv : Values) (b : Fin 3) (c : ℕ) (t j : Fin 128) : ℝ :=
  if h : j.val < 64 then Spec.Y (kk b 0) (qq b 0) (Spec.deq (vv b 0)) c t ⟨j, h⟩ else Spec.Y (kk b 1) (qq b 1) (Spec.deq (vv b 1)) c t ⟨j - 64, by omega⟩

/-- The row of scales `r` after a chunk: the two heads' own rows, the rows found elsewhere, or zeros at a group's first point. -/
def vsAt (vv : Values) (row0 : ℕ) (old : EReal) (b : Fin 3) (r : Fin 8) (c : ℕ) (t : Fin 128) : EReal :=
  if r.val = row0 + 1 then ((Spec.scl (Spec.mag (vv b 1 c t)) : ℝ) : EReal) else if r.val = row0 then ((Spec.scl (Spec.mag (vv b 0 c t)) : ℝ) : EReal)
  else if row0 = 0 then 0 else old

/-- The six buffers after `n` chunks. -/
structure LInv (kk qq : Logits) (vv : Values) (row0 : ℕ) (old : S3x8x640.Idx → EReal) (n : ℕ) (y : S1920x128.Idx → EReal) (vc : S3x2x64x640.Idx → EReal) (vs : S3x8x640.Idx → EReal)
    (st : S3x160x128.Idx → EReal) (mx : S3x2x160x128.Idx → EReal) (z : S3x2x160x128.Idx → EReal) : Prop where
  y : ∀ (b : Fin 3) (c : Fin 5) (t j : Fin 128), c.val < n → y (ix2 ⟨640 * b.val + 128 * c.val + t.val, by omega⟩ j) = ((yAt kk qq vv b c t j : ℝ) : EReal)
  vc : ∀ (b : Fin 3) (h : Fin 2) (d : Fin 64) (c : Fin 5) (t : Fin 128), c.val < n → vc (ix4 b h d ⟨128 * c.val + t.val, by omega⟩) = Spec.code (vv b h c t) d
  vs : ∀ (b : Fin 3) (r : Fin 8) (c : Fin 5) (t : Fin 128), vs (ix3 b r ⟨128 * c.val + t.val, by omega⟩)
    = if c.val < n then vsAt vv row0 (old (ix3 b r ⟨128 * c.val + t.val, by omega⟩)) b r c t else old (ix3 b r ⟨128 * c.val + t.val, by omega⟩)
  st : ∀ (b : Fin 3) (l : Fin 160) (j : Fin 128), st (ix3 b l j) = ((lanes (Spec.S (kk b 0) (Spec.deq (vv b 0)) n) (Spec.S (kk b 1) (Spec.deq (vv b 1)) n) l j : ℝ) : EReal)
  mx : ∀ (b : Fin 3) (h : Fin 2) (l : Fin 160) (t : Fin 128), mx (ix4 b h l t) = Spec.Mb (kk b h) n l
  z : ∀ (b : Fin 3) (h : Fin 2) (l : Fin 160) (t : Fin 128), z (ix4 b h l t) = ((Spec.Z (kk b h) n l : ℝ) : EReal)

/-- A load of one batch row's state, and of one head's running maximum or sum. -/
theorem ldMZ_eq (arg : Memref sig .tc .vmem S3x2x160x128 .f32) (f : BufTy.Contents (Elt Ideal) arg.view.ty) (b : Fin 3) (h : Fin 2) (l : Fin 160) (t : Fin 128) :
    ldMZ (F := Ideal) arg f b h (ix4 0 0 l t) = arg.view.read (Elt Ideal) f (ix4 b h l t) :=
  readAt_unit _ _ _ rfl _ _ (fun x => by
    match x with
    | 0 => rfl
    | 1 => rfl
    | 2 => exact (Nat.zero_add _).symm
    | 3 => exact (Nat.zero_add _).symm)

theorem ldST_eq (arg : Memref sig .tc .vmem S3x160x128 .f32) (f : BufTy.Contents (Elt Ideal) arg.view.ty) (b : Fin 3) (l : Fin 160) (t : Fin 128) :
    ldST (F := Ideal) arg f b (ix3 0 l t) = arg.view.read (Elt Ideal) f (ix3 b l t) :=
  readAt_unit _ _ _ rfl _ _ (fun x => by
    match x with
    | 0 => rfl
    | 1 => exact (Nat.zero_add _).symm
    | 2 => exact (Nat.zero_add _).symm)

/-- A load of one chunk's rows of scales. -/
theorem ldVS_eq (arg : Memref sig .tc .vmem S3x8x640 .f32) (f : BufTy.Contents (Elt Ideal) arg.view.ty) (k : Fin k0_t1_loop.trips) (hk : k.val < 5) (b : Fin 3) (off : Fin 3 → ℕ)
    (ho : off = ![b.val, 0, 128 * k.val]) (inb) (r : Fin 8) (t : Fin 128) :
    View.readAt (Elt Ideal) arg.view (Rect.unit (s := S3x8x640) off S1x8x128.size inb).toLoadRect f (ix3 0 r t) = arg.view.read (Elt Ideal) f (ix3 b r ⟨128 * k.val + t.val, by omega⟩) :=
  readAt_unit _ _ _ ho _ _ (fun x => by
    match x with
    | 0 => rfl
    | 1 => exact (Nat.zero_add _).symm
    | 2 => rfl)

/-- A load of a band of the projections for one chunk. -/
theorem ldX_eq (arg10 : Memref sig .tc .vmem S768x1920 .f32) (X : BufTy.Contents (Elt Ideal) arg10.view.ty) (k : Fin k0_t1_loop.trips) (hk : k.val < 5) (b : Fin 3) (r0 H : ℕ) (hr : r0 + H ≤ 768)
    (off : Fin 2 → ℕ) (ho : off = ![r0, 640 * b.val + 128 * k.val]) (inb) (l : Fin H) (t : Fin 128) :
    View.readAt (Elt Ideal) arg10.view (Rect.unit (s := S768x1920) off ![H, 128] inb).toLoadRect X (ix2 l t)
      = arg10.view.read (Elt Ideal) X (ix2 ⟨r0 + l.val, by omega⟩ ⟨640 * b.val + 128 * k.val + t.val, by omega⟩) :=
  readAt_unit _ _ _ ho _ _ (fun x => by
    match x with
    | 0 => rfl
    | 1 => rfl)

section
variable (kk qq : Logits) (vv : Values) (row0 : ℕ) (old : S3x8x640.Idx → EReal)
variable (arg7 : Memref sig .tc .vmem S1920x128 .bf16) (arg8 : Memref sig .tc .vmem S3x2x64x640 .fp8e4m3) (arg9 : Memref sig .tc .vmem S3x8x640 .f32) (arg10 : Memref sig .tc .vmem S768x1920 .f32)
  (arg11 : Memref sig .tc .vmem S3x160x128 .f32) (arg12 arg13 : Memref sig .tc .vmem S3x2x160x128 .f32)
variable (X : BufTy.Contents (Elt Ideal) arg10.view.ty) (f7 : BufTy.Contents (Elt Ideal) arg7.view.ty) (f8 : BufTy.Contents (Elt Ideal) arg8.view.ty) (f9 : BufTy.Contents (Elt Ideal) arg9.view.ty)
  (f11 : BufTy.Contents (Elt Ideal) arg11.view.ty) (f12 : BufTy.Contents (Elt Ideal) arg12.view.ty) (f13 : BufTy.Contents (Elt Ideal) arg13.view.ty)
variable (k : Fin k0_t1_loop.trips) (hk : k.val < 5)

/-- The invariant on the buffers' contents. -/
def BInv (n : ℕ) (g7 : BufTy.Contents (Elt Ideal) arg7.view.ty) (g8 : BufTy.Contents (Elt Ideal) arg8.view.ty) (g9 : BufTy.Contents (Elt Ideal) arg9.view.ty)
    (g11 : BufTy.Contents (Elt Ideal) arg11.view.ty) (g12 : BufTy.Contents (Elt Ideal) arg12.view.ty) (g13 : BufTy.Contents (Elt Ideal) arg13.view.ty) : Prop :=
  LInv kk qq vv row0 old n (arg7.view.read (Elt Ideal) g7) (arg8.view.read (Elt Ideal) g8) (arg9.view.read (Elt Ideal) g9) (arg11.view.read (Elt Ideal) g11)
    (arg12.view.read (Elt Ideal) g12) (arg13.view.read (Elt Ideal) g13)

variable (hX : Proj kk qq vv (arg10.view.read (Elt Ideal) X)) (hI : BInv kk qq vv row0 old arg7 arg8 arg9 arg11 arg12 arg13 k.val f7 f8 f9 f11 f12 f13)

/-- Each head's loads by its number. -/
def ldV (b : Fin 3) : Fin 2 → Vec Ideal S64x128 .f32 | 0 => ldV0 arg10 X k b | 1 => ldV1 arg10 X k b
def ldK (b : Fin 3) : Fin 2 → Vec Ideal S160x128 .f32 | 0 => ldK0 arg10 X k b | 1 => ldK1 arg10 X k b
def ldQ (b : Fin 3) : Fin 2 → Vec Ideal S160x128 .f32 | 0 => ldQ0 arg10 X k b | 1 => ldQ1 arg10 X k b

include hX hk hI in
theorem loads_sem (b : Fin 3) (h : Fin 2) : Loads (kk b h) (qq b h) (vv b h) k.val (ldV arg10 X k b h) (ldK arg10 X k b h) (ldQ arg10 X k b h) (ldMZ arg12 f12 b h) (ldMZ arg13 f13 b h) where
  V d t := by
    match h with
    | 0 => exact (ldX_eq arg10 X k hk b 640 64 (by omega) _ (off2_eq k b) _ d t).trans (hX.v b 0 ⟨k.val, hk⟩ d t)
    | 1 => exact (ldX_eq arg10 X k hk b 704 64 (by omega) _ (off4_eq k b) _ d t).trans (hX.v b 1 ⟨k.val, hk⟩ d t)
  K l t := by
    match h with
    | 0 => exact (ldX_eq arg10 X k hk b 320 160 (by omega) _ (off6_eq k b) _ l t).trans (hX.k b 0 ⟨k.val, hk⟩ l t)
    | 1 => exact (ldX_eq arg10 X k hk b 480 160 (by omega) _ (off7_eq k b) _ l t).trans (hX.k b 1 ⟨k.val, hk⟩ l t)
  Q l t := by
    match h with
    | 0 => exact (ldX_eq arg10 X k hk b 0 160 (by omega) _ (off8_eq k b) _ l t).trans (hX.q b 0 ⟨k.val, hk⟩ l t)
    | 1 => exact (ldX_eq arg10 X k hk b 160 160 (by omega) _ (off9_eq k b) _ l t).trans (hX.q b 1 ⟨k.val, hk⟩ l t)
  M l t := (ldMZ_eq arg12 f12 b h l t).trans (hI.mx b h l t)
  Z l t := (ldMZ_eq arg13 f13 b h l t).trans (hI.z b h l t)

variable (v170 : IVec S128x128 1) (v175 v176 : FVec Ideal S128x128 .bf16) (v178 : IVec S128x128 1) (v179 : IVec S8x128 32) (v181 : BitVec 32)
variable (hm : Masks v170 v175 v178) (h179 : ∀ r t, v179 (ix2 r t) = BitVec.ofNat 32 r.val) (h181 : v181 = BitVec.ofNat 32 row0) (hrow : row0 ≤ 6)

/-- What a chunk writes to each buffer, per batch row and head. -/
def w7 (b : Fin 3) : FVec Ideal S128x128 .bf16 := yOf v170 v175 v176 v178 (ldV0 arg10 X k b) (ldV1 arg10 X k b) (ldK0 arg10 X k b) (ldK1 arg10 X k b) (ldQ0 arg10 X k b) (ldQ1 arg10 X k b) (ldMZ arg12 f12 b 0) (ldMZ arg12 f12 b 1) (ldMZ arg13 f13 b 0) (ldMZ arg13 f13 b 1) (ldST arg11 f11 b)
def w8 (b : Fin 3) (h : Fin 2) : FVec Ideal S1x1x64x128 .fp8e4m3 := vcOf (ldV arg10 X k b h)
def ldVS (b : Fin 3) : Vec Ideal S1x8x128 .f32 := match b with | 0 => ldVS0 arg9 f9 k | 1 => ldVS1 arg9 f9 k | 2 => ldVS2 arg9 f9 k
def w9 (b : Fin 3) : FVec Ideal S1x8x128 .f32 := vsOf v179 v181 (ldVS arg9 f9 k b) (ldV0 arg10 X k b) (ldV1 arg10 X k b)
def w11 (b : Fin 3) : FVec Ideal S1x160x128 .f32 := stOf v175 v176 v178 (ldV0 arg10 X k b) (ldV1 arg10 X k b) (ldK0 arg10 X k b) (ldK1 arg10 X k b) (ldMZ arg12 f12 b 0) (ldMZ arg12 f12 b 1) (ldST arg11 f11 b)
def w12 (b : Fin 3) (h : Fin 2) : FVec Ideal S1x1x160x128 .f32 := mOf (ldK arg10 X k b h) (ldMZ arg12 f12 b h)
def w13 (b : Fin 3) (h : Fin 2) : FVec Ideal S1x1x160x128 .f32 := match h with
  | 0 => zOf (den0 v175 v176 v178 (ldV0 arg10 X k b) (ldV1 arg10 X k b) (ldK0 arg10 X k b) (ldK1 arg10 X k b) (ldMZ arg12 f12 b 0) (ldMZ arg12 f12 b 1) (ldMZ arg13 f13 b 0))
  | 1 => zOf (den1 v175 v176 v178 (ldV0 arg10 X k b) (ldV1 arg10 X k b) (ldK0 arg10 X k b) (ldK1 arg10 X k b) (ldMZ arg12 f12 b 0) (ldMZ arg12 f12 b 1) (ldMZ arg13 f13 b 1))

include hI in
theorem state_sem (b : Fin 3) (l : Fin 160) (j : Fin 128) : ldST (F := Ideal) arg11 f11 b (ix3 0 l j)
    = ((lanes (Spec.S (kk b 0) (Spec.deq (vv b 0)) k.val) (Spec.S (kk b 1) (Spec.deq (vv b 1)) k.val) l j : ℝ) : EReal) :=
  (ldST_eq arg11 f11 b l j).trans (hI.st b l j)

include hX hk hI hm in
theorem w7_sem (b : Fin 3) (t j : Fin 128) : w7 arg10 arg11 arg12 arg13 X f11 f12 f13 k v170 v175 v176 v178 b (ix2 t j) = ((yAt kk qq vv b k.val t j : ℝ) : EReal) :=
  y_sem v170 v175 v176 v178 hm _ _ _ _ _ _ _ _ _ _ _ _ _ _ _ _ _ _
    (loads_sem kk qq vv row0 old arg7 arg8 arg9 arg10 arg11 arg12 arg13 X f7 f8 f9 f11 f12 f13 k hk hX hI b 0)
    (loads_sem kk qq vv row0 old arg7 arg8 arg9 arg10 arg11 arg12 arg13 X f7 f8 f9 f11 f12 f13 k hk hX hI b 1)
    (state_sem kk qq vv row0 old arg7 arg8 arg9 arg11 arg12 arg13 f7 f8 f9 f11 f12 f13 k hI b) t j

include hX hk hI in
theorem w8_sem (b : Fin 3) (h : Fin 2) (d : Fin 64) (t : Fin 128) : w8 arg10 X k b h (ix4 0 0 d t) = Spec.code (vv b h k.val t) d :=
  (vcOf_eq _ d t).trans (codes_eq _ _ (loads_sem kk qq vv row0 old arg7 arg8 arg9 arg10 arg11 arg12 arg13 X f7 f8 f9 f11 f12 f13 k hk hX hI b h).V d t).1

include hX hk hI h179 h181 hrow in
theorem w9_sem (b : Fin 3) (r : Fin 8) (t : Fin 128) : w9 arg9 arg10 X f9 k v179 v181 b (ix3 0 r t)
    = vsAt vv row0 (old (ix3 b r ⟨128 * k.val + t.val, by omega⟩)) b r k.val t := by
  have hv : ldVS arg9 f9 k b (ix3 0 r t) = old (ix3 b r ⟨128 * k.val + t.val, by omega⟩) := by
    have e : ldVS arg9 f9 k b (ix3 0 r t) = arg9.view.read (Elt Ideal) f9 (ix3 b r ⟨128 * k.val + t.val, by omega⟩) := by
      match b with
      | 0 => exact ldVS_eq arg9 f9 k hk 0 _ (off1_eq k) _ r t
      | 1 => exact ldVS_eq arg9 f9 k hk 1 _ (off11_eq k) _ r t
      | 2 => exact ldVS_eq arg9 f9 k hk 2 _ (off14_eq k) _ r t
    rw [e]
    have := hI.vs b r ⟨k.val, hk⟩ t
    rw [if_neg (Nat.lt_irrefl _)] at this
    exact this
  have s0 := (codes_eq _ _ (loads_sem kk qq vv row0 old arg7 arg8 arg9 arg10 arg11 arg12 arg13 X f7 f8 f9 f11 f12 f13 k hk hX hI b 0).V 0 t).2.1
  have s1 := (codes_eq _ _ (loads_sem kk qq vv row0 old arg7 arg8 arg9 arg10 arg11 arg12 arg13 X f7 f8 f9 f11 f12 f13 k hk hX hI b 1).V 0 t).2.1
  unfold w9
  rw [vsOf_eq, h179, h181, hv]
  have eqv : ∀ a b : ℕ, a < 100 → b < 100 → IntOp.cmpi .eq (BitVec.ofNat 32 a) (BitVec.ofNat 32 b) = if a = b then 1#1 else 0#1 := by
    intro a b ha hb
    by_cases h : a = b
    · subst h; simp [IntOp.cmpi]
    · rw [if_neg h]
      have : ¬ BitVec.ofNat 32 a = BitVec.ofNat 32 b := by
        intro e
        have := congrArg BitVec.toNat e
        simp at this
        omega
      show BitVec.ofBool (BitVec.ofNat 32 a == BitVec.ofNat 32 b) = 0#1
      rw [beq_eq_false_iff_ne.2 this]; rfl
  have e1 : IntOp.addi (BitVec.ofNat 32 row0) 1#32 = BitVec.ofNat 32 (row0 + 1) := by simp [IntOp.addi, BitVec.ofNat_add]
  have e0 : IntOp.addi (BitVec.ofNat 32 row0) 0#32 = BitVec.ofNat 32 row0 := by simp [IntOp.addi]
  have ez : (0#32 : BitVec 32) = BitVec.ofNat 32 0 := rfl
  rw [e1, e0, eqv _ _ (by omega) (by omega), eqv _ _ (by omega) (by omega), ez, eqv _ _ (by omega) (by omega), select_ite, select_ite, select_ite]
  unfold vsAt
  rw [← s0, ← s1]
  rfl

include hX hk hI hm in
theorem w11_sem (b : Fin 3) (l : Fin 160) (j : Fin 128) : w11 arg10 arg11 arg12 X f11 f12 k v175 v176 v178 b (ix3 0 l j)
    = ((lanes (Spec.S (kk b 0) (Spec.deq (vv b 0)) (k.val + 1)) (Spec.S (kk b 1) (Spec.deq (vv b 1)) (k.val + 1)) l j : ℝ) : EReal) :=
  st_sem v170 v175 v176 v178 hm _ _ _ _ _ _ _ _ _ _ _ _ _ _ _ _ _ _
    (loads_sem kk qq vv row0 old arg7 arg8 arg9 arg10 arg11 arg12 arg13 X f7 f8 f9 f11 f12 f13 k hk hX hI b 0)
    (loads_sem kk qq vv row0 old arg7 arg8 arg9 arg10 arg11 arg12 arg13 X f7 f8 f9 f11 f12 f13 k hk hX hI b 1)
    (state_sem kk qq vv row0 old arg7 arg8 arg9 arg11 arg12 arg13 f7 f8 f9 f11 f12 f13 k hI b) l j

include hX hk hI in
theorem w12_sem (b : Fin 3) (h : Fin 2) (l : Fin 160) (t : Fin 128) : w12 arg10 arg12 X f12 k b h (ix4 0 0 l t) = Spec.Mb (kk b h) (k.val + 1) l :=
  m_sem _ _ _ _ _ _ _ _ _ (loads_sem kk qq vv row0 old arg7 arg8 arg9 arg10 arg11 arg12 arg13 X f7 f8 f9 f11 f12 f13 k hk hX hI b h) l t

include hX hk hI hm in
theorem w13_sem (b : Fin 3) (h : Fin 2) (l : Fin 160) (t : Fin 128) : w13 arg10 arg12 arg13 X f12 f13 k v175 v176 v178 b h (ix4 0 0 l t) = ((Spec.Z (kk b h) (k.val + 1) l : ℝ) : EReal) := by
  have l0 := loads_sem kk qq vv row0 old arg7 arg8 arg9 arg10 arg11 arg12 arg13 X f7 f8 f9 f11 f12 f13 k hk hX hI b 0
  have l1 := loads_sem kk qq vv row0 old arg7 arg8 arg9 arg10 arg11 arg12 arg13 X f7 f8 f9 f11 f12 f13 k hk hX hI b 1
  match h with
  | 0 => exact z0_sem v170 v175 v176 v178 hm _ _ _ _ _ _ _ _ _ _ _ _ _ _ _ _ _ l0 l1 l t
  | 1 => exact z1_sem v170 v175 v176 v178 hm _ _ _ _ _ _ _ _ _ _ _ _ _ _ _ _ _ l0 l1 l t

end

end Cert.KernelIdeal.Hand
-- ==== Proof.KI.Loop.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Inv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The chunk loop keeps the invariant. -/

section
variable (kk qq : Logits) (vv : Values) (row0 : ℕ) (old : S3x8x640.Idx → EReal)
variable (𝒱 : Variants) (c : Dev nD) (bd : Option 𝒱.V) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole) (v170 : IVec S128x128 1) (v175 : FVec Ideal S128x128 .bf16) (v176 : FVec Ideal S128x128 .bf16) (v178 : IVec S128x128 1) (v179 : IVec S8x128 32) (v181 : BitVec 32) (X : BufTy.Contents (Elt Ideal) arg10.view.ty) (k : Fin k0_t1_loop.trips)
variable (hk : k.val < 5) (hX : Proj kk qq vv (arg10.view.read (Elt Ideal) X))
variable (hm : Masks v170 v175 v178) (h179 : ∀ r t, v179 (ix2 r t) = BitVec.ofNat 32 r.val) (h181 : v181 = BitVec.ofNat 32 row0) (hrow : row0 ≤ 6)

include hk hX hm h179 h181 hrow in
/-- A chunk's writes take the invariant from `k` chunks to `k + 1`. -/
theorem step_sem (f7 : BufTy.Contents (Elt Ideal) arg7.view.ty) (f8 : BufTy.Contents (Elt Ideal) arg8.view.ty) (f9 : BufTy.Contents (Elt Ideal) arg9.view.ty) (f11 : BufTy.Contents (Elt Ideal) arg11.view.ty) (f12 : BufTy.Contents (Elt Ideal) arg12.view.ty) (f13 : BufTy.Contents (Elt Ideal) arg13.view.ty) (hI : BInv kk qq vv row0 old arg7 arg8 arg9 arg11 arg12 arg13 k.val f7 f8 f9 f11 f12 f13) :
    BInv kk qq vv row0 old arg7 arg8 arg9 arg11 arg12 arg13 (k.val + 1) (arg7.view.writes (Elt Ideal) f7 ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).1 f7 f8 f9 f11 f12 f13)) (arg8.view.writes (Elt Ideal) f8 ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.1 f7 f8 f9 f11 f12 f13)) (arg9.view.writes (Elt Ideal) f9 ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.2.1 f7 f8 f9 f11 f12 f13)) (arg11.view.writes (Elt Ideal) f11 ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.2.2.1 f7 f8 f9 f11 f12 f13)) (arg12.view.writes (Elt Ideal) f12 ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.2.2.2.1 f7 f8 f9 f11 f12 f13)) (arg13.view.writes (Elt Ideal) f13 ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.2.2.2.2.1 f7 f8 f9 f11 f12 f13)) where
  y b c' t j hc := by
    rw [list7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k f7 f8 f9 f11 f12 f13]
    by_cases hck : c'.val = k.val
    · have e : c' = ⟨k.val, hk⟩ := Fin.ext hck
      subst e
      exact (hitR arg7.view f7 (128 * k.val) _ _ _ _ _ _ (off10_eq k 2) (off10_eq k 1) (off10_eq k 0) (by norm_num)
        (w7 arg10 arg11 arg12 arg13 X f11 f12 f13 k v170 v175 v176 v178) b _ t rfl j).trans
        (w7_sem kk qq vv row0 old arg7 arg8 arg9 arg10 arg11 arg12 arg13 X f7 f8 f9 f11 f12 f13 k hk hX hI v170 v175 v176 v178 hm b t j)
    · have hb := b.isLt
      have htt := t.isLt
      refine (missR arg7.view f7 (128 * k.val) _ _ _ _ _ _ (off10_eq k 2) (off10_eq k 1) (off10_eq k 0)
        (w7 arg10 arg11 arg12 arg13 X f11 f12 f13 k v170 v175 v176 v178) _ j ?_).trans (hI.y b c' t j (by omega))
      intro b'
      have hb' := b'.isLt
      have hc5 := c'.isLt
      show 640 * b.val + 128 * c'.val + t.val < 640 * b'.val + 128 * k.val ∨ 640 * b'.val + 128 * k.val + 128 ≤ 640 * b.val + 128 * c'.val + t.val
      omega
  vc b h' d c' t hc := by
    rw [list8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k f7 f8 f9 f11 f12 f13]
    by_cases hck : c'.val = k.val
    · have e : c' = ⟨k.val, hk⟩ := Fin.ext hck
      subst e
      exact (hit6 arg8.view f8 (128 * k.val) _ _ _ _ _ _ _ _ _ _ _ _ (off16_eq k) (off15_eq k) (off13_eq k) (off12_eq k) (off5_eq k) (off3_eq k)
        (w8 arg10 X k) b h' d _ t rfl).trans (w8_sem kk qq vv row0 old arg7 arg8 arg9 arg10 arg11 arg12 arg13 X f7 f8 f9 f11 f12 f13 k hk hX hI b h' d t)
    · refine (miss6 arg8.view f8 (128 * k.val) _ _ _ _ _ _ _ _ _ _ _ _ (off16_eq k) (off15_eq k) (off13_eq k) (off12_eq k) (off5_eq k) (off3_eq k)
        (w8 arg10 X k) b h' d _ ?_).trans (hI.vc b h' d c' t (by omega))
      show 128 * c'.val + t.val < 128 * k.val ∨ 128 * k.val + 128 ≤ 128 * c'.val + t.val
      omega
  vs b r c' t := by
    rw [list9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k f7 f8 f9 f11 f12 f13]
    by_cases hck : c'.val = k.val
    · have e : c' = ⟨k.val, hk⟩ := Fin.ext hck
      subst e
      rw [if_pos (Nat.lt_succ_self _)]
      exact (hit3 arg9.view f9 (128 * k.val) _ _ _ _ _ _ (off14_eq k) (off11_eq k) (off1_eq k)
        (w9 arg9 arg10 X f9 k v179 v181) b r _ t rfl).trans (w9_sem kk qq vv row0 old arg7 arg8 arg9 arg10 arg11 arg12 arg13 X f7 f8 f9 f11 f12 f13 k hk hX hI v179 v181 h179 h181 hrow b r t)
    · have e : (c'.val < k.val + 1) = (c'.val < k.val) := propext (by omega)
      simp only [e]
      refine (miss3 arg9.view f9 (128 * k.val) _ _ _ _ _ _ (off14_eq k) (off11_eq k) (off1_eq k)
        (w9 arg9 arg10 X f9 k v179 v181) b r _ ?_).trans (hI.vs b r c' t)
      show 128 * c'.val + t.val < 128 * k.val ∨ 128 * k.val + 128 ≤ 128 * c'.val + t.val
      omega
  st b l j := by
    rw [list11 (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k f7 f8 f9 f11 f12 f13]
    exact (hit3 arg11.view f11 0 _ _ _ _ _ _ rfl rfl rfl (w11 arg10 arg11 arg12 X f11 f12 k v175 v176 v178) b l j j (Nat.zero_add _).symm).trans
      (w11_sem kk qq vv row0 old arg7 arg8 arg9 arg10 arg11 arg12 arg13 X f7 f8 f9 f11 f12 f13 k hk hX hI v170 v175 v176 v178 hm b l j)
  mx b h' l t := by
    rw [list12 (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k f7 f8 f9 f11 f12 f13]
    exact (hit6 arg12.view f12 0 _ _ _ _ _ _ _ _ _ _ _ _ rfl rfl rfl rfl rfl rfl (w12 arg10 arg12 X f12 k) b h' l t t (Nat.zero_add _).symm).trans
      (w12_sem kk qq vv row0 old arg7 arg8 arg9 arg10 arg11 arg12 arg13 X f7 f8 f9 f11 f12 f13 k hk hX hI b h' l t)
  z b h' l t := by
    rw [list13 (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k f7 f8 f9 f11 f12 f13]
    exact (hit6 arg13.view f13 0 _ _ _ _ _ _ _ _ _ _ _ _ rfl rfl rfl rfl rfl rfl (w13 arg10 arg12 arg13 X f12 f13 k v175 v176 v178) b h' l t t (Nat.zero_add _).symm).trans
      (w13_sem kk qq vv row0 old arg7 arg8 arg9 arg10 arg11 arg12 arg13 X f7 f8 f9 f11 f12 f13 k hk hX hI v170 v175 v176 v178 hm b h' l t)

/-- The invariant with the buffers it speaks of. -/
def LoopI (n : ℕ) : sProp 𝕄 :=
  iprop(∃ f7 f8 f9 f11 f12 f13, Held (F := Ideal) c arg10 arg7 arg8 arg9 arg11 arg12 arg13 X f7 f8 f9 f11 f12 f13 ∗ ⌜BInv kk qq vv row0 old arg7 arg8 arg9 arg11 arg12 arg13 n f7 f8 f9 f11 f12 f13⌝)

include hk hX hm h179 h181 hrow in
set_option maxHeartbeats 1000000 in
/-- One chunk, from the invariant to the invariant. -/
theorem step_wp (E : Set ℕ) : LoopI kk qq vv row0 old c arg7 arg8 arg9 arg10 arg11 arg12 arg13 X k.val
    ⊢ wp frame (wpE (defs₀ (F := Ideal)) 𝒱 (c : Thread nD τ) bd) E (k0_t1_body (F := Ideal) i arg1 harg1 arg2 harg2 arg3 harg3 arg4 harg4 arg5 harg5 arg6 harg6 arg7 harg7 arg8 harg8 arg9 harg9 arg10 harg10 arg11 harg11 arg12 harg12 arg13 harg13 v170 v175 v176 v178 v179 v181 k PUnit.unit)
        (fun _ => LoopI kk qq vv row0 old c arg7 arg8 arg9 arg10 arg11 arg12 arg13 X (k.val + 1)) := by
  unfold LoopI
  iintro ⟨%f7, %f8, %f9, %f11, %f12, %f13, H, %hI⟩
  iapply (wp_wand_r frame (wpE (defs₀ (F := Ideal)) 𝒱 (c : Thread nD τ) bd) E)
  isplitl [H]
  · iapply ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k).2.2.2.2.2.2 E f7 f8 f9 f11 f12 f13)
    iexact H
  · iintro %_ H
    iexists _, _, _, _, _, _
    isplitl [H]
    · iexact H
    ipureintro
    exact step_sem kk qq vv row0 old 𝒱 c bd i arg1 harg1 arg2 harg2 arg3 harg3 arg4 harg4 arg5 harg5 arg6 harg6 arg7 harg7 arg8 harg8 arg9 harg9 arg10 harg10 arg11 harg11 arg12 harg12 arg13 harg13 v170 v175 v176 v178 v179 v181 X k hk hX hm h179 h181 hrow f7 f8 f9 f11 f12 f13 hI

end

end Cert.KernelIdeal.Hand

end
-- ==== Proof.KI.Pro.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Inv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The projections that the kernel leaves in its scratch before the loop over the chunks. -/

/-- Rows stacked above each other, read in one of the pieces. -/
theorem catRow {N : ℕ} (xs : List ((s : Shape) × (s.Idx → EReal))) (h : Shape.Concatenates (xs.map (·.1)) (⟨2, ![768, N]⟩ : Shape) 0) (k : Fin 768) (t : Fin N)
    (p : ℕ) (hp : p < xs.length) (w : ℕ) (x : (⟨2, ![w, N]⟩ : Shape).Idx → EReal) (hx : xs[p] = ⟨⟨2, ![w, N]⟩, x⟩) (pre : ℕ)
    (hpre : (((xs.take p).map (·.1)).map fun s : Shape => if h : s.rank = 2 then s.size ((0 : Fin 2).cast h.symm) else 0).sum = pre)
    (i : Fin w) (hi : pre + i.val = k.val) : concatenate (⟨2, ![768, N]⟩ : Shape) 0 xs h (ix2 k t) = x (ix2 i t) := by
  refine concatenate_apply_piece (t := (⟨2, ![768, N]⟩ : Shape)) 0 xs h (ix2 k t) p hp ⟨2, ![w, N]⟩ x hx rfl pre hpre (ix2 i t) ?_ hi
  intro b hb
  match b with
  | 0 => exact absurd rfl hb
  | 1 => rfl

theorem merge160 (x : FVec Ideal S2x160x3584 .fp8e4m3) (h) (h' : Fin 2) (l : Fin 160) (d : Fin 3584) :
    shapeCast S320x3584 (shapeCast S2x160x3584 x shapeCasts_S2x160x3584_S2x160x3584) h (ix2 ⟨160 * h'.val + l.val, by omega⟩ d) = x (ix3 h' l d) := by
  have hh := h'.isLt
  have hl := l.isLt
  pointwise

theorem merge64 (x : FVec Ideal S2x64x3584 .fp8e4m3) (h) (h' : Fin 2) (l : Fin 64) (d : Fin 3584) :
    shapeCast S128x3584 (shapeCast S2x64x3584 x shapeCasts_S2x64x3584_S2x64x3584) h (ix2 ⟨64 * h'.val + l.val, by omega⟩ d) = x (ix3 h' l d) := by
  have hh := h'.isLt
  have hl := l.isLt
  pointwise

/-- The pieces that the stacked weights and scales are made of. -/
abbrev wPieces (a b : Vec Ideal S2x160x3584 .fp8e4m3) (v : Vec Ideal S2x64x3584 .fp8e4m3) : List ((s : Shape) × (s.Idx → EReal)) :=
  [⟨S320x3584, shapeCast S320x3584 (shapeCast S2x160x3584 a shapeCasts_S2x160x3584_S2x160x3584) shapeCasts_S2x160x3584_S320x3584⟩,
   ⟨S320x3584, shapeCast S320x3584 (shapeCast S2x160x3584 b shapeCasts_S2x160x3584_S2x160x3584) shapeCasts_S2x160x3584_S320x3584⟩,
   ⟨S128x3584, shapeCast S128x3584 (shapeCast S2x64x3584 v shapeCasts_S2x64x3584_S2x64x3584) shapeCasts_S2x64x3584_S128x3584⟩]
abbrev sPieces (a b c d : Vec Ideal S1x160x1 .f32) (v : Vec Ideal S1x128x1 .f32) : List ((s : Shape) × (s.Idx → EReal)) :=
  [⟨S160x1, shapeCast S160x1 a shapeCasts_S1x160x1_S160x1⟩, ⟨S160x1, shapeCast S160x1 b shapeCasts_S1x160x1_S160x1⟩,
   ⟨S160x1, shapeCast S160x1 c shapeCasts_S1x160x1_S160x1⟩, ⟨S160x1, shapeCast S160x1 d shapeCasts_S1x160x1_S160x1⟩,
   ⟨S128x1, shapeCast S128x1 v shapeCasts_S1x128x1_S128x1⟩]

/-- The stacked weights, row by row. -/
theorem w_q (a b : Vec Ideal S2x160x3584 .fp8e4m3) (v : Vec Ideal S2x64x3584 .fp8e4m3) (h : Fin 2) (l : Fin 160) (d : Fin 3584) :
    k0_pay223 a b v (ix2 ⟨160 * h.val + l.val, by omega⟩ d) = a (ix3 h l d) :=
  (catRow (wPieces a b v) concatenates_S320x3584_S320x3584_S128x3584_S768x3584_d0 _ d 0 (by simp [wPieces]) 320 _ rfl 0 rfl ⟨160 * h.val + l.val, by omega⟩ (Nat.zero_add _)).trans (merge160 a _ h l d)
theorem w_k (a b : Vec Ideal S2x160x3584 .fp8e4m3) (v : Vec Ideal S2x64x3584 .fp8e4m3) (h : Fin 2) (l : Fin 160) (d : Fin 3584) :
    k0_pay223 a b v (ix2 ⟨320 + 160 * h.val + l.val, by omega⟩ d) = b (ix3 h l d) :=
  (catRow (wPieces a b v) concatenates_S320x3584_S320x3584_S128x3584_S768x3584_d0 _ d 1 (by simp [wPieces]) 320 _ rfl 320 rfl ⟨160 * h.val + l.val, by omega⟩ (by show 320 + (160 * h.val + l.val) = 320 + 160 * h.val + l.val; omega)).trans (merge160 b _ h l d)
theorem w_v (a b : Vec Ideal S2x160x3584 .fp8e4m3) (v : Vec Ideal S2x64x3584 .fp8e4m3) (h : Fin 2) (l : Fin 64) (d : Fin 3584) :
    k0_pay223 a b v (ix2 ⟨640 + 64 * h.val + l.val, by omega⟩ d) = v (ix3 h l d) :=
  (catRow (wPieces a b v) concatenates_S320x3584_S320x3584_S128x3584_S768x3584_d0 _ d 2 (by simp [wPieces]) 128 _ rfl 640 rfl ⟨64 * h.val + l.val, by omega⟩ (by show 640 + (64 * h.val + l.val) = 640 + 64 * h.val + l.val; omega)).trans (merge64 v _ h l d)

theorem drop1 {n : ℕ} (x : (⟨3, ![1, n, 1]⟩ : Shape).Idx → EReal) (h) (l : Fin n) : shapeCast (⟨2, ![n, 1]⟩ : Shape) x h (ix2 l 0) = x (ix3 0 l 0) := by
  refine shapeCast_apply x h _ _ ?_
  simp [Shape.rowMajor_val_two, Shape.rowMajor_val_three]

/-- The stacked scales, row by row. -/
theorem s_q (a b c d : Vec Ideal S1x160x1 .f32) (v : Vec Ideal S1x128x1 .f32) (h : Fin 2) (l : Fin 160) :
    k0_pay224 a b c d v (ix2 ⟨160 * h.val + l.val, by omega⟩ 0) = (match h with | 0 => a | 1 => b) (ix3 0 l 0) := by
  match h with
  | 0 => exact (catRow (sPieces a b c d v) concatenates_S160x1_S160x1_S160x1_S160x1_S128x1_S768x1_d0 _ 0 0 (by simp [sPieces]) 160 _ rfl 0 rfl l (by simp)).trans (drop1 a _ l)
  | 1 => exact (catRow (sPieces a b c d v) concatenates_S160x1_S160x1_S160x1_S160x1_S128x1_S768x1_d0 _ 0 1 (by simp [sPieces]) 160 _ rfl 160 rfl l (by simp)).trans (drop1 b _ l)
theorem s_k (a b c d : Vec Ideal S1x160x1 .f32) (v : Vec Ideal S1x128x1 .f32) (h : Fin 2) (l : Fin 160) :
    k0_pay224 a b c d v (ix2 ⟨320 + 160 * h.val + l.val, by omega⟩ 0) = (match h with | 0 => c | 1 => d) (ix3 0 l 0) := by
  match h with
  | 0 => exact (catRow (sPieces a b c d v) concatenates_S160x1_S160x1_S160x1_S160x1_S128x1_S768x1_d0 _ 0 2 (by simp [sPieces]) 160 _ rfl 320 rfl l (by simp)).trans (drop1 c _ l)
  | 1 => exact (catRow (sPieces a b c d v) concatenates_S160x1_S160x1_S160x1_S160x1_S128x1_S768x1_d0 _ 0 3 (by simp [sPieces]) 160 _ rfl 480 rfl l (by simp)).trans (drop1 d _ l)
theorem s_v (a b c d : Vec Ideal S1x160x1 .f32) (v : Vec Ideal S1x128x1 .f32) (h : Fin 2) (l : Fin 64) :
    k0_pay224 a b c d v (ix2 ⟨640 + 64 * h.val + l.val, by omega⟩ 0) = v (ix3 0 ⟨64 * h.val + l.val, by omega⟩ 0) :=
  (catRow (sPieces a b c d v) concatenates_S160x1_S160x1_S160x1_S160x1_S128x1_S768x1_d0 _ 0 4 (by simp [sPieces]) 128 _ rfl 640 rfl ⟨64 * h.val + l.val, by omega⟩ (by show 640 + (64 * h.val + l.val) = 640 + 64 * h.val + l.val; omega)).trans (drop1 v _ _)

/-- The two products, entry by entry. -/
theorem mm512 (w : FVec Ideal S768x3584 .fp8e4m3) (x : FVec Ideal S512x3584 .fp8e4m3) (r : Fin 768) (n : Fin 512) :
    k0_pay231 w x (ix2 r n) = ∑ d : Fin 3584, w (ix2 r d) * x (ix2 n d) := by
  pointwise [k0_pay231]
theorem mm384 (w : FVec Ideal S768x3584 .fp8e4m3) (x : FVec Ideal S384x3584 .fp8e4m3) (r : Fin 768) (n : Fin 384) :
    k0_pay243 w x (ix2 r n) = ∑ d : Fin 3584, w (ix2 r d) * x (ix2 n d) := by
  pointwise [k0_pay243]

/-- One column of the projections: a slice of the product, times the tokens' scales, times the rows' scales. -/
theorem col {N : ℕ} (o : ℕ) (ho : o + 128 ≤ N) (A : (⟨2, ![768, N]⟩ : Shape).Idx → EReal) (X : FVec Ideal S1x128 .f32) (S : FVec Ideal S768x1 .f32) (h1) (r : Fin 768) (t : Fin 128) :
    shapeCast S768x128 (mulf (mulf (extractStridedSlice S768x128 ![0, o] (A : FVec Ideal (⟨2, ![768, N]⟩ : Shape) .f32) h1) (broadcastTo S768x128 X broadcasts_S1x128_S768x128))
      (broadcastTo S768x128 S broadcasts_S768x1_S768x128)) shapeCasts_S768x128_S768x128 (ix2 r t) = A (ix2 r ⟨o + t.val, by omega⟩) * X (ix2 0 t) * S (ix2 r 0) := by
  rw [shapeCast_self]
  show extractStridedSlice S768x128 ![0, o] (A : FVec Ideal (⟨2, ![768, N]⟩ : Shape) .f32) h1 (ix2 r t) * broadcastTo S768x128 X broadcasts_S1x128_S768x128 (ix2 r t) * broadcastTo S768x128 S broadcasts_S768x1_S768x128 (ix2 r t) = _
  have e1 : broadcastTo S768x128 X broadcasts_S1x128_S768x128 (ix2 r t) = X (ix2 0 t) := by pointwise
  have e2 : broadcastTo S768x128 S broadcasts_S768x1_S768x128 (ix2 r t) = S (ix2 r 0) := by pointwise
  have e3 : extractStridedSlice S768x128 ![0, o] (A : FVec Ideal (⟨2, ![768, N]⟩ : Shape) .f32) h1 (ix2 r t) = A (ix2 r ⟨o + t.val, by omega⟩) := by
    show A _ = A _
    congr 1
    funext x
    apply Fin.ext
    match x with
    | 0 => exact Nat.zero_add _
    | 1 => rfl
  rw [e1, e2, e3]

section
variable (arg1 : Memref sig .tc .vmem S1920x3584 .fp8e4m3) (harg1 : arg1.IsWhole) (arg2 : Memref sig .tc .vmem S3x640 .f32) (harg2 : arg2.IsWhole)
variable (x0 : Vec Ideal S1920x3584 .fp8e4m3) (x1 : Vec Ideal S3x640 .f32) (w : FVec Ideal S768x3584 .fp8e4m3) (s : FVec Ideal S768x1 .f32)

/-- A load of some rows of the codes, and of one chunk's scales. -/
theorem ldC_eq (n0 H : ℕ) (hH : n0 + H ≤ 1920) (inb) (n : Fin H) (d : Fin 3584) :
    View.readAt (Elt Ideal) arg1.view (Rect.unit (s := S1920x3584) ![n0, 0] ![H, 3584] inb).toLoadRect (harg1.unread x0) (ix2 n d) = x0 (ix2 ⟨n0 + n.val, by omega⟩ d) :=
  (readAt_unit _ _ _ rfl _ (ix2 ⟨n0 + n.val, by omega⟩ d) (fun x => by
    match x with
    | 0 => rfl
    | 1 => exact (Nat.zero_add _).symm)).trans (congrFun (harg1.read_unread x0) _)
theorem ldS_eq (b o : ℕ) (hb : b < 3) (ho : o + 128 ≤ 640) (inb) (t : Fin 128) :
    View.readAt (Elt Ideal) arg2.view (Rect.unit (s := S3x640) ![b, o] S1x128.size inb).toLoadRect (harg2.unread x1) (ix2 0 t) = x1 (ix2 ⟨b, hb⟩ ⟨o + t.val, by omega⟩) :=
  (readAt_unit _ _ _ rfl _ (ix2 ⟨b, hb⟩ ⟨o + t.val, by omega⟩) (fun x => by
    match x with
    | 0 => rfl
    | 1 => rfl)).trans (congrFun (harg2.read_unread x1) _)

/-- The projection of token `n` to row `r`, from the stacked weights and scales. -/
def projAt (b : Fin 3) (c : Fin 5) (r : Fin 768) (t : Fin 128) : EReal :=
  (∑ d : Fin 3584, w (ix2 r d) * x0 (ix2 ⟨640 * b.val + 128 * c.val + t.val, by omega⟩ d)) * x1 (ix2 b ⟨128 * c.val + t.val, by omega⟩) * s (ix2 r 0)

theorem col512 (bb : Fin 3) (cc : Fin 5) (n0 o b o' : ℕ) (hbb : b = bb.val) (hoc : o' = 128 * cc.val) (hno : n0 + o = 640 * bb.val + 128 * cc.val) (hn : n0 + 512 ≤ 1920) (ho : o + 128 ≤ 512) (inb inb' h1) (r : Fin 768) (t : Fin 128) :
    shapeCast S768x128 (mulf (mulf (extractStridedSlice S768x128 ![0, o] (k0_pay231 w (View.readAt (Elt Ideal) arg1.view (Rect.unit (s := S1920x3584) ![n0, 0] S512x3584.size inb).toLoadRect (harg1.unread x0))) h1)
      (broadcastTo S768x128 (View.readAt (Elt Ideal) arg2.view (Rect.unit (s := S3x640) ![b, o'] S1x128.size inb').toLoadRect (harg2.unread x1)) broadcasts_S1x128_S768x128))
      (broadcastTo S768x128 s broadcasts_S768x1_S768x128)) shapeCasts_S768x128_S768x128 (ix2 r t)
    = projAt x0 x1 w s bb cc r t := by
  subst hbb hoc
  refine (col o ho _ _ _ _ r t).trans ?_
  rw [mm512, ldS_eq arg2 harg2 x1 bb.val (128 * cc.val) bb.isLt (by omega) inb' t]
  unfold projAt
  congr 2
  refine Finset.sum_congr rfl fun d _ => congrArg (w (ix2 r d) * ·) ((ldC_eq arg1 harg1 x0 n0 512 hn inb ⟨o + t.val, by omega⟩ d).trans ?_)
  congr 2
  exact Fin.ext (by show n0 + (o + t.val) = _; rw [← Nat.add_assoc, hno])
theorem col384 (bb : Fin 3) (cc : Fin 5) (n0 o b o' : ℕ) (hbb : b = bb.val) (hoc : o' = 128 * cc.val) (hno : n0 + o = 640 * bb.val + 128 * cc.val) (hn : n0 + 384 ≤ 1920) (ho : o + 128 ≤ 384) (inb inb' h1) (r : Fin 768) (t : Fin 128) :
    shapeCast S768x128 (mulf (mulf (extractStridedSlice S768x128 ![0, o] (k0_pay243 w (View.readAt (Elt Ideal) arg1.view (Rect.unit (s := S1920x3584) ![n0, 0] S384x3584.size inb).toLoadRect (harg1.unread x0))) h1)
      (broadcastTo S768x128 (View.readAt (Elt Ideal) arg2.view (Rect.unit (s := S3x640) ![b, o'] S1x128.size inb').toLoadRect (harg2.unread x1)) broadcasts_S1x128_S768x128))
      (broadcastTo S768x128 s broadcasts_S768x1_S768x128)) shapeCasts_S768x128_S768x128 (ix2 r t)
    = projAt x0 x1 w s bb cc r t := by
  subst hbb hoc
  refine (col o ho _ _ _ _ r t).trans ?_
  rw [mm384, ldS_eq arg2 harg2 x1 bb.val (128 * cc.val) bb.isLt (by omega) inb' t]
  unfold projAt
  congr 2
  refine Finset.sum_congr rfl fun d _ => congrArg (w (ix2 r d) * ·) ((ldC_eq arg1 harg1 x0 n0 384 hn inb ⟨o + t.val, by omega⟩ d).trans ?_)
  congr 2
  exact Fin.ext (by show n0 + (o + t.val) = _; rw [← Nat.add_assoc, hno])

/-- The columns that the kernel stores, by their numbers. -/
def colW (j : Fin 15) : FVec Ideal S768x128 .f32 :=
  match j with
  | ⟨0, _⟩ => shapeCast S768x128 (mulf (mulf (extractStridedSlice S768x128 ![0, 0] (k0_pay231 w (View.readAt (Elt Ideal) arg1.view (Rect.unit (s := S1920x3584) ![0, 0] S512x3584.size inb_S1920x3584_S512x3584_0_0).toLoadRect (harg1.unread x0))) slices_S768x512_o0_0_S768x128) (broadcastTo S768x128 (View.readAt (Elt Ideal) arg2.view (Rect.unit (s := S3x640) ![0, 0] S1x128.size inb_S3x640_S1x128_0_0).toLoadRect (harg2.unread x1)) broadcasts_S1x128_S768x128)) (broadcastTo S768x128 s broadcasts_S768x1_S768x128)) shapeCasts_S768x128_S768x128
  | ⟨1, _⟩ => k0_pay228 s (k0_pay231 w (View.readAt (Elt Ideal) arg1.view (Rect.unit (s := S1920x3584) ![0, 0] S512x3584.size inb_S1920x3584_S512x3584_0_0).toLoadRect (harg1.unread x0))) (View.readAt (Elt Ideal) arg2.view (Rect.unit (s := S3x640) ![0, 128] S1x128.size inb_S3x640_S1x128_0_128).toLoadRect (harg2.unread x1))
  | ⟨2, _⟩ => k0_pay229 s (k0_pay231 w (View.readAt (Elt Ideal) arg1.view (Rect.unit (s := S1920x3584) ![0, 0] S512x3584.size inb_S1920x3584_S512x3584_0_0).toLoadRect (harg1.unread x0))) (View.readAt (Elt Ideal) arg2.view (Rect.unit (s := S3x640) ![0, 256] S1x128.size inb_S3x640_S1x128_0_256).toLoadRect (harg2.unread x1))
  | ⟨3, _⟩ => k0_pay230 s (k0_pay231 w (View.readAt (Elt Ideal) arg1.view (Rect.unit (s := S1920x3584) ![0, 0] S512x3584.size inb_S1920x3584_S512x3584_0_0).toLoadRect (harg1.unread x0))) (View.readAt (Elt Ideal) arg2.view (Rect.unit (s := S3x640) ![0, 384] S1x128.size inb_S3x640_S1x128_0_384).toLoadRect (harg2.unread x1))
  | ⟨4, _⟩ => k0_pay233 s (k0_pay232 w (View.readAt (Elt Ideal) arg1.view (Rect.unit (s := S1920x3584) ![512, 0] S512x3584.size inb_S1920x3584_S512x3584_512_0).toLoadRect (harg1.unread x0)) (View.readAt (Elt Ideal) arg2.view (Rect.unit (s := S3x640) ![0, 512] S1x128.size inb_S3x640_S1x128_0_512).toLoadRect (harg2.unread x1)))
  | ⟨5, _⟩ => k0_pay234 s (k0_pay231 w (View.readAt (Elt Ideal) arg1.view (Rect.unit (s := S1920x3584) ![512, 0] S512x3584.size inb_S1920x3584_S512x3584_512_0).toLoadRect (harg1.unread x0))) (View.readAt (Elt Ideal) arg2.view (Rect.unit (s := S3x640) ![1, 0] S1x128.size inb_S3x640_S1x128_1_0).toLoadRect (harg2.unread x1))
  | ⟨6, _⟩ => k0_pay235 s (k0_pay231 w (View.readAt (Elt Ideal) arg1.view (Rect.unit (s := S1920x3584) ![512, 0] S512x3584.size inb_S1920x3584_S512x3584_512_0).toLoadRect (harg1.unread x0))) (View.readAt (Elt Ideal) arg2.view (Rect.unit (s := S3x640) ![1, 128] S1x128.size inb_S3x640_S1x128_1_128).toLoadRect (harg2.unread x1))
  | ⟨7, _⟩ => k0_pay236 s (k0_pay231 w (View.readAt (Elt Ideal) arg1.view (Rect.unit (s := S1920x3584) ![512, 0] S512x3584.size inb_S1920x3584_S512x3584_512_0).toLoadRect (harg1.unread x0))) (View.readAt (Elt Ideal) arg2.view (Rect.unit (s := S3x640) ![1, 256] S1x128.size inb_S3x640_S1x128_1_256).toLoadRect (harg2.unread x1))
  | ⟨8, _⟩ => k0_pay239 s (View.readAt (Elt Ideal) arg2.view (Rect.unit (s := S3x640) ![1, 384] S1x128.size inb_S3x640_S1x128_1_384).toLoadRect (harg2.unread x1)) (k0_pay238 w (View.readAt (Elt Ideal) arg1.view (Rect.unit (s := S1920x3584) ![1024, 0] S512x3584.size inb_S1920x3584_S512x3584_1024_0).toLoadRect (harg1.unread x0)))
  | ⟨9, _⟩ => k0_pay240 s (k0_pay231 w (View.readAt (Elt Ideal) arg1.view (Rect.unit (s := S1920x3584) ![1024, 0] S512x3584.size inb_S1920x3584_S512x3584_1024_0).toLoadRect (harg1.unread x0))) (View.readAt (Elt Ideal) arg2.view (Rect.unit (s := S3x640) ![1, 512] S1x128.size inb_S3x640_S1x128_1_512).toLoadRect (harg2.unread x1))
  | ⟨10, _⟩ => k0_pay241 s (k0_pay231 w (View.readAt (Elt Ideal) arg1.view (Rect.unit (s := S1920x3584) ![1024, 0] S512x3584.size inb_S1920x3584_S512x3584_1024_0).toLoadRect (harg1.unread x0))) (View.readAt (Elt Ideal) arg2.view (Rect.unit (s := S3x640) ![2, 0] S1x128.size inb_S3x640_S1x128_2_0).toLoadRect (harg2.unread x1))
  | ⟨11, _⟩ => k0_pay242 s (k0_pay231 w (View.readAt (Elt Ideal) arg1.view (Rect.unit (s := S1920x3584) ![1024, 0] S512x3584.size inb_S1920x3584_S512x3584_1024_0).toLoadRect (harg1.unread x0))) (View.readAt (Elt Ideal) arg2.view (Rect.unit (s := S3x640) ![2, 128] S1x128.size inb_S3x640_S1x128_2_128).toLoadRect (harg2.unread x1))
  | ⟨12, _⟩ => k0_pay244 s (k0_pay243 w (View.readAt (Elt Ideal) arg1.view (Rect.unit (s := S1920x3584) ![1536, 0] S384x3584.size inb_S1920x3584_S384x3584_1536_0).toLoadRect (harg1.unread x0))) (View.readAt (Elt Ideal) arg2.view (Rect.unit (s := S3x640) ![2, 256] S1x128.size inb_S3x640_S1x128_2_256).toLoadRect (harg2.unread x1))
  | ⟨13, _⟩ => k0_pay245 s (k0_pay243 w (View.readAt (Elt Ideal) arg1.view (Rect.unit (s := S1920x3584) ![1536, 0] S384x3584.size inb_S1920x3584_S384x3584_1536_0).toLoadRect (harg1.unread x0))) (View.readAt (Elt Ideal) arg2.view (Rect.unit (s := S3x640) ![2, 384] S1x128.size inb_S3x640_S1x128_2_384).toLoadRect (harg2.unread x1))
  | ⟨14, _⟩ => k0_pay246 s (k0_pay243 w (View.readAt (Elt Ideal) arg1.view (Rect.unit (s := S1920x3584) ![1536, 0] S384x3584.size inb_S1920x3584_S384x3584_1536_0).toLoadRect (harg1.unread x0))) (View.readAt (Elt Ideal) arg2.view (Rect.unit (s := S3x640) ![2, 512] S1x128.size inb_S3x640_S1x128_2_512).toLoadRect (harg2.unread x1))

/-- Each column is the projection of its tokens. -/
theorem colW_eq (b : Fin 3) (c : Fin 5) (r : Fin 768) (t : Fin 128) : colW arg1 harg1 arg2 harg2 x0 x1 w s ⟨5 * b.val + c.val, by omega⟩ (ix2 r t) = projAt x0 x1 w s b c r t := by
  match b, c with
  | ⟨0, _⟩, ⟨0, _⟩ => exact col512 arg1 harg1 arg2 harg2 x0 x1 w s _ _ 0 0 0 0 rfl rfl rfl (by decide) (by decide) inb_S1920x3584_S512x3584_0_0 inb_S3x640_S1x128_0_0 slices_S768x512_o0_0_S768x128 r t
  | ⟨0, _⟩, ⟨1, _⟩ => exact col512 arg1 harg1 arg2 harg2 x0 x1 w s _ _ 0 128 0 128 rfl rfl rfl (by decide) (by decide) inb_S1920x3584_S512x3584_0_0 inb_S3x640_S1x128_0_128 slices_S768x512_o0_128_S768x128 r t
  | ⟨0, _⟩, ⟨2, _⟩ => exact col512 arg1 harg1 arg2 harg2 x0 x1 w s _ _ 0 256 0 256 rfl rfl rfl (by decide) (by decide) inb_S1920x3584_S512x3584_0_0 inb_S3x640_S1x128_0_256 slices_S768x512_o0_256_S768x128 r t
  | ⟨0, _⟩, ⟨3, _⟩ => exact col512 arg1 harg1 arg2 harg2 x0 x1 w s _ _ 0 384 0 384 rfl rfl rfl (by decide) (by decide) inb_S1920x3584_S512x3584_0_0 inb_S3x640_S1x128_0_384 slices_S768x512_o0_384_S768x128 r t
  | ⟨0, _⟩, ⟨4, _⟩ => exact col512 arg1 harg1 arg2 harg2 x0 x1 w s _ _ 512 0 0 512 rfl rfl rfl (by decide) (by decide) inb_S1920x3584_S512x3584_512_0 inb_S3x640_S1x128_0_512 slices_S768x512_o0_0_S768x128 r t
  | ⟨1, _⟩, ⟨0, _⟩ => exact col512 arg1 harg1 arg2 harg2 x0 x1 w s _ _ 512 128 1 0 rfl rfl rfl (by decide) (by decide) inb_S1920x3584_S512x3584_512_0 inb_S3x640_S1x128_1_0 slices_S768x512_o0_128_S768x128 r t
  | ⟨1, _⟩, ⟨1, _⟩ => exact col512 arg1 harg1 arg2 harg2 x0 x1 w s _ _ 512 256 1 128 rfl rfl rfl (by decide) (by decide) inb_S1920x3584_S512x3584_512_0 inb_S3x640_S1x128_1_128 slices_S768x512_o0_256_S768x128 r t
  | ⟨1, _⟩, ⟨2, _⟩ => exact col512 arg1 harg1 arg2 harg2 x0 x1 w s _ _ 512 384 1 256 rfl rfl rfl (by decide) (by decide) inb_S1920x3584_S512x3584_512_0 inb_S3x640_S1x128_1_256 slices_S768x512_o0_384_S768x128 r t
  | ⟨1, _⟩, ⟨3, _⟩ => exact col512 arg1 harg1 arg2 harg2 x0 x1 w s _ _ 1024 0 1 384 rfl rfl rfl (by decide) (by decide) inb_S1920x3584_S512x3584_1024_0 inb_S3x640_S1x128_1_384 slices_S768x512_o0_0_S768x128 r t
  | ⟨1, _⟩, ⟨4, _⟩ => exact col512 arg1 harg1 arg2 harg2 x0 x1 w s _ _ 1024 128 1 512 rfl rfl rfl (by decide) (by decide) inb_S1920x3584_S512x3584_1024_0 inb_S3x640_S1x128_1_512 slices_S768x512_o0_128_S768x128 r t
  | ⟨2, _⟩, ⟨0, _⟩ => exact col512 arg1 harg1 arg2 harg2 x0 x1 w s _ _ 1024 256 2 0 rfl rfl rfl (by decide) (by decide) inb_S1920x3584_S512x3584_1024_0 inb_S3x640_S1x128_2_0 slices_S768x512_o0_256_S768x128 r t
  | ⟨2, _⟩, ⟨1, _⟩ => exact col512 arg1 harg1 arg2 harg2 x0 x1 w s _ _ 1024 384 2 128 rfl rfl rfl (by decide) (by decide) inb_S1920x3584_S512x3584_1024_0 inb_S3x640_S1x128_2_128 slices_S768x512_o0_384_S768x128 r t
  | ⟨2, _⟩, ⟨2, _⟩ => exact col384 arg1 harg1 arg2 harg2 x0 x1 w s _ _ 1536 0 2 256 rfl rfl rfl (by decide) (by decide) inb_S1920x3584_S384x3584_1536_0 inb_S3x640_S1x128_2_256 slices_S768x384_o0_0_S768x128 r t
  | ⟨2, _⟩, ⟨3, _⟩ => exact col384 arg1 harg1 arg2 harg2 x0 x1 w s _ _ 1536 128 2 384 rfl rfl rfl (by decide) (by decide) inb_S1920x3584_S384x3584_1536_0 inb_S3x640_S1x128_2_384 slices_S768x384_o0_128_S768x128 r t
  | ⟨2, _⟩, ⟨4, _⟩ => exact col384 arg1 harg1 arg2 harg2 x0 x1 w s _ _ 1536 256 2 512 rfl rfl rfl (by decide) (by decide) inb_S1920x3584_S384x3584_1536_0 inb_S3x640_S1x128_2_512 slices_S768x384_o0_256_S768x128 r t

end

/-- Fifteen columns of a buffer, read in one of them. -/
theorem hit15 {sig : RefSig} {κ : Kind} {sp : Space} {e : EltTy} {Val : EltTy → Type} (v : View sig κ sp S768x1920 e) (f : v.ty.Contents Val) (W : Fin 15 → S768x128.Idx → Val e) (j : Fin 15) (r : Fin 768) (n : Fin 1920) (t : Fin 128) (hn : n.val = 128 * j.val + t.val) :
    v.read Val (v.writes Val f [⟨Rect.unit (s := S768x1920) ![0, 1792] S768x128.size inb_S768x1920_S768x128_0_1792, W 14⟩,
      ⟨Rect.unit (s := S768x1920) ![0, 1664] S768x128.size inb_S768x1920_S768x128_0_1664, W 13⟩,
      ⟨Rect.unit (s := S768x1920) ![0, 1536] S768x128.size inb_S768x1920_S768x128_0_1536, W 12⟩,
      ⟨Rect.unit (s := S768x1920) ![0, 1408] S768x128.size inb_S768x1920_S768x128_0_1408, W 11⟩,
      ⟨Rect.unit (s := S768x1920) ![0, 1280] S768x128.size inb_S768x1920_S768x128_0_1280, W 10⟩,
      ⟨Rect.unit (s := S768x1920) ![0, 1152] S768x128.size inb_S768x1920_S768x128_0_1152, W 9⟩,
      ⟨Rect.unit (s := S768x1920) ![0, 1024] S768x128.size inb_S768x1920_S768x128_0_1024, W 8⟩,
      ⟨Rect.unit (s := S768x1920) ![0, 896] S768x128.size inb_S768x1920_S768x128_0_896, W 7⟩,
      ⟨Rect.unit (s := S768x1920) ![0, 768] S768x128.size inb_S768x1920_S768x128_0_768, W 6⟩,
      ⟨Rect.unit (s := S768x1920) ![0, 640] S768x128.size inb_S768x1920_S768x128_0_640, W 5⟩,
      ⟨Rect.unit (s := S768x1920) ![0, 512] S768x128.size inb_S768x1920_S768x128_0_512, W 4⟩,
      ⟨Rect.unit (s := S768x1920) ![0, 384] S768x128.size inb_S768x1920_S768x128_0_384, W 3⟩,
      ⟨Rect.unit (s := S768x1920) ![0, 256] S768x128.size inb_S768x1920_S768x128_0_256, W 2⟩,
      ⟨Rect.unit (s := S768x1920) ![0, 128] S768x128.size inb_S768x1920_S768x128_0_128, W 1⟩,
      ⟨Rect.unit (s := S768x1920) ![0, 0] S768x128.size inb_S768x1920_S768x128_0_0, W 0⟩]) (ix2 r n) = W j (ix2 r t) := by
  have htt := t.isLt
  have key : ∀ x : Fin 2, ((ix2 r n : S768x1920.Idx) x).val = (![0, 128 * j.val] : Fin 2 → ℕ) x + ((ix2 r t : S768x128.Idx) x).val := by
    intro x
    match x with
    | 0 => exact (Nat.zero_add _).symm
    | 1 => exact hn
  revert key hn
  match j with
  | ⟨0, _⟩ =>
    intro hn key
    iterate 14 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨1, _⟩ =>
    intro hn key
    iterate 13 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨2, _⟩ =>
    intro hn key
    iterate 12 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨3, _⟩ =>
    intro hn key
    iterate 11 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨4, _⟩ =>
    intro hn key
    iterate 10 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨5, _⟩ =>
    intro hn key
    iterate 9 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨6, _⟩ =>
    intro hn key
    iterate 8 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨7, _⟩ =>
    intro hn key
    iterate 7 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨8, _⟩ =>
    intro hn key
    iterate 6 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨9, _⟩ =>
    intro hn key
    iterate 5 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨10, _⟩ =>
    intro hn key
    iterate 4 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨11, _⟩ =>
    intro hn key
    iterate 3 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨12, _⟩ =>
    intro hn key
    iterate 2 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨13, _⟩ =>
    intro hn key
    iterate 1 refine (View.read_writes_cons_unit_of_not_mem _ _ _ _ _ _ rfl (1 : Fin 2) (Or.inl (by show n.val < _; rw [hn]; dsimp; omega))).trans ?_
    exact View.read_writes_cons_unit_of_mem _ _ _ _ _ _ _ rfl key
  | ⟨14, _⟩ =>
    intro hn key
    exact View.read_writes_cons_unit_of_mem _ _ _ _ _ _ _ rfl key

end Cert.KernelIdeal.Hand

end
-- ==== Proof.KI.Init.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Loop
public import proofs.«01_k».proof.Proof.KI.Pro

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The kernel body's values: what one grid point leaves in its three output windows. -/

/-- The results of one point: the outputs of the group's two heads, their codes, and the rows of scales. -/
def yVec (kk qq : Logits) (vv : Values) : S1920x128.Idx → EReal := fun i =>
  ((yAt kk qq vv ⟨(i 0).val / 640, Nat.div_lt_of_lt_mul (i 0).isLt⟩ ((i 0).val % 640 / 128) ⟨(i 0).val % 640 % 128, Nat.mod_lt _ (by norm_num)⟩ (i 1) : ℝ) : EReal)
def vcVec (vv : Values) : S3x2x64x640.Idx → EReal := fun i =>
  Spec.code (vv (i 0) (i 1) ((i 3).val / 128) ⟨(i 3).val % 128, Nat.mod_lt _ (by norm_num)⟩) (i 2)
def vsVec (vv : Values) (row0 : ℕ) (old : S3x8x640.Idx → EReal) : S3x8x640.Idx → EReal := fun i =>
  vsAt vv row0 (old i) (i 0) (i 1) ((i 2).val / 128) ⟨(i 2).val % 128, Nat.mod_lt _ (by norm_num)⟩

theorem LInv.y_eq {kk qq vv row0 old y vc vs st mx z} (h : LInv kk qq vv row0 old 5 y vc vs st mx z) : y = yVec kk qq vv := by
  funext i
  obtain ⟨r, j, rfl⟩ : ∃ (r : Fin 1920) (j : Fin 128), i = ix2 r j := ⟨i 0, i 1, eq_ix2 i⟩
  have hr := r.isLt
  have e := h.y ⟨r.val / 640, by omega⟩ ⟨r.val % 640 / 128, by omega⟩ ⟨r.val % 640 % 128, by omega⟩ j (by show r.val % 640 / 128 < 5; omega)
  rw [show (⟨640 * (r.val / 640) + 128 * (r.val % 640 / 128) + r.val % 640 % 128, by omega⟩ : Fin 1920) = r from Fin.ext (by show 640 * (r.val / 640) + 128 * (r.val % 640 / 128) + r.val % 640 % 128 = r.val; omega)] at e
  exact e

theorem LInv.vc_eq {kk qq vv row0 old y vc vs st mx z} (h : LInv kk qq vv row0 old 5 y vc vs st mx z) : vc = vcVec vv := by
  funext i
  obtain ⟨b, h', d, n, rfl⟩ : ∃ (b : Fin 3) (h' : Fin 2) (d : Fin 64) (n : Fin 640), i = ix4 b h' d n := ⟨i 0, i 1, i 2, i 3, eq_ix4 i⟩
  have hr := n.isLt
  have e := h.vc b h' d ⟨n.val / 128, by omega⟩ ⟨n.val % 128, by omega⟩ (by show n.val / 128 < 5; omega)
  rw [show (⟨128 * (n.val / 128) + n.val % 128, by omega⟩ : Fin 640) = n from Fin.ext (by show 128 * (n.val / 128) + n.val % 128 = n.val; omega)] at e
  exact e

theorem LInv.vs_eq {kk qq vv row0 old y vc vs st mx z} (h : LInv kk qq vv row0 old 5 y vc vs st mx z) : vs = vsVec vv row0 old := by
  funext i
  obtain ⟨b, r, n, rfl⟩ : ∃ (b : Fin 3) (r : Fin 8) (n : Fin 640), i = ix3 b r n := ⟨i 0, i 1, i 2, eq_ix3 i⟩
  have hr := n.isLt
  have e := h.vs b r ⟨n.val / 128, by omega⟩ ⟨n.val % 128, by omega⟩
  rw [if_pos (by show n.val / 128 < 5; omega), show (⟨128 * (n.val / 128) + n.val % 128, by omega⟩ : Fin 640) = n from Fin.ext (by show 128 * (n.val / 128) + n.val % 128 = n.val; omega)] at e
  exact e

theorem iota2_0 (t s : Fin 128) : iota .tc S128x128 32 [0] iota_S128x128_d0_w32 (ix2 t s) = BitVec.ofNat 32 t.val :=
  iota_single_apply _ _ _ _ _ _
theorem iota2_1 (t s : Fin 128) : iota .tc S128x128 32 [1] iota_S128x128_d1_w32 (ix2 t s) = BitVec.ofNat 32 s.val :=
  iota_single_apply _ _ _ _ _ _

/-- The loop's masks. -/
theorem masks : Masks k0_pay247 (k0_pay248 (F := Ideal)) k0_pay250 where
  causal t s := by
    have ht := t.isLt
    have hs := s.isLt
    have e : k0_pay247 (ix2 t s) = IntOp.cmpi .sge (BitVec.ofNat 32 t.val) (BitVec.ofNat 32 s.val) :=
      congrArg₂ (IntOp.cmpi .sge) (iota2_0 t s) (iota2_1 t s)
    rw [e, WordCmp.cmpi_sge_ofNat (by omega) (by omega)]
    by_cases h : s ≤ t
    · rw [if_pos h, decide_eq_true (Fin.le_def.1 h)]; rfl
    · rw [if_neg h, decide_eq_false (fun h' => h (Fin.le_def.2 h'))]; rfl
  triu s t := by
    have ht := t.isLt
    have hs := s.isLt
    have e : k0_pay248 (F := Ideal) (ix2 s t) = Scalar.select (IntOp.cmpi .sle (BitVec.ofNat 32 s.val) (BitVec.ofNat 32 t.val)) (Ideal.ofBits .f32 0x3F800000#32) (Ideal.ofBits .f32 0x00000000#32) :=
      congrArg (fun w => Scalar.select w _ _) (congrArg₂ (IntOp.cmpi .sle) (iota2_0 s t) (iota2_1 s t))
    rw [e, WordCmp.cmpi_sle_ofNat (by omega) (by omega), Spec.select_ofBool]
    by_cases h : s ≤ t
    · rw [if_pos h, if_pos (decide_eq_true (Fin.le_def.1 h))]; exact Ideal.ofBits_one_f32
    · rw [if_neg h, if_neg (fun h' => h (Fin.le_def.2 (of_decide_eq_true h')))]; exact Ideal.ofBits_zero_f32
  fh t j := by
    have hj := j.isLt
    have e : k0_pay250 (ix2 t j) = IntOp.cmpi .slt (BitVec.ofNat 32 j.val) 64#32 :=
      congrArg (fun w => IntOp.cmpi .slt w 64#32) (iota2_1 t j)
    rw [e, show (64#32 : BitVec 32) = BitVec.ofNat 32 64 from rfl, WordCmp.cmpi_slt_ofNat (by omega) (by omega)]
    by_cases h : j.val < 64
    · rw [if_pos h, decide_eq_true h]; rfl
    · rw [if_neg h, decide_eq_false h]; rfl

section
variable (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole)
    (x0 : Vec Ideal S1920x3584 .fp8e4m3) (x1 : Vec Ideal S3x640 .f32) (x2 : Vec Ideal S2x160x3584 .fp8e4m3) (x3 : Vec Ideal S2x160x3584 .fp8e4m3) (x4 : Vec Ideal S2x64x3584 .fp8e4m3) (x5 : Vec Ideal S1x160x5 .f32)

/-- The stacked weights and scales as the body loads them. -/
def wAll : FVec Ideal S768x3584 .fp8e4m3 := (k0_pay223 (View.readAt (Elt Ideal) arg3.view (Rect.unit (s := S2x160x3584) ![0, 0, 0] S2x160x3584.size inb_S2x160x3584_S2x160x3584_0_0_0).toLoadRect (harg3.unread x2)) (View.readAt (Elt Ideal) arg4.view (Rect.unit (s := S2x160x3584) ![0, 0, 0] S2x160x3584.size inb_S2x160x3584_S2x160x3584_0_0_0).toLoadRect (harg4.unread x3)) (View.readAt (Elt Ideal) arg5.view (Rect.unit (s := S2x64x3584) ![0, 0, 0] S2x64x3584.size inb_S2x64x3584_S2x64x3584_0_0_0).toLoadRect (harg5.unread x4)))
def sAll : FVec Ideal S768x1 .f32 := (k0_pay224 (View.readAt (Elt Ideal) arg6.view (Rect.unit (s := S1x160x5) ![0, 0, 0] S1x160x1.size inb_S1x160x5_S1x160x1_0_0_0).toLoadRect (harg6.unread x5)) (View.readAt (Elt Ideal) arg6.view (Rect.unit (s := S1x160x5) ![0, 0, 1] S1x160x1.size inb_S1x160x5_S1x160x1_0_0_1).toLoadRect (harg6.unread x5)) (View.readAt (Elt Ideal) arg6.view (Rect.unit (s := S1x160x5) ![0, 0, 2] S1x160x1.size inb_S1x160x5_S1x160x1_0_0_2).toLoadRect (harg6.unread x5)) (View.readAt (Elt Ideal) arg6.view (Rect.unit (s := S1x160x5) ![0, 0, 3] S1x160x1.size inb_S1x160x5_S1x160x1_0_0_3).toLoadRect (harg6.unread x5)) (View.readAt (Elt Ideal) arg6.view (Rect.unit (s := S1x160x5) ![0, 0, 4] S1x128x1.size inb_S1x160x5_S1x128x1_0_0_4).toLoadRect (harg6.unread x5)))

/-- The projections of the point's blocks are the logits and the values. -/
structure Blocks (kk qq : Logits) (vv : Values) : Prop where
  q : ∀ (b : Fin 3) (h : Fin 2) (c : Fin 5) (l : Fin 160) (t : Fin 128), (∑ d : Fin 3584, x2 (ix3 h l d) * x0 (ix2 ⟨640 * b.val + 128 * c.val + t.val, by omega⟩ d)) * x1 (ix2 b ⟨128 * c.val + t.val, by omega⟩) * x5 (ix3 0 l ⟨h.val, by omega⟩) = ((qq b h c l t : ℝ) : EReal)
  k : ∀ (b : Fin 3) (h : Fin 2) (c : Fin 5) (l : Fin 160) (t : Fin 128), (∑ d : Fin 3584, x3 (ix3 h l d) * x0 (ix2 ⟨640 * b.val + 128 * c.val + t.val, by omega⟩ d)) * x1 (ix2 b ⟨128 * c.val + t.val, by omega⟩) * x5 (ix3 0 l ⟨2 + h.val, by omega⟩) = ((kk b h c l t : ℝ) : EReal)
  v : ∀ (b : Fin 3) (h : Fin 2) (c : Fin 5) (d' : Fin 64) (t : Fin 128), (∑ d : Fin 3584, x4 (ix3 h d' d) * x0 (ix2 ⟨640 * b.val + 128 * c.val + t.val, by omega⟩ d)) * x1 (ix2 b ⟨128 * c.val + t.val, by omega⟩) * x5 (ix3 0 ⟨64 * h.val + d'.val, by omega⟩ 4) = vv b h c t d'

theorem ldWhole3 {A B C : ℕ} (arg : Memref sig .tc .vmem (⟨3, ![A, B, C]⟩ : Shape) .fp8e4m3) (harg : arg.IsWhole) (x : Vec Ideal (⟨3, ![A, B, C]⟩ : Shape) .fp8e4m3) (inb) (a : Fin A) (b : Fin B) (c : Fin C) :
    View.readAt (Elt Ideal) arg.view (Rect.unit (s := (⟨3, ![A, B, C]⟩ : Shape)) ![0, 0, 0] (⟨3, ![A, B, C]⟩ : Shape).size inb).toLoadRect (harg.unread x) (ix3 a b c) = x (ix3 a b c) :=
  (readAt_unit _ _ _ rfl _ (ix3 a b c) (fun x => by
    match x with
    | 0 => exact (Nat.zero_add _).symm
    | 1 => exact (Nat.zero_add _).symm
    | 2 => exact (Nat.zero_add _).symm)).trans (congrFun (harg.read_unread x) _)

theorem ldCol (n : ℕ) (j : Fin 5) (hn : n ≤ 160) (inb) (l : Fin n) :
    View.readAt (Elt Ideal) arg6.view (Rect.unit (s := S1x160x5) ![0, 0, j.val] ![1, n, 1] inb).toLoadRect (harg6.unread x5) (ix3 0 l 0) = x5 (ix3 0 ⟨l.val, by omega⟩ j) :=
  (readAt_unit _ _ _ rfl _ (ix3 0 ⟨l.val, by omega⟩ j) (fun x => by
    match x with
    | 0 => rfl
    | 1 => exact (Nat.zero_add _).symm
    | 2 => rfl)).trans (congrFun (harg6.read_unread x5) _)

/-- What the scratch holds when the loop starts. -/
def pro (W : Fin 15 → S768x128.Idx → EReal) : List (View.Piece (Elt Ideal) S768x1920 .f32) := [⟨Rect.unit (s := S768x1920) ![0, 1792] S768x128.size inb_S768x1920_S768x128_0_1792, W 14⟩,
      ⟨Rect.unit (s := S768x1920) ![0, 1664] S768x128.size inb_S768x1920_S768x128_0_1664, W 13⟩,
      ⟨Rect.unit (s := S768x1920) ![0, 1536] S768x128.size inb_S768x1920_S768x128_0_1536, W 12⟩,
      ⟨Rect.unit (s := S768x1920) ![0, 1408] S768x128.size inb_S768x1920_S768x128_0_1408, W 11⟩,
      ⟨Rect.unit (s := S768x1920) ![0, 1280] S768x128.size inb_S768x1920_S768x128_0_1280, W 10⟩,
      ⟨Rect.unit (s := S768x1920) ![0, 1152] S768x128.size inb_S768x1920_S768x128_0_1152, W 9⟩,
      ⟨Rect.unit (s := S768x1920) ![0, 1024] S768x128.size inb_S768x1920_S768x128_0_1024, W 8⟩,
      ⟨Rect.unit (s := S768x1920) ![0, 896] S768x128.size inb_S768x1920_S768x128_0_896, W 7⟩,
      ⟨Rect.unit (s := S768x1920) ![0, 768] S768x128.size inb_S768x1920_S768x128_0_768, W 6⟩,
      ⟨Rect.unit (s := S768x1920) ![0, 640] S768x128.size inb_S768x1920_S768x128_0_640, W 5⟩,
      ⟨Rect.unit (s := S768x1920) ![0, 512] S768x128.size inb_S768x1920_S768x128_0_512, W 4⟩,
      ⟨Rect.unit (s := S768x1920) ![0, 384] S768x128.size inb_S768x1920_S768x128_0_384, W 3⟩,
      ⟨Rect.unit (s := S768x1920) ![0, 256] S768x128.size inb_S768x1920_S768x128_0_256, W 2⟩,
      ⟨Rect.unit (s := S768x1920) ![0, 128] S768x128.size inb_S768x1920_S768x128_0_128, W 1⟩,
      ⟨Rect.unit (s := S768x1920) ![0, 0] S768x128.size inb_S768x1920_S768x128_0_0, W 0⟩]

variable (kk qq : Logits) (vv : Values)

theorem proj_sem (hB : Blocks x0 x1 x2 x3 x4 x5 kk qq vv) (f : BufTy.Contents (Elt Ideal) arg10.view.ty) :
    Proj kk qq vv (arg10.view.read (Elt Ideal) (arg10.view.writes (Elt Ideal) f (pro (colW arg1 harg1 arg2 harg2 x0 x1 (wAll arg3 harg3 arg4 harg4 arg5 harg5 x2 x3 x4) (sAll arg6 harg6 x5))))) where
  q b h c l t := by
    refine (hit15 arg10.view f _ ⟨5 * b.val + c.val, by omega⟩ _ _ t (by show 640 * b.val + 128 * c.val + t.val = 128 * (5 * b.val + c.val) + t.val; omega)).trans ?_
    rw [colW_eq]
    unfold projAt
    refine Eq.trans ?_ (hB.q b h c l t)
    congr 1
    · congr 1
      exact Finset.sum_congr rfl fun d _ => congrArg (· * _) ((w_q _ _ _ h l d).trans (ldWhole3 arg3 harg3 x2 _ h l d))
    · refine (s_q _ _ _ _ _ h l).trans ?_
      match h with
      | 0 => exact ldCol arg6 harg6 x5 160 0 (by norm_num) _ l
      | 1 => exact ldCol arg6 harg6 x5 160 1 (by norm_num) _ l
  k b h c l t := by
    refine (hit15 arg10.view f _ ⟨5 * b.val + c.val, by omega⟩ _ _ t (by show 640 * b.val + 128 * c.val + t.val = 128 * (5 * b.val + c.val) + t.val; omega)).trans ?_
    rw [colW_eq]
    unfold projAt
    refine Eq.trans ?_ (hB.k b h c l t)
    congr 1
    · congr 1
      exact Finset.sum_congr rfl fun d _ => congrArg (· * _) ((w_k _ _ _ h l d).trans (ldWhole3 arg4 harg4 x3 _ h l d))
    · refine (s_k _ _ _ _ _ h l).trans ?_
      match h with
      | 0 => exact ldCol arg6 harg6 x5 160 2 (by norm_num) _ l
      | 1 => exact ldCol arg6 harg6 x5 160 3 (by norm_num) _ l
  v b h c l t := by
    refine (hit15 arg10.view f _ ⟨5 * b.val + c.val, by omega⟩ _ _ t (by show 640 * b.val + 128 * c.val + t.val = 128 * (5 * b.val + c.val) + t.val; omega)).trans ?_
    rw [colW_eq]
    unfold projAt
    refine Eq.trans ?_ (hB.v b h c l t)
    congr 1
    · congr 1
      exact Finset.sum_congr rfl fun d _ => congrArg (· * _) ((w_v _ _ _ h l d).trans (ldWhole3 arg5 harg5 x4 _ h l d))
    · exact (s_v _ _ _ _ _ h l).trans (ldCol arg6 harg6 x5 128 4 (by norm_num) _ ⟨64 * h.val + l.val, by omega⟩)

/-- The invariant before the first chunk. -/
theorem init_sem (row0 : ℕ) (x9 : S3x8x640.Idx → EReal) (g7 : BufTy.Contents (Elt Ideal) arg7.view.ty) (g8 : BufTy.Contents (Elt Ideal) arg8.view.ty)
    (f11 : BufTy.Contents (Elt Ideal) arg11.view.ty) (f12 : BufTy.Contents (Elt Ideal) arg12.view.ty) (f13 : BufTy.Contents (Elt Ideal) arg13.view.ty) :
    BInv kk qq vv row0 x9 arg7 arg8 arg9 arg11 arg12 arg13 0 g7 g8 (harg9.unread x9)
      (arg11.view.writes (Elt Ideal) f11 [⟨Rect.unit (s := S3x160x128) ![0, 0, 0] S3x160x128.size inb_S3x160x128_S3x160x128_0_0_0, k0_pay4 (F := Ideal)⟩])
      (arg12.view.writes (Elt Ideal) f12 [⟨Rect.unit (s := S3x2x160x128) ![0, 0, 0, 0] S3x2x160x128.size inb_S3x2x160x128_S3x2x160x128_0_0_0_0, k0_pay6 (F := Ideal)⟩])
      (arg13.view.writes (Elt Ideal) f13 [⟨Rect.unit (s := S3x2x160x128) ![0, 0, 0, 0] S3x2x160x128.size inb_S3x2x160x128_S3x2x160x128_0_0_0_0, k0_pay5 (F := Ideal)⟩]) where
  y b c t j hc := absurd hc (Nat.not_lt_zero _)
  vc b h d c t hc := absurd hc (Nat.not_lt_zero _)
  vs b r c t := by
    rw [if_neg (Nat.not_lt_zero c.val)]
    exact congrFun (harg9.read_unread (Val := Elt Ideal) x9) _
  st b l j := by
    refine (View.read_writes_cons_unit_of_mem _ _ _ _ _ _ (ix3 b l j) rfl (fun x => by
      match x with
      | 0 => exact (Nat.zero_add _).symm
      | 1 => exact (Nat.zero_add _).symm
      | 2 => exact (Nat.zero_add _).symm)).trans ?_
    have e : lanes (Spec.S (kk b 0) (Spec.deq (vv b 0)) 0) (Spec.S (kk b 1) (Spec.deq (vv b 1)) 0) l j = 0 := by
      unfold lanes; split_ifs <;> rfl
    rw [e]
    show shapeCast S3x160x128 (broadcast S3x160x128 (Ideal.ofBits .f32 0x00000000#32)) shapeCasts_S3x160x128_S3x160x128 (ix3 b l j) = _
    rw [shapeCast_self]
    exact Ideal.ofBits_zero_f32
  mx b h l t := by
    refine (View.read_writes_cons_unit_of_mem _ _ _ _ _ _ (ix4 b h l t) rfl (fun x => by
      match x with
      | 0 => exact (Nat.zero_add _).symm
      | 1 => exact (Nat.zero_add _).symm
      | 2 => exact (Nat.zero_add _).symm
      | 3 => exact (Nat.zero_add _).symm)).trans ?_
    show shapeCast S3x2x160x128 (broadcast S3x2x160x128 (Ideal.ofBits .f32 0xFF800000#32)) shapeCasts_S3x2x160x128_S3x2x160x128 (ix4 b h l t) = ⊥
    rw [shapeCast_self]
    exact Spec.ofBits_negInf
  z b h l t := by
    refine (View.read_writes_cons_unit_of_mem _ _ _ _ _ _ (ix4 b h l t) rfl (fun x => by
      match x with
      | 0 => exact (Nat.zero_add _).symm
      | 1 => exact (Nat.zero_add _).symm
      | 2 => exact (Nat.zero_add _).symm
      | 3 => exact (Nat.zero_add _).symm)).trans ?_
    show shapeCast S3x2x160x128 (broadcast S3x2x160x128 (Ideal.ofBits .f32 0x00000000#32)) shapeCasts_S3x2x160x128_S3x2x160x128 (ix4 b h l t) = ((0 : ℝ) : EReal)
    rw [shapeCast_self]
    exact Ideal.ofBits_zero_f32

end

end Cert.KernelIdeal.Hand

end
-- ==== Proof.KI.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Loop
public import proofs.«01_k».proof.Proof.KI.Init

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The kernel body's triple with its values. -/

theorem v179_eq (r : Fin 8) (t : Fin 128) : iota .tc S8x128 32 [0] iota_S8x128_d0_w32 (ix2 r t) = BitVec.ofNat 32 r.val :=
  iota_single_apply _ _ _ _ _ _

theorem v181_all : ∀ n : Fin 28, Scalar.muli (Scalar.remsi (BitVec.ofNat 32 n.val) 4#32) 2#32 = BitVec.ofNat 32 (2 * (n.val % 4)) := by decide

set_option maxHeartbeats 4000000 in
/-- One grid point, from its input blocks and what the window of scales holds to its three results. -/
theorem body_run (c : Dev nD) (i : grid0.Coords) (arg1 : Memref sig .tc .vmem S1920x3584 .fp8e4m3) (harg1 : arg1.IsWhole) (arg2 : Memref sig .tc .vmem S3x640 .f32) (harg2 : arg2.IsWhole) (arg3 : Memref sig .tc .vmem S2x160x3584 .fp8e4m3) (harg3 : arg3.IsWhole) (arg4 : Memref sig .tc .vmem S2x160x3584 .fp8e4m3) (harg4 : arg4.IsWhole) (arg5 : Memref sig .tc .vmem S2x64x3584 .fp8e4m3) (harg5 : arg5.IsWhole) (arg6 : Memref sig .tc .vmem S1x160x5 .f32) (harg6 : arg6.IsWhole) (arg7 : Memref sig .tc .vmem S1920x128 .bf16) (harg7 : arg7.IsWhole) (arg8 : Memref sig .tc .vmem S3x2x64x640 .fp8e4m3) (harg8 : arg8.IsWhole) (arg9 : Memref sig .tc .vmem S3x8x640 .f32) (harg9 : arg9.IsWhole) (arg10 : Memref sig .tc .vmem S768x1920 .f32) (harg10 : arg10.IsWhole) (arg11 : Memref sig .tc .vmem S3x160x128 .f32) (harg11 : arg11.IsWhole) (arg12 : Memref sig .tc .vmem S3x2x160x128 .f32) (harg12 : arg12.IsWhole) (arg13 : Memref sig .tc .vmem S3x2x160x128 .f32) (harg13 : arg13.IsWhole)
    (x0 : Vec Ideal S1920x3584 .fp8e4m3) (x1 : Vec Ideal S3x640 .f32) (x2 : Vec Ideal S2x160x3584 .fp8e4m3) (x3 : Vec Ideal S2x160x3584 .fp8e4m3) (x4 : Vec Ideal S2x64x3584 .fp8e4m3) (x5 : Vec Ideal S1x160x5 .f32)
    (x9 : S3x8x640.Idx → EReal) (kk qq : Logits) (vv : Values) (hB : Blocks x0 x1 x2 x3 x4 x5 kk qq vv) (row0 : ℕ) (hrow : row0 = 2 * ((i 0).val % 4)) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yVec kk qq vv) ∗ owns (c : Thread nD τ) arg8 fullShare (vcVec vv) ∗ owns (c : Thread nD τ) arg9 fullShare (vsVec vv row0 x9) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := Ideal)) Variants.none c none) E (cc0_latte i arg1 harg1 arg2 harg2 arg3 harg3 arg4 harg4 arg5 harg5 arg6 harg6 arg7 harg7 arg8 harg8 arg9 harg9 arg10 harg10 arg11 harg11 arg12 harg12 arg13 harg13) K := by
    intro E K
    have h6 : row0 ≤ 6 := by omega
    have h181 : Scalar.muli (Scalar.remsi (BitVec.ofNat 32 (i 0).val) 4#32) 2#32 = BitVec.ofNat 32 row0 := by
      rw [hrow]; exact v181_all (i 0)
    have hX := proj_sem arg1 harg1 arg2 harg2 arg3 harg3 arg4 harg4 arg5 harg5 arg6 harg6 arg10 x0 x1 x2 x3 x4 x5 kk qq vv hB arg10.view.junk
    simp only [cc0_latte_eq_skeleton]; unfold cc0_latte_skel
    simp only [k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8
    sl_exec
    sl_for (fun (n : ℕ) (_ : PUnit.{1}) => LoopI kk qq vv row0 x9 c arg7 arg8 arg9 arg10 arg11 arg12 arg13 (arg10.view.writes (Elt Ideal) arg10.view.junk (pro (colW arg1 harg1 arg2 harg2 x0 x1 (wAll arg3 harg3 arg4 harg4 arg5 harg5 x2 x3 x4) (sAll arg6 harg6 x5)))) n) $$ [H6 H7 H8 HS0 HS1 HS2 HS3]
    case region =>
      intro k _
      exact step_wp kk qq vv row0 x9 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ k (Nat.lt_of_lt_of_le k.isLt k0_t1_abs.2.1) hX masks v179_eq h181 h6 E
    · unfold LoopI Held
      iexists _, _, _, _, _, _
      isplitl
      · isplitl [HS0]; · iexact HS0
        isplitl [H6]; · iexact H6
        isplitl [H7]; · iexact H7
        isplitl [H8]; · iexact H8
        isplitl [HS1]; · iexact HS1
        isplitl [HS2]; · iexact HS2
        iexact HS3
      · ipureintro
        exact init_sem arg7 arg8 arg9 harg9 arg11 arg12 arg13 kk qq vv row0 x9 _ _ _ _ _
    irw [show Scf.trips k0_t1_loop.lb k0_t1_loop.ub k0_t1_loop.st = 5 from of_decide_eq_true rfl]
    unfold LoopI Held
    iintro %_ ⟨%g7, %g8, %g9, %g11, %g12, %g13, ⟨HS0, H6, H7, H8, HS1, HS2, HS3⟩, %hI⟩
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact LInv.y_eq hI
      iexact H6
    isplitl [H7]
    · iexists _; isplitr; · ipureintro; exact LInv.vc_eq hI
      iexact H7
    isplitl [H8]
    · iexists _; isplitr; · ipureintro; exact LInv.vs_eq hI
      iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Hand

end
-- ==== Proof.KI.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Body
public import proofs.«01_k».proof.Proof.KI.FrameF
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The whole kernel's values: the three result arrays from the logits and values of all heads. -/

/-- Logits and values of all the heads, by batch row and head, and those of one group of two heads. -/
abbrev HLogits := Fin 3 → Fin 56 → ℕ → Fin 160 → Fin 128 → ℝ
abbrev HValues := Fin 3 → Fin 56 → ℕ → Fin 128 → Fin 64 → EReal
def grpL (kH : HLogits) (g : Fin 28) : Logits := fun b h => kH b ⟨2 * g.val + h.val, by omega⟩
def grpV (vH : HValues) (g : Fin 28) : Values := fun b h => vH b ⟨2 * g.val + h.val, by omega⟩

/-- The three results. -/
def resY (kH qH : HLogits) (vH : HValues) (b : Fin 3) (c : ℕ) (t : Fin 128) (H : Fin 56) (d : Fin 64) : ℝ :=
  Spec.Y (kH b H) (qH b H) (Spec.deq (vH b H)) c t d
def G6 (kH qH : HLogits) (vH : HValues) : S1920x3584.Idx → EReal := fun i =>
  ((resY kH qH vH ⟨(i 0).val / 640, Nat.div_lt_of_lt_mul (i 0).isLt⟩ ((i 0).val % 640 / 128) ⟨(i 0).val % 640 % 128, Nat.mod_lt _ (by norm_num)⟩ ⟨(i 1).val / 64, Nat.div_lt_of_lt_mul (i 1).isLt⟩ ⟨(i 1).val % 64, Nat.mod_lt _ (by norm_num)⟩ : ℝ) : EReal)
def G7 (vH : HValues) : S3x56x64x640.Idx → EReal := fun i =>
  Spec.code (vH (i 0) (i 1) ((i 3).val / 128) ⟨(i 3).val % 128, Nat.mod_lt _ (by norm_num)⟩) (i 2)
def G8 (vH : HValues) : S3x56x640.Idx → EReal := fun i =>
  ((Spec.scl (Spec.mag (vH (i 0) (i 1) ((i 2).val / 128) ⟨(i 2).val % 128, Nat.mod_lt _ (by norm_num)⟩)) : ℝ) : EReal)

/-- The window of scales after a point: the rows of the heads done so far, and zeros. -/
def vsAfter (vH : HValues) (t : ℕ) (ht : t < 28) : S3x8x640.Idx → EReal := fun i =>
  if (i 1).val < 2 * (t % 4) + 2 then ((Spec.scl (Spec.mag (vH (i 0) ⟨8 * (t / 4) + (i 1).val, by have : (i 1).val < 8 := (i 1).isLt; omega⟩ ((i 2).val / 128) ⟨(i 2).val % 128, Nat.mod_lt _ (by norm_num)⟩)) : ℝ) : EReal) else 0

theorem vsVec_first (vH : HValues) (t : Fin 28) (x9 : S3x8x640.Idx → EReal) (h : t.val % 4 = 0) :
    vsVec (grpV vH t) (2 * (t.val % 4)) x9 = vsAfter vH t.val t.isLt := by
  funext i
  have hr : (i 1).val < 8 := (i 1).isLt
  have e0 : 2 * t.val = 8 * (t.val / 4) := by omega
  unfold vsVec vsAfter vsAt grpV
  rw [h]
  rcases Nat.lt_or_ge (i 1).val 2 with h2 | h2
  · rw [if_pos (by omega : (i 1).val < 2 * 0 + 2)]
    rcases Nat.lt_or_ge (i 1).val 1 with h1 | h1
    · rw [if_neg (by omega), if_pos (by omega)]
      refine congrArg (fun H => ((Spec.scl (Spec.mag (vH (i 0) H ((i 2).val / 128) ⟨(i 2).val % 128, Nat.mod_lt _ (by norm_num)⟩)) : ℝ) : EReal)) (Fin.ext ?_)
      show 2 * t.val + 0 = 8 * (t.val / 4) + (i 1).val; omega
    · rw [if_pos (by omega)]
      refine congrArg (fun H => ((Spec.scl (Spec.mag (vH (i 0) H ((i 2).val / 128) ⟨(i 2).val % 128, Nat.mod_lt _ (by norm_num)⟩)) : ℝ) : EReal)) (Fin.ext ?_)
      show 2 * t.val + 1 = 8 * (t.val / 4) + (i 1).val; omega
  · rw [if_neg (by omega), if_neg (by omega), if_pos (by omega), if_neg (by omega)]

theorem vsVec_next (vH : HValues) (t : Fin 28) (h : t.val % 4 ≠ 0) :
    vsVec (grpV vH t) (2 * (t.val % 4)) (vsAfter vH (t.val - 1) (by omega)) = vsAfter vH t.val t.isLt := by
  funext i
  have hr : (i 1).val < 8 := (i 1).isLt
  unfold vsVec vsAfter vsAt grpV
  rcases Nat.lt_or_ge (i 1).val (2 * (t.val % 4) + 2) with h2 | h2
  · rw [if_pos h2]
    rcases Nat.lt_or_ge (i 1).val (2 * (t.val % 4) + 1) with h1 | h1
    · rw [if_neg (by omega)]
      rcases Nat.lt_or_ge (i 1).val (2 * (t.val % 4)) with h0 | h0
      · rw [if_neg (by omega), if_neg (by omega), if_pos (by omega)]
        refine congrArg (fun H => ((Spec.scl (Spec.mag (vH (i 0) H ((i 2).val / 128) ⟨(i 2).val % 128, Nat.mod_lt _ (by norm_num)⟩)) : ℝ) : EReal)) (Fin.ext ?_)
        show 8 * ((t.val - 1) / 4) + (i 1).val = 8 * (t.val / 4) + (i 1).val; omega
      · rw [if_pos (by omega)]
        refine congrArg (fun H => ((Spec.scl (Spec.mag (vH (i 0) H ((i 2).val / 128) ⟨(i 2).val % 128, Nat.mod_lt _ (by norm_num)⟩)) : ℝ) : EReal)) (Fin.ext ?_)
        show 2 * t.val + 0 = 8 * (t.val / 4) + (i 1).val; omega
    · rw [if_pos (by omega)]
      refine congrArg (fun H => ((Spec.scl (Spec.mag (vH (i 0) H ((i 2).val / 128) ⟨(i 2).val % 128, Nat.mod_lt _ (by norm_num)⟩)) : ℝ) : EReal)) (Fin.ext ?_)
      show 2 * t.val + 1 = 8 * (t.val / 4) + (i 1).val; omega
  · rw [if_neg (by omega), if_neg (by omega), if_neg (by omega), if_neg (by omega), if_neg (by omega)]

variable (m : (ℓ : Loc nD τ sig) → Buf (Elt Ideal) ℓ) (ρ : Dev nD → PrngReg)
variable (kH qH : Dev nD → HLogits) (vH : Dev nD → HValues)

/-- The proof data of the kernel's run: each result window at what its point leaves. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (yVec (grpL (kH c) t) (grpL (qH c) t) (grpV (vH c) t) : S1920x128.Idx → EReal)
    | ⟨7, _⟩ => (vcVec (grpV (vH c) t) : S3x2x64x640.Idx → EReal)
    | ⟨8, _⟩ => (vsAfter (vH c) t.val t.isLt : S3x8x640.Idx → EReal)
  Φ _ := Pipeline.ΦA spec0 c
  q _ := fullShare
  owed _ := 0

theorem vA_eq (c : Dev nD) (w : Fin cfg0.W) : (vdats m kH qH vH 0 c).A w = V m c (Pipeline.arrRef spec0 w) := by
  dsimp only [vdats]
theorem vafter_0 (c : Dev nD) (t : Fin cfg0.N) : (vdats m kH qH vH 0 c).after 0 t = iblk m c 0 t := by dsimp only [vdats]
theorem vafter_1 (c : Dev nD) (t : Fin cfg0.N) : (vdats m kH qH vH 0 c).after 1 t = iblk m c 1 t := by dsimp only [vdats]
theorem vafter_2 (c : Dev nD) (t : Fin cfg0.N) : (vdats m kH qH vH 0 c).after 2 t = iblk m c 2 t := by dsimp only [vdats]
theorem vafter_3 (c : Dev nD) (t : Fin cfg0.N) : (vdats m kH qH vH 0 c).after 3 t = iblk m c 3 t := by dsimp only [vdats]
theorem vafter_4 (c : Dev nD) (t : Fin cfg0.N) : (vdats m kH qH vH 0 c).after 4 t = iblk m c 4 t := by dsimp only [vdats]
theorem vafter_5 (c : Dev nD) (t : Fin cfg0.N) : (vdats m kH qH vH 0 c).after 5 t = iblk m c 5 t := by dsimp only [vdats]
theorem vafter_6 (c : Dev nD) (t : Fin cfg0.N) : (vdats m kH qH vH 0 c).after 6 t = yVec (grpL (kH c) t) (grpL (qH c) t) (grpV (vH c) t) := by dsimp only [vdats]
theorem vafter_7 (c : Dev nD) (t : Fin cfg0.N) : (vdats m kH qH vH 0 c).after 7 t = vcVec (grpV (vH c) t) := by dsimp only [vdats]
theorem vafter_8 (c : Dev nD) (t : Fin cfg0.N) : (vdats m kH qH vH 0 c).after 8 t = vsAfter (vH c) t.val t.isLt := by dsimp only [vdats]
theorem vbefore_0 (c : Dev nD) (t : Fin cfg0.N) (d) : (vdats m kH qH vH 0 c).before 0 t d = iblk m c 0 t :=
  before0_0_of m (vdats m kH qH vH 0 c) (vA_eq m kH qH vH c 0) (vafter_0 m kH qH vH c) t d
theorem vbefore_1 (c : Dev nD) (t : Fin cfg0.N) (d) : (vdats m kH qH vH 0 c).before 1 t d = iblk m c 1 t :=
  before0_1_of m (vdats m kH qH vH 0 c) (vA_eq m kH qH vH c 1) (vafter_1 m kH qH vH c) t d
theorem vbefore_2 (c : Dev nD) (t : Fin cfg0.N) (d) : (vdats m kH qH vH 0 c).before 2 t d = iblk m c 2 t :=
  before0_2_of m (vdats m kH qH vH 0 c) (vA_eq m kH qH vH c 2) (vafter_2 m kH qH vH c) t d
theorem vbefore_3 (c : Dev nD) (t : Fin cfg0.N) (d) : (vdats m kH qH vH 0 c).before 3 t d = iblk m c 3 t :=
  before0_3_of m (vdats m kH qH vH 0 c) (vA_eq m kH qH vH c 3) (vafter_3 m kH qH vH c) t d
theorem vbefore_4 (c : Dev nD) (t : Fin cfg0.N) (d) : (vdats m kH qH vH 0 c).before 4 t d = iblk m c 4 t :=
  before0_4_of m (vdats m kH qH vH 0 c) (vA_eq m kH qH vH c 4) (vafter_4 m kH qH vH c) t d
theorem vbefore_5 (c : Dev nD) (t : Fin cfg0.N) (d) : (vdats m kH qH vH 0 c).before 5 t d = iblk m c 5 t :=
  before0_5_of m (vdats m kH qH vH 0 c) (vA_eq m kH qH vH c 5) (vafter_5 m kH qH vH c) t d

/-- What a point's window of scales becomes, whatever it was at a group's first point. -/
theorem vs_step (c : Dev nD) (t : Fin cfg0.N) (d) :
    vsVec (grpV (vH c) t) (2 * (t.val % 4)) ((vdats m kH qH vH 0 c).before 8 t d) = vsAfter (vH c) t.val t.isLt := by
  by_cases h : t.val % 4 = 0
  · exact vsVec_first (vH c) t _ h
  · have ht : t.val ≠ 0 := fun e => h (by rw [e])
    rw [(vdats m kH qH vH 0 c).before_out_kept 8 rfl t ht (by
        rw [Bool.eq_false_iff]
        intro hf
        have := (flush0_8 _).1 hf
        have h' : (t.val - 1) % 4 = 3 := this
        omega) (fun _ => rfl) (fun _ _ => rfl) d, vafter_8]
    exact vsVec_next (vH c) t h

def vbodyPre (c : Dev nD) (t : Fin cfg0.N) : sProp 𝕄 :=
  iprop((vdats m kH qH vH 0 c).Φ t.castSucc ∗ (vdats m kH qH vH 0 c).owesAt () t.castSucc
    ∗ (∃ d, owns (c : Thread nD τ) (ms0_0 t) fullShare ((vdats m kH qH vH 0 c).before 0 t d))
    ∗ (∃ d, owns (c : Thread nD τ) (ms0_1 t) fullShare ((vdats m kH qH vH 0 c).before 1 t d))
    ∗ (∃ d, owns (c : Thread nD τ) (ms0_2 t) fullShare ((vdats m kH qH vH 0 c).before 2 t d))
    ∗ (∃ d, owns (c : Thread nD τ) (ms0_3 t) fullShare ((vdats m kH qH vH 0 c).before 3 t d))
    ∗ (∃ d, owns (c : Thread nD τ) (ms0_4 t) fullShare ((vdats m kH qH vH 0 c).before 4 t d))
    ∗ (∃ d, owns (c : Thread nD τ) (ms0_5 t) fullShare ((vdats m kH qH vH 0 c).before 5 t d))
    ∗ (∃ d, owns (c : Thread nD τ) (ms0_6 t) fullShare ((vdats m kH qH vH 0 c).before 6 t d))
    ∗ (∃ d, owns (c : Thread nD τ) (ms0_7 t) fullShare ((vdats m kH qH vH 0 c).before 7 t d))
    ∗ (∃ d, owns (c : Thread nD τ) (ms0_8 t) fullShare ((vdats m kH qH vH 0 c).before 8 t d)))

def vbodyPost (c : Dev nD) (t : Fin cfg0.N) : sProp 𝕄 :=
  iprop((vdats m kH qH vH 0 c).Φ t.succ ∗ (vdats m kH qH vH 0 c).owesAt () t.succ
    ∗ owns (c : Thread nD τ) (ms0_0 t) fullShare ((vdats m kH qH vH 0 c).after 0 t)
    ∗ owns (c : Thread nD τ) (ms0_1 t) fullShare ((vdats m kH qH vH 0 c).after 1 t)
    ∗ owns (c : Thread nD τ) (ms0_2 t) fullShare ((vdats m kH qH vH 0 c).after 2 t)
    ∗ owns (c : Thread nD τ) (ms0_3 t) fullShare ((vdats m kH qH vH 0 c).after 3 t)
    ∗ owns (c : Thread nD τ) (ms0_4 t) fullShare ((vdats m kH qH vH 0 c).after 4 t)
    ∗ owns (c : Thread nD τ) (ms0_5 t) fullShare ((vdats m kH qH vH 0 c).after 5 t)
    ∗ owns (c : Thread nD τ) (ms0_6 t) fullShare ((vdats m kH qH vH 0 c).after 6 t)
    ∗ owns (c : Thread nD τ) (ms0_7 t) fullShare ((vdats m kH qH vH 0 c).after 7 t)
    ∗ owns (c : Thread nD τ) (ms0_8 t) fullShare ((vdats m kH qH vH 0 c).after 8 t))

/-- The blocks at every point project to the heads' logits and values. -/
def AllBlocks : Prop := ∀ (c : Dev nD) (t : Fin cfg0.N), Blocks (iblk m c 0 t) (iblk m c 1 t) (iblk m c 2 t) (iblk m c 3 t) (iblk m c 4 t) (iblk m c 5 t) (grpL (kH c) t) (grpL (qH c) t) (grpV (vH c) t)

variable (hAll : AllBlocks m kH qH vH)

theorem coords_val : ∀ t : Fin cfg0.N, ((grid0.coords t) 0).val = t.val :=
  (by decide +kernel : ∀ t : Fin grid0.N, ((grid0.coords t) 0).val = t.val)

include hAll in
set_option maxHeartbeats 1200000 in
/-- The body at any point, with its values. -/
theorem vsound_body (c : Dev nD) (t : Fin cfg0.N) :
    vbodyPre m kH qH vH c t ⊢ wp Idealize.ShloMosaic.frame (wpE (defs₀ (F := Ideal)) Variants.none c none) Set.univ (bodyAt0 t) (fun _ => vbodyPost m kH qH vH c t) := by
  unfold vbodyPre vbodyPost bodyAt0
  simp only [vbefore_0, vbefore_1, vbefore_2, vbefore_3, vbefore_4, vbefore_5]
  rw [show (vdats m kH qH vH 0 c).Φ t.succ = (vdats m kH qH vH 0 c).Φ t.castSucc from rfl,
    show (vdats m kH qH vH 0 c).owesAt () t.succ = (vdats m kH qH vH 0 c).owesAt () t.castSucc from rfl,
    vafter_0, vafter_1, vafter_2, vafter_3, vafter_4, vafter_5, vafter_6, vafter_7, vafter_8]
  rw [show (vdats m kH qH vH 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  irw [← vs_step m kH qH vH c t d8]
  iapply ((body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) ((vdats m kH qH vH 0 c).before 8 t d8) _ _ _ (hAll c t) (2 * (t.val % 4)) (by rw [coords_val])) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

include hAll in
theorem vbody_obligation (c : Dev nD) : BodyObligation (vdats m kH qH vH 0 c) (defs₀ (F := Ideal)) Variants.none () Set.univ := fun t => by
  rw [bigSep_W0, bigSep_W0, defs₀_row]
  exact triple_restated (vsound_body m kH qH vH hAll c t) rfl .rfl fun _ => .rfl

include hAll in
set_option backward.isDefEq.respectTransparency.types false in
/-- The launch, with the arrays the pipeline leaves. -/
theorem vrun_main : θ_run defs (onTc (τ := τ) (main (F := Ideal))) (s₀ m ρ) (Pipeline.FramePost cfgs (vdats m kH qH vH) (0 : Fin 1) (V m)) :=
  Pipeline.θ_run_frame cfgs (vdats m kH qH vH) (0 : Fin 1) launch0 defs₀ Variants.none m ρ main
    (hbody := fun c => (vbody_obligation m kH qH vH hAll c).loose) (hshare := fun c => (vdats m kH qH vH 0 c).share_full fun _ => rfl)
    (howed := fun _ _ => rfl) (V := V m) (hmain := hmain m Variants.none) (hA := vA_eq m kH qH vH) (hΦ := fun _ _ => rfl)
    (Q' := Pipeline.FramePost cfgs (vdats m kH qH vH) (0 : Fin 1) (V m))

end Cert.KernelIdeal.Hand

end
-- ==== Proof.Heads.lean ====
module

public import Idealize.ShloMosaic.Lib.ValueIdx
public import proofs.«01_k».proof.Proof.Spec

@[expose] public section

noncomputable section

namespace Cert.Spec

open Idealize.ShloMosaic

/-! The projections of all the heads, from the argument arrays. -/

/-- Head `H`'s projection of token `n` of batch row `b` at feature `l`: the codes' products summed, times the token's and the feature's scales. -/
def projE {L : ℕ} (X : (⟨3, ![3, 640, 3584]⟩ : Shape).Idx → EReal) (xs : (⟨2, ![3, 640]⟩ : Shape).Idx → EReal)
    (w : (⟨3, ![3584, 56, L]⟩ : Shape).Idx → EReal) (s : (⟨2, ![56, L]⟩ : Shape).Idx → EReal) (b : Fin 3) (H : Fin 56) (l : Fin L) (n : Fin 640) : EReal :=
  (∑ d : Fin 3584, w (ValueIdx.ix3 d H l) * X (ValueIdx.ix3 b n d)) * xs (ValueIdx.ix2 b n) * s (ValueIdx.ix2 H l)

/-- The projection, from reads of the codes, the weights and the scales. -/
theorem projE_read {L : ℕ} (X : (⟨3, ![3, 640, 3584]⟩ : Shape).Idx → EReal) (xs : (⟨2, ![3, 640]⟩ : Shape).Idx → EReal)
    (w : (⟨3, ![3584, 56, L]⟩ : Shape).Idx → EReal) (s : (⟨2, ![56, L]⟩ : Shape).Idx → EReal) (b : Fin 3) (H : Fin 56) (l : Fin L) (n : Fin 640)
    (f g : Fin 3584 → EReal) (p q : EReal) (hf : ∀ d, f d = w (ValueIdx.ix3 d H l)) (hg : ∀ d, g d = X (ValueIdx.ix3 b n d)) (hp : p = xs (ValueIdx.ix2 b n)) (hq : q = s (ValueIdx.ix2 H l)) :
    (∑ d, f d * g d) * p * q = projE X xs w s b H l n := by
  subst hp hq
  exact congrArg (fun z => z * xs (ValueIdx.ix2 b n) * s (ValueIdx.ix2 H l)) (Finset.sum_congr rfl fun d _ => by rw [hf, hg])

/-- Token `t` of chunk `c`. -/
def tok (c : ℕ) (t : Fin 128) : Fin 640 := ⟨(128 * c + t.val) % 640, Nat.mod_lt _ (by norm_num)⟩

theorem tok_of_lt (c : Fin 5) (t : Fin 128) : tok c.val t = ⟨128 * c.val + t.val, by omega⟩ :=
  Fin.ext (Nat.mod_eq_of_lt (by omega))

/-- A real number among the extended reals. -/
def Fin_ (x : EReal) : Prop := x ≠ ⊤ ∧ x ≠ ⊥

theorem projE_coe {L : ℕ} (X : (⟨3, ![3, 640, 3584]⟩ : Shape).Idx → EReal) (xs : (⟨2, ![3, 640]⟩ : Shape).Idx → EReal)
    (w : (⟨3, ![3584, 56, L]⟩ : Shape).Idx → EReal) (s : (⟨2, ![56, L]⟩ : Shape).Idx → EReal) (b : Fin 3) (H : Fin 56) (l : Fin L) (n : Fin 640)
    (hX : ∀ i, Fin_ (X i)) (hxs : ∀ i, Fin_ (xs i)) (hw : ∀ i, Fin_ (w i)) (hs : ∀ i, Fin_ (s i)) :
    projE X xs w s b H l n = ((projE X xs w s b H l n).toReal : EReal) := by
  have h1 : (∑ d : Fin 3584, w (ValueIdx.ix3 d H l) * X (ValueIdx.ix3 b n d))
      = ((∑ d : Fin 3584, (w (ValueIdx.ix3 d H l)).toReal * (X (ValueIdx.ix3 b n d)).toReal : ℝ) : EReal) :=
    (Finset.sum_congr rfl fun d _ => by
      rw [EReal.coe_mul, EReal.coe_toReal (hw _).1 (hw _).2, EReal.coe_toReal (hX _).1 (hX _).2]).trans (coe_sum _ _)
  have e : projE X xs w s b H l n = (((∑ d : Fin 3584, (w (ValueIdx.ix3 d H l)).toReal * (X (ValueIdx.ix3 b n d)).toReal) * (xs (ValueIdx.ix2 b n)).toReal * (s (ValueIdx.ix2 H l)).toReal : ℝ) : EReal) := by
    rw [EReal.coe_mul, EReal.coe_mul, EReal.coe_toReal (hxs (ValueIdx.ix2 b n)).1 (hxs (ValueIdx.ix2 b n)).2, EReal.coe_toReal (hs (ValueIdx.ix2 H l)).1 (hs (ValueIdx.ix2 H l)).2, ← h1]
    rfl
  rw [e, EReal.toReal_coe]

end Cert.Spec

end
-- ==== Proof.KI.Args.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Run
public import proofs.«01_k».proof.Proof.Heads
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The blocks of the kernel's windows, read in the argument arrays. -/

variable (m : (ℓ : Loc nD τ sig) → Buf (Elt Ideal) ℓ)

theorem idx_all : ∀ t : Fin grid0.N,
    win0_0.index t = ![0, 0] ∧ win0_1.index t = ![0, 0] ∧ win0_2.index t = ![t.val, 0, 0] ∧ win0_3.index t = ![t.val, 0, 0]
    ∧ win0_4.index t = ![t.val, 0, 0] ∧ win0_5.index t = ![t.val, 0, 0] ∧ win0_6.index t = ![0, t.val] ∧ win0_7.index t = ![0, t.val, 0, 0] ∧ win0_8.index t = ![0, t.val / 4, 0] := by
  decide +kernel

/-- The host's arrays at the region's entry, read in the arguments. -/
theorem V_v4 (c : Dev nD) (H : Fin 56) (l : Fin 160) (d : Fin 3584) :
    (V m c main_v4 : S56x160x3584.Idx → EReal) (ix3 H l d) = (m ((c : Thread nD τ).loc main_arg2) : S3584x56x160.Idx → EReal) (ix3 d H l) := by
  unfold V hostOps0 hostOps0_1 hostOps0_2
  simp only [List.flatten_cons, List.flatten_nil, List.append_nil, List.cons_append, List.nil_append]
  entry_read
  pointwise
theorem V_v5 (c : Dev nD) (H : Fin 56) (l : Fin 160) (d : Fin 3584) :
    (V m c main_v5 : S56x160x3584.Idx → EReal) (ix3 H l d) = (m ((c : Thread nD τ).loc main_arg4) : S3584x56x160.Idx → EReal) (ix3 d H l) := by
  unfold V hostOps0 hostOps0_1 hostOps0_2
  simp only [List.flatten_cons, List.flatten_nil, List.append_nil, List.cons_append, List.nil_append]
  entry_read
  pointwise
theorem V_v6 (c : Dev nD) (H : Fin 56) (l : Fin 64) (d : Fin 3584) :
    (V m c main_v6 : S56x64x3584.Idx → EReal) (ix3 H l d) = (m ((c : Thread nD τ).loc main_arg6) : S3584x56x64.Idx → EReal) (ix3 d H l) := by
  unfold V hostOps0 hostOps0_1 hostOps0_2
  simp only [List.flatten_cons, List.flatten_nil, List.append_nil, List.cons_append, List.nil_append]
  entry_read
  pointwise
theorem V_v13 (c : Dev nD) (b : Fin 3) (n : Fin 640) (d : Fin 3584) :
    (V m c main_v13 : S1920x3584.Idx → EReal) (ix2 ⟨640 * b.val + n.val, by omega⟩ d) = (m ((c : Thread nD τ).loc main_arg0) : S3x640x3584.Idx → EReal) (ix3 b n d) := by
  unfold V hostOps0 hostOps0_1 hostOps0_2
  simp only [List.flatten_cons, List.flatten_nil, List.append_nil, List.cons_append, List.nil_append]
  entry_read
  pointwise

/-- Arrays of three axes laid side by side along the middle one, read in one of the pieces. -/
theorem catMid (xs : List ((s : Shape) × (s.Idx → EReal))) (h : Shape.Concatenates (xs.map (·.1)) S28x5x160 1) (g : Fin 28) (k : Fin 5) (l : Fin 160)
    (p : ℕ) (hp : p < xs.length) (w : ℕ) (x : (⟨3, ![28, w, 160]⟩ : Shape).Idx → EReal) (hx : xs[p] = ⟨⟨3, ![28, w, 160]⟩, x⟩) (pre : ℕ)
    (hpre : (((xs.take p).map (·.1)).map fun s : Shape => if h : s.rank = 3 then s.size ((1 : Fin 3).cast h.symm) else 0).sum = pre)
    (i : Fin w) (hi : pre + i.val = k.val) : concatenate S28x5x160 1 xs h (ix3 g k l) = x (ix3 g i l) := by
  refine concatenate_apply_piece (t := S28x5x160) 1 xs h (ix3 g k l) p hp ⟨3, ![28, w, 160]⟩ x hx rfl pre hpre (ix3 g i l) ?_ hi
  intro b hb
  match b with
  | 0 => rfl
  | 1 => exact absurd rfl hb
  | 2 => rfl

/-- The pieces that the array of the weights' scales is made of. -/
abbrev cPieces (a b : S56x160.Idx → EReal) (v : S56x64.Idx → EReal) : List ((s : Shape) × (s.Idx → EReal)) :=
  [⟨S28x2x160, shapeCast S28x2x160 a shapeCasts_S56x160_S28x2x160⟩, ⟨S28x2x160, shapeCast S28x2x160 b shapeCasts_S56x160_S28x2x160⟩,
    ⟨S28x1x160, pad S28x1x160 ![0, 0, 0] ![0, 0, 32] ![0, 0, 0] (shapeCast S28x1x128 v shapeCasts_S56x64_S28x1x128) (sitofp (F := Ideal) .f32 (constantI S_ 32 0#32)) pads_S28x1x128_S28x1x160_000_000_0320 h_S_⟩]

/-- The arrays that the scales are stacked from. -/
theorem V_pieces (c : Dev nD) :
    (StableHlo.after (hostOps0 ++ hostOps0_1) (fun b => m (c, b)) (Proc.devRef .tc main_v7) : S28x2x160.Idx → EReal) = shapeCast S28x2x160 (m ((c : Thread nD τ).loc main_arg3) : S56x160.Idx → EReal) shapeCasts_S56x160_S28x2x160
    ∧ (StableHlo.after (hostOps0 ++ hostOps0_1) (fun b => m (c, b)) (Proc.devRef .tc main_v8) : S28x2x160.Idx → EReal) = shapeCast S28x2x160 (m ((c : Thread nD τ).loc main_arg5) : S56x160.Idx → EReal) shapeCasts_S56x160_S28x2x160
    ∧ (StableHlo.after (hostOps0 ++ hostOps0_1) (fun b => m (c, b)) (Proc.devRef .tc main_v10) : S28x1x160.Idx → EReal) = pad S28x1x160 ![0, 0, 0] ![0, 0, 32] ![0, 0, 0] (shapeCast S28x1x128 (m ((c : Thread nD τ).loc main_arg7) : S56x64.Idx → EReal) shapeCasts_S56x64_S28x1x128) (sitofp (F := Ideal) .f32 (constantI S_ 32 0#32)) pads_S28x1x128_S28x1x160_000_000_0320 h_S_ := by
  unfold hostOps0 hostOps0_1
  simp only [List.cons_append, List.nil_append]
  refine ⟨?_, ?_, ?_⟩
  · entry_read
    try rfl
  · entry_read
    try rfl
  · entry_read
    try rfl

theorem V_v12 (c : Dev nD) :
    (V m c main_v12 : S28x160x5.Idx → EReal) = transpose S28x160x5 [0, 2, 1]
      (concatenate S28x5x160 1 (cPieces (m ((c : Thread nD τ).loc main_arg3)) (m ((c : Thread nD τ).loc main_arg5)) (m ((c : Thread nD τ).loc main_arg7)))
        concatenates_S28x2x160_S28x2x160_S28x1x160_S28x5x160_d1) transposes_S28x5x160_S28x160x5_0_2_1 := by
  obtain ⟨h7, h8, h10⟩ := V_pieces m c
  show StableHlo.after (List.flatten [hostOps0, hostOps0_1, hostOps0_2]) (fun b => m (c, b)) (Proc.devRef .tc main_v12) = _
  rw [show (List.flatten [hostOps0, hostOps0_1, hostOps0_2] : List (HloOp τ sig (Elt Ideal))) = (hostOps0 ++ hostOps0_1) ++ hostOps0_2 by simp only [List.flatten_cons, List.flatten_nil, List.append_nil, List.append_assoc], StableHlo.after_append]
  unfold cPieces
  rw [← h7, ← h8, ← h10]
  generalize StableHlo.after (hostOps0 ++ hostOps0_1) (fun b => m (c, b)) = σ
  unfold hostOps0_2
  rw [StableHlo.after_cons, StableHlo.after_cons, StableHlo.after_cons, StableHlo.after_nil, StableHlo.reshape_result_ne _ _ _ _ _ (by decide), StableHlo.unary_result, StableHlo.nary_result]
  · rfl
  · decide

theorem tr12 (x : S28x5x160.Idx → EReal) (g : Fin 28) (l : Fin 160) (k : Fin 5) :
    transpose S28x160x5 [0, 2, 1] x transposes_S28x5x160_S28x160x5_0_2_1 (ix3 g l k) = x (ix3 g k l) := by
  pointwise

theorem split2 (x : S56x160.Idx → EReal) (g : Fin 28) (j : Fin 2) (l : Fin 160) :
    shapeCast S28x2x160 x shapeCasts_S56x160_S28x2x160 (ix3 g j l) = x (ix2 ⟨2 * g.val + j.val, by omega⟩ l) := by
  have := g.isLt
  have := j.isLt
  have := l.isLt
  pointwise
  exact congrArg (fun i => x (ix2 i l)) (Fin.ext (by show g.val * 2 + j.val = 2 * g.val + j.val; omega))

theorem split64 (x : S56x64.Idx → EReal) (g : Fin 28) (j : Fin 2) (d : Fin 64) :
    shapeCast S28x1x128 x shapeCasts_S56x64_S28x1x128 (ix3 g 0 ⟨64 * j.val + d.val, by omega⟩) = x (ix2 ⟨2 * g.val + j.val, by omega⟩ d) := by
  have := g.isLt
  have := j.isLt
  have := d.isLt
  pointwise
  exact congrArg (fun i => x (ix2 i d)) (Fin.ext (by show g.val * 2 + (64 * j.val + d.val) / 64 = 2 * g.val + j.val; omega))

theorem pad32 (x : S28x1x128.Idx → EReal) (v : S_.Idx → EReal) (g : Fin 28) (r : Fin 128) :
    pad S28x1x160 ![0, 0, 0] ![0, 0, 32] ![0, 0, 0] x v pads_S28x1x128_S28x1x160_000_000_0320 h_S_ (ix3 g 0 ⟨r.val, by omega⟩) = x (ix3 g 0 r) := by
  have := r.isLt
  pointwise

theorem V_v12_q (c : Dev nD) (g : Fin 28) (l : Fin 160) (j : Fin 2) :
    (V m c main_v12 : S28x160x5.Idx → EReal) (ix3 g l ⟨j.val, by omega⟩) = (m ((c : Thread nD τ).loc main_arg3) : S56x160.Idx → EReal) (ix2 ⟨2 * g.val + j.val, by omega⟩ l) := by
  rw [V_v12, tr12]
  exact (catMid (cPieces _ _ _) _ g _ l 0 (by simp [cPieces]) 2 _ rfl 0 rfl j (Nat.zero_add _)).trans (split2 _ g j l)

theorem V_v12_k (c : Dev nD) (g : Fin 28) (l : Fin 160) (j : Fin 2) :
    (V m c main_v12 : S28x160x5.Idx → EReal) (ix3 g l ⟨2 + j.val, by omega⟩) = (m ((c : Thread nD τ).loc main_arg5) : S56x160.Idx → EReal) (ix2 ⟨2 * g.val + j.val, by omega⟩ l) := by
  rw [V_v12, tr12]
  exact (catMid (cPieces _ _ _) _ g _ l 1 (by simp [cPieces]) 2 _ rfl 2 rfl j rfl).trans (split2 _ g j l)

theorem V_v12_v (c : Dev nD) (g : Fin 28) (j : Fin 2) (d : Fin 64) :
    (V m c main_v12 : S28x160x5.Idx → EReal) (ix3 g ⟨64 * j.val + d.val, by omega⟩ 4) = (m ((c : Thread nD τ).loc main_arg7) : S56x64.Idx → EReal) (ix2 ⟨2 * g.val + j.val, by omega⟩ d) := by
  rw [V_v12, tr12]
  exact ((catMid (cPieces _ _ _) _ g _ _ 2 (by simp [cPieces]) 1 _ rfl 4 rfl 0 rfl).trans (pad32 _ _ g ⟨64 * j.val + d.val, by omega⟩)).trans (split64 _ g j d)

theorem blk_2 (c : Dev nD) (t : Fin 28) (h : Fin 2) (l : Fin 160) (d : Fin 3584) :
    (iblk m c 2 t : S2x160x3584.Idx → EReal) (ix3 h l d) = (m ((c : Thread nD τ).loc main_arg2) : S3584x56x160.Idx → EReal) (ix3 d ⟨2 * t.val + h.val, by omega⟩ l) := by
  refine Eq.trans ?_ (V_v4 m c ⟨2 * t.val + h.val, by omega⟩ l d)
  blk_ext [iblk, idx_all t]

theorem blk_3 (c : Dev nD) (t : Fin 28) (h : Fin 2) (l : Fin 160) (d : Fin 3584) :
    (iblk m c 3 t : S2x160x3584.Idx → EReal) (ix3 h l d) = (m ((c : Thread nD τ).loc main_arg4) : S3584x56x160.Idx → EReal) (ix3 d ⟨2 * t.val + h.val, by omega⟩ l) := by
  refine Eq.trans ?_ (V_v5 m c ⟨2 * t.val + h.val, by omega⟩ l d)
  blk_ext [iblk, idx_all t]

theorem blk_4 (c : Dev nD) (t : Fin 28) (h : Fin 2) (l : Fin 64) (d : Fin 3584) :
    (iblk m c 4 t : S2x64x3584.Idx → EReal) (ix3 h l d) = (m ((c : Thread nD τ).loc main_arg6) : S3584x56x64.Idx → EReal) (ix3 d ⟨2 * t.val + h.val, by omega⟩ l) := by
  refine Eq.trans ?_ (V_v6 m c ⟨2 * t.val + h.val, by omega⟩ l d)
  blk_ext [iblk, idx_all t]

theorem blk_1 (c : Dev nD) (t : Fin 28) (b : Fin 3) (n : Fin 640) :
    (iblk m c 1 t : S3x640.Idx → EReal) (ix2 b n) = (m ((c : Thread nD τ).loc main_arg1) : S3x640.Idx → EReal) (ix2 b n) := by
  blk_ext! [iblk, V, idx_all t]

theorem blk_0 (c : Dev nD) (t : Fin 28) (b : Fin 3) (n : Fin 640) (d : Fin 3584) :
    (iblk m c 0 t : S1920x3584.Idx → EReal) (ix2 ⟨640 * b.val + n.val, by omega⟩ d) = (m ((c : Thread nD τ).loc main_arg0) : S3x640x3584.Idx → EReal) (ix3 b n d) := by
  refine Eq.trans ?_ (V_v13 m c b n d)
  blk_ext [iblk, idx_all t]

theorem blk_5q (c : Dev nD) (t : Fin 28) (l : Fin 160) (j : Fin 2) :
    (iblk m c 5 t : S1x160x5.Idx → EReal) (ix3 0 l ⟨j.val, by omega⟩) = (m ((c : Thread nD τ).loc main_arg3) : S56x160.Idx → EReal) (ix2 ⟨2 * t.val + j.val, by omega⟩ l) := by
  refine Eq.trans ?_ (V_v12_q m c t l j)
  blk_ext [iblk, idx_all t]

theorem blk_5k (c : Dev nD) (t : Fin 28) (l : Fin 160) (j : Fin 2) :
    (iblk m c 5 t : S1x160x5.Idx → EReal) (ix3 0 l ⟨2 + j.val, by omega⟩) = (m ((c : Thread nD τ).loc main_arg5) : S56x160.Idx → EReal) (ix2 ⟨2 * t.val + j.val, by omega⟩ l) := by
  refine Eq.trans ?_ (V_v12_k m c t l j)
  blk_ext [iblk, idx_all t]

theorem blk_5v (c : Dev nD) (t : Fin 28) (j : Fin 2) (d : Fin 64) :
    (iblk m c 5 t : S1x160x5.Idx → EReal) (ix3 0 ⟨64 * j.val + d.val, by omega⟩ 4) = (m ((c : Thread nD τ).loc main_arg7) : S56x64.Idx → EReal) (ix2 ⟨2 * t.val + j.val, by omega⟩ d) := by
  refine Eq.trans ?_ (V_v12_v m c t j d)
  blk_ext [iblk, idx_all t]

/-- The keys' logits of chunk `ch`, from the arguments. -/
def kHead (c : Dev nD) : HLogits := fun b H ch l t =>
  (Spec.projE (m ((c : Thread nD τ).loc main_arg0)) (m ((c : Thread nD τ).loc main_arg1)) (m ((c : Thread nD τ).loc main_arg4)) (m ((c : Thread nD τ).loc main_arg5)) b H l (Spec.tok ch t)).toReal

/-- The queries' logits of chunk `ch`, from the arguments. -/
def qHead (c : Dev nD) : HLogits := fun b H ch l t =>
  (Spec.projE (m ((c : Thread nD τ).loc main_arg0)) (m ((c : Thread nD τ).loc main_arg1)) (m ((c : Thread nD τ).loc main_arg2)) (m ((c : Thread nD τ).loc main_arg3)) b H l (Spec.tok ch t)).toReal

/-- The values of chunk `ch`, from the arguments. -/
def vHead (c : Dev nD) : HValues := fun b H ch t d =>
  Spec.projE (m ((c : Thread nD τ).loc main_arg0)) (m ((c : Thread nD τ).loc main_arg1)) (m ((c : Thread nD τ).loc main_arg6)) (m ((c : Thread nD τ).loc main_arg7)) b H d (Spec.tok ch t)

/-- The arguments the logits are read from hold real numbers. -/
structure FinArgs (c : Dev nD) : Prop where
  a0 : ∀ i, Spec.Fin_ ((m ((c : Thread nD τ).loc main_arg0) : S3x640x3584.Idx → EReal) i)
  a1 : ∀ i, Spec.Fin_ ((m ((c : Thread nD τ).loc main_arg1) : S3x640.Idx → EReal) i)
  a2 : ∀ i, Spec.Fin_ ((m ((c : Thread nD τ).loc main_arg2) : S3584x56x160.Idx → EReal) i)
  a3 : ∀ i, Spec.Fin_ ((m ((c : Thread nD τ).loc main_arg3) : S56x160.Idx → EReal) i)
  a4 : ∀ i, Spec.Fin_ ((m ((c : Thread nD τ).loc main_arg4) : S3584x56x160.Idx → EReal) i)
  a5 : ∀ i, Spec.Fin_ ((m ((c : Thread nD τ).loc main_arg5) : S56x160.Idx → EReal) i)

theorem blk_0' (c : Dev nD) (t : Fin 28) (b : Fin 3) (ch : Fin 5) (u : Fin 128) (d : Fin 3584) :
    (iblk m c 0 t : S1920x3584.Idx → EReal) (ix2 ⟨640 * b.val + 128 * ch.val + u.val, by omega⟩ d) = (m ((c : Thread nD τ).loc main_arg0) : S3x640x3584.Idx → EReal) (ix3 b (Spec.tok ch.val u) d) := by
  rw [Spec.tok_of_lt, ← blk_0 m c t b ⟨128 * ch.val + u.val, by omega⟩ d]
  exact congrArg (fun r => (iblk m c 0 t : S1920x3584.Idx → EReal) (ix2 r d)) (Fin.ext (by show 640 * b.val + 128 * ch.val + u.val = 640 * b.val + (128 * ch.val + u.val); omega))

theorem blk_1' (c : Dev nD) (t : Fin 28) (b : Fin 3) (ch : Fin 5) (u : Fin 128) :
    (iblk m c 1 t : S3x640.Idx → EReal) (ix2 b ⟨128 * ch.val + u.val, by omega⟩) = (m ((c : Thread nD τ).loc main_arg1) : S3x640.Idx → EReal) (ix2 b (Spec.tok ch.val u)) := by
  rw [Spec.tok_of_lt]
  exact blk_1 m c t b _

theorem blocks_at (h : ∀ c, FinArgs m c) (c : Dev nD) (t : Fin 28) :
    Blocks (iblk m c 0 t) (iblk m c 1 t) (iblk m c 2 t) (iblk m c 3 t) (iblk m c 4 t) (iblk m c 5 t) (grpL (kHead m c) t) (grpL (qHead m c) t) (grpV (vHead m c) t) where
  q := fun b j ch l u => (Spec.projE_read _ _ _ _ b ⟨2 * t.val + j.val, by omega⟩ l (Spec.tok ch.val u) _ _ _ _ (fun d => blk_2 m c t j l d) (fun d => blk_0' m c t b ch u d) (blk_1' m c t b ch u) (blk_5q m c t l j)).trans
    (Spec.projE_coe _ _ _ _ b ⟨2 * t.val + j.val, by omega⟩ l (Spec.tok ch.val u) (h c).a0 (h c).a1 (h c).a2 (h c).a3)
  k := fun b j ch l u => (Spec.projE_read _ _ _ _ b ⟨2 * t.val + j.val, by omega⟩ l (Spec.tok ch.val u) _ _ _ _ (fun d => blk_3 m c t j l d) (fun d => blk_0' m c t b ch u d) (blk_1' m c t b ch u) (blk_5k m c t l j)).trans
    (Spec.projE_coe _ _ _ _ b ⟨2 * t.val + j.val, by omega⟩ l (Spec.tok ch.val u) (h c).a0 (h c).a1 (h c).a4 (h c).a5)
  v := fun b j ch d' u => Spec.projE_read _ _ _ _ b ⟨2 * t.val + j.val, by omega⟩ d' (Spec.tok ch.val u) _ _ _ _ (fun d => blk_4 m c t j d' d) (fun d => blk_0' m c t b ch u d) (blk_1' m c t b ch u) (blk_5v m c t j d')

/-- The blocks that the body stages give the heads' logits and values. -/
theorem allBlocks (h : ∀ c, FinArgs m c) : AllBlocks m (kHead m) (qHead m) (vHead m) :=
  fun c t => blocks_at m h c t

end Cert.KernelIdeal.Hand

end
-- ==== Proof.KI.Pre.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Args
public import proofs.«01_k».proof.Defs
public import Idealize.ShloMosaic.Lib.ReduceAll

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the precondition says of the arguments. -/

theorem fin_of_all {s t : Shape} [Subsingleton t.Idx] {axes : List (Fin s.rank)} (x : FVec Ideal s .f32) (hb) (init : S_.Idx → BitVec 1) (h : s.ReducesTo axes t) (hu : 0 < S_.numel) (j : t.Idx)
    (e : Host.reduce IntOp.andi (cmpf .olt (Host.absf x) (broadcastInDim s ![] hb (constant (F := Ideal) S_ .f32 0x7F800000#32))) init h hu j = 1#1) (i : s.Idx) : Spec.Fin_ (x i) := by
  have e1 := Host.reduce_andi_all _ init h hu j e i
  have e2 : BitVec.ofBool (decide (max (x i) (-(x i)) < Ideal.ofBits .f32 0x7F800000#32)) = 1#1 := e1
  have e3 : Ideal.ofBits .f32 0x7F800000#32 = ⊤ := by simp [Ideal.ofBits, Ideal.ieee]
  rw [e3] at e2
  have e4 : max (x i) (-(x i)) < ⊤ := by
    by_contra hn
    rw [decide_eq_false hn] at e2
    exact absurd e2 (by decide)
  refine ⟨ne_of_lt (lt_of_le_of_lt (le_max_left _ _) e4), fun hbot => ?_⟩
  rw [hbot] at e4
  exact absurd e4 (by simp)

variable (m : (ℓ : Loc nD τ sig) → Buf (Elt Ideal) ℓ)

theorem andi_one (a b : BitVec 1) (h : IntOp.andi a b = 1#1) : a = 1#1 ∧ b = 1#1 := by
  revert a b; decide

/-- Under the precondition the six arrays that the logits are read from hold real numbers. -/
theorem finArgs_of_pre [Cert.Pre_finite.Facts] (h : Cert.Pre_KernelIdeal_finite m) (c : Dev nD) : FinArgs m c := by
  have e := congrFun (h c) (fun a => a.elim0)
  dsimp only [Cert.Pre_finite.fn, Cert.Pre_finite.fn_part1] at e
  obtain ⟨e, e5⟩ := andi_one _ _ e
  obtain ⟨e, e4⟩ := andi_one _ _ e
  obtain ⟨e, e3⟩ := andi_one _ _ e
  obtain ⟨e, e2⟩ := andi_one _ _ e
  obtain ⟨e0, e1⟩ := andi_one _ _ e
  haveI : Subsingleton Cert.Pre_finite.S_.Idx := ⟨fun a b => funext fun i => i.elim0⟩
  exact ⟨fin_of_all _ _ _ _ _ _ e0, fin_of_all _ _ _ _ _ _ e1, fin_of_all _ _ _ _ _ _ e2, fin_of_all _ _ _ _ _ _ e3, fin_of_all _ _ _ _ _ _ e4, fin_of_all _ _ _ _ _ _ e5⟩

end Cert.KernelIdeal.Hand

end
-- ==== Proof.KI.Finals.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Args
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The three result arrays after the run. -/

variable (m : (ℓ : Loc nD τ sig) → Buf (Elt Ideal) ℓ)
variable (kH qH : Dev nD → HLogits) (vH : Dev nD → HValues)

/-- A group's block of outputs in the array of outputs. -/
theorem y_block (kk qq : HLogits) (vv : HValues) (t : Fin 28) (y : S1920x128.Idx) (i : S1920x3584.Idx) (h0 : (i 0).val = (y 0).val) (h1 : (i 1).val = t.val * 128 + (y 1).val) :
    yVec (grpL kk t) (grpL qq t) (grpV vv t) y = G6 kk qq vv i := by
  unfold yVec G6
  refine congrArg (fun r : ℝ => (r : EReal)) ?_
  have hy : (y 1).val < 128 := (y 1).isLt
  have key : ∀ (r r' : ℕ) (h : r / 640 < 3) (h' : r' / 640 < 3) (e : r = r') (H : Fin 56) (d : Fin 64),
      resY kk qq vv ⟨r / 640, h⟩ (r % 640 / 128) ⟨r % 640 % 128, Nat.mod_lt _ (by norm_num)⟩ H d = resY kk qq vv ⟨r' / 640, h'⟩ (r' % 640 / 128) ⟨r' % 640 % 128, Nat.mod_lt _ (by norm_num)⟩ H d := by
    intro r r' h h' e H d
    subst e
    rfl
  refine Eq.trans ?_ (key (y 0).val (i 0).val (Nat.div_lt_of_lt_mul (y 0).isLt) (Nat.div_lt_of_lt_mul (i 0).isLt) h0.symm _ _)
  unfold yAt
  by_cases h : (y 1).val < 64
  · rw [dif_pos h]
    refine congrArg₂ (fun H d => resY kk qq vv ⟨(y 0).val / 640, Nat.div_lt_of_lt_mul (y 0).isLt⟩ ((y 0).val % 640 / 128) ⟨(y 0).val % 640 % 128, Nat.mod_lt _ (by norm_num)⟩ H d) (Fin.ext ?_) (Fin.ext ?_)
    · show 2 * t.val + 0 = (i 1).val / 64; omega
    · show (y 1).val = (i 1).val % 64; omega
  · rw [dif_neg h]
    refine congrArg₂ (fun H d => resY kk qq vv ⟨(y 0).val / 640, Nat.div_lt_of_lt_mul (y 0).isLt⟩ ((y 0).val % 640 / 128) ⟨(y 0).val % 640 % 128, Nat.mod_lt _ (by norm_num)⟩ H d) (Fin.ext ?_) (Fin.ext ?_)
    · show 2 * t.val + 1 = (i 1).val / 64; omega
    · show (y 1).val - 64 = (i 1).val % 64; omega

/-- A group's block of codes in the array of codes. -/
theorem vc_block (vv : HValues) (t : Fin 28) (y : S3x2x64x640.Idx) (i : S3x56x64x640.Idx) (h0 : (i 0).val = (y 0).val) (h1 : (i 1).val = t.val * 2 + (y 1).val) (h2 : (i 2).val = (y 2).val) (h3 : (i 3).val = (y 3).val) :
    vcVec (grpV vv t) y = G7 vv i := by
  unfold vcVec G7 grpV
  have e0 : (i 0) = (y 0) := Fin.ext h0
  have e1 : (i 1) = (⟨2 * t.val + (y 1).val, by have : (y 1).val < 2 := (y 1).isLt; omega⟩ : Fin 56) := Fin.ext (by rw [h1]; show _ = 2 * t.val + (y 1).val; omega)
  have e2 : (i 2) = (y 2) := Fin.ext h2
  have key : ∀ (b : Fin 3) (H : Fin 56) (d : Fin 64) (n n' : ℕ) (e : n = n'), Spec.code (vv b H (n / 128) ⟨n % 128, Nat.mod_lt _ (by norm_num)⟩) d = Spec.code (vv b H (n' / 128) ⟨n' % 128, Nat.mod_lt _ (by norm_num)⟩) d := by
    intro b H d n n' e
    subst e
    rfl
  rw [e0, e1, e2]
  exact key (y 0) _ (y 2) (y 3).val (i 3).val h3.symm

/-- A group's block of scales, all its rows done, in the array of scales. -/
theorem vs_block (vv : HValues) (t : ℕ) (ht : t < 28) (hf : t % 4 = 3) (y : S3x8x640.Idx) (i : S3x56x640.Idx) (h0 : (i 0).val = (y 0).val) (h1 : (i 1).val = t / 4 * 8 + (y 1).val) (h2 : (i 2).val = (y 2).val) :
    vsAfter vv t ht y = G8 vv i := by
  have hy : (y 1).val < 8 := (y 1).isLt
  unfold vsAfter G8
  rw [if_pos (by omega)]
  have e0 : (i 0) = (y 0) := Fin.ext h0
  have e1 : (i 1) = (⟨8 * (t / 4) + (y 1).val, by omega⟩ : Fin 56) := Fin.ext (by rw [h1]; show _ = 8 * (t / 4) + (y 1).val; omega)
  have key : ∀ (b : Fin 3) (H : Fin 56) (n n' : ℕ) (e : n = n'), ((Spec.scl (Spec.mag (vv b H (n / 128) ⟨n % 128, Nat.mod_lt _ (by norm_num)⟩)) : ℝ) : EReal) = ((Spec.scl (Spec.mag (vv b H (n' / 128) ⟨n' % 128, Nat.mod_lt _ (by norm_num)⟩)) : ℝ) : EReal) := by
    intro b H n n' e
    subst e
    rfl
  rw [e0, e1]
  exact key (y 0) _ (y 2).val (i 2).val h2.symm

/-- The kernel's outputs. -/
theorem final_6 (c : Dev nD) : (vdats m kH qH vH 0 c).arrAt 6 cfg0.N = (G6 (kH c) (qH c) (vH c) : S1920x3584.Idx → EReal) := by
  refine (vdats m kH qH vH 0 c).arrAt_eq_of_covers 6 _ (by decide +kernel) fun t hf y => ?_
  blk_simp
  rw [vafter_6]
  have e : win0_6.index t = ![0, t.val] := (idx_all t).2.2.2.2.2.2.1
  refine y_block (kH c) (qH c) (vH c) t y _ ?_ ?_
  · refine (win0_6.rect_emb_val t y 0).trans ?_
    rw [e]; exact Nat.zero_add _
  · refine (win0_6.rect_emb_val t y 1).trans ?_
    rw [e]; rfl

/-- The kernel's codes. -/
theorem final_7 (c : Dev nD) : (vdats m kH qH vH 0 c).arrAt 7 cfg0.N = (G7 (vH c) : S3x56x64x640.Idx → EReal) := by
  refine (vdats m kH qH vH 0 c).arrAt_eq_of_covers 7 _ (by decide +kernel) fun t hf y => ?_
  blk_simp
  rw [vafter_7]
  have e : win0_7.index t = ![0, t.val, 0, 0] := (idx_all t).2.2.2.2.2.2.2.1
  refine vc_block (vH c) t y _ ?_ ?_ ?_ ?_
  · refine (win0_7.rect_emb_val t y 0).trans ?_
    rw [e]; exact Nat.zero_add _
  · refine (win0_7.rect_emb_val t y 1).trans ?_
    rw [e]; rfl
  · refine (win0_7.rect_emb_val t y 2).trans ?_
    rw [e]; exact Nat.zero_add _
  · refine (win0_7.rect_emb_val t y 3).trans ?_
    rw [e]; exact Nat.zero_add _

/-- The kernel's scales. -/
theorem final_8 (c : Dev nD) : (vdats m kH qH vH 0 c).arrAt 8 cfg0.N = (G8 (vH c) : S3x56x640.Idx → EReal) := by
  refine (vdats m kH qH vH 0 c).arrAt_eq_of_covers 8 _ (by decide +kernel) fun t hf y => ?_
  blk_simp
  rw [vafter_8]
  have e : win0_8.index t = ![0, t.val / 4, 0] := (idx_all t).2.2.2.2.2.2.2.2
  refine vs_block (vH c) t.val t.isLt ((flush0_8 t).1 hf) y _ ?_ ?_ ?_
  · refine (win0_8.rect_emb_val t y 0).trans ?_
    rw [e]; exact Nat.zero_add _
  · refine (win0_8.rect_emb_val t y 1).trans ?_
    rw [e]; rfl
  · refine (win0_8.rect_emb_val t y 2).trans ?_
    rw [e]; exact Nat.zero_add _

end Cert.KernelIdeal.Hand

end
-- ==== Proof.KI.Result.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.KI.Finals
public import proofs.«01_k».proof.Proof.KI.FrameF
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the kernel's run ends with. -/

variable (m : (ℓ : Loc nD τ sig) → Buf (Elt Ideal) ℓ) (ρ : Dev nD → PrngReg)

/-- From arguments that hold real numbers, the kernel ends with the outputs, the codes and the scales of the
    arguments' heads, and its arguments are unchanged. -/
theorem result (h : ∀ c, FinArgs m c) : θ_run defs (onTc (τ := τ) (main (F := Ideal))) ⟨m, fun _ => 0, ρ⟩ (fun r => ∀ c : Dev nD,
      r.2.mem ((c.tc : Thread nD τ).loc main_v14_0) = (G6 (kHead m c) (qHead m c) (vHead m c) : S1920x3584.Idx → EReal)
      ∧ r.2.mem ((c.tc : Thread nD τ).loc main_v14_1) = (G7 (vHead m c) : S3x56x64x640.Idx → EReal)
      ∧ r.2.mem ((c.tc : Thread nD τ).loc main_v14_2) = (G8 (vHead m c) : S3x56x640.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_mono (θ_run_and (frame m ρ) (vrun_main m ρ (kHead m) (qHead m) (vHead m) (allBlocks m h))) fun r hr c =>
    ⟨((hr.2 c).1 6).trans (final_6 m _ _ _ c), ((hr.2 c).1 7).trans (final_7 m _ _ _ c), ((hr.2 c).1 8).trans (final_8 m _ _ _ c), hr.1.1 c⟩

end Cert.KernelIdeal.Hand

end
-- ==== Proof.R.Values.lean ====
module

public import proofs.«01_k».proof.Proof.Gen.ReferenceIdeal.Read
public import proofs.«01_k».proof.Proof.Expo
public import proofs.«01_k».proof.Proof.Heads
public import Idealize.ShloMosaic.Lib.Pointwise

@[expose] public section

noncomputable section

namespace Cert.ReferenceIdeal.Hand

open Cert.ReferenceIdeal Cert.ReferenceIdeal.Gen Cert.ReferenceIdeal.Read Idealize.ShloMosaic
open Cert.Spec (at1 at2 at3 at4 at5 ofBits_negInf ofBits_two ofBits_one ofBits_zero pow_two word_toInt flag_eq count_eq expo_eq pow_expo pow_neg_expo)

/-! The reference's projections and its quantiser, read in the arguments. -/

variable (x0 : S3x640x3584.Idx → EReal) (x1 : S3x640.Idx → EReal) (x2 : S3584x56x160.Idx → EReal) (x3 : S56x160.Idx → EReal)
  (x4 : S3584x56x160.Idx → EReal) (x5 : S56x160.Idx → EReal) (x6 : S3584x56x64.Idx → EReal) (x7 : S56x64.Idx → EReal)

/-- The queries' logits. -/
theorem v6_at (b : Fin 3) (n : Fin 640) (H : Fin 56) (l : Fin 160) : val_main_v6 (F := Ideal) x0 x1 x2 x3 (ix4 b n H l) = Spec.projE x0 x1 x2 x3 b H l n := by
  rw [val_main_v6_apply, val_main_v3_apply, val_main_v0_apply, val_main_v5_apply, val_main_v4_apply, val_main_v2_apply, val_main_v1_apply]
  refine congrArg₂ (· * ·) (congrArg₂ (· * ·) ?_ (at2 x1 _ (ValueIdx.ix2 b n) rfl rfl)) (at2 x3 _ (ValueIdx.ix2 H l) rfl rfl)
  exact Finset.sum_congr rfl fun d _ => (congrArg₂ (· * ·) (at3 x0 (lidx_main_v0 (ix4 b n H l) d) (ValueIdx.ix3 b n d) rfl rfl rfl) (at3 x2 (ridx_main_v0 (ix4 b n H l) d) (ValueIdx.ix3 d H l) rfl rfl rfl)).trans (mul_comm _ _)

/-- The keys' logits. -/
theorem v13_at (b : Fin 3) (n : Fin 640) (H : Fin 56) (l : Fin 160) : val_main_v13 (F := Ideal) x0 x1 x4 x5 (ix4 b n H l) = Spec.projE x0 x1 x4 x5 b H l n := by
  rw [val_main_v13_apply, val_main_v10_apply, val_main_v7_apply, val_main_v12_apply, val_main_v11_apply, val_main_v9_apply, val_main_v8_apply]
  refine congrArg₂ (· * ·) (congrArg₂ (· * ·) ?_ (at2 x1 _ (ValueIdx.ix2 b n) rfl rfl)) (at2 x5 _ (ValueIdx.ix2 H l) rfl rfl)
  exact Finset.sum_congr rfl fun d _ => (congrArg₂ (· * ·) (at3 x0 (lidx_main_v7 (ix4 b n H l) d) (ValueIdx.ix3 b n d) rfl rfl rfl) (at3 x4 (ridx_main_v7 (ix4 b n H l) d) (ValueIdx.ix3 d H l) rfl rfl rfl)).trans (mul_comm _ _)

/-- The values. -/
theorem v20_at (b : Fin 3) (n : Fin 640) (H : Fin 56) (d' : Fin 64) : val_main_v20 (F := Ideal) x0 x1 x6 x7 (ix4 b n H d') = Spec.projE x0 x1 x6 x7 b H d' n := by
  rw [val_main_v20_apply, val_main_v17_apply, val_main_v14_apply, val_main_v19_apply, val_main_v18_apply, val_main_v16_apply, val_main_v15_apply]
  refine congrArg₂ (· * ·) (congrArg₂ (· * ·) ?_ (at2 x1 _ (ValueIdx.ix2 b n) rfl rfl)) (at2 x7 _ (ValueIdx.ix2 H d') rfl rfl)
  exact Finset.sum_congr rfl fun d _ => (congrArg₂ (· * ·) (at3 x0 (lidx_main_v14 (ix4 b n H d') d) (ValueIdx.ix3 b n d) rfl rfl rfl) (at3 x6 (ridx_main_v14 (ix4 b n H d') d) (ValueIdx.ix3 d H d') rfl rfl rfl)).trans (mul_comm _ _)

/-- The values of one token and head. -/
abbrev vrow (b : Fin 3) (H : Fin 56) (n : Fin 640) : Fin 64 → EReal := fun d => Spec.projE x0 x1 x6 x7 b H d n

theorem v31_at (b : Fin 3) (n : Fin 640) (H : Fin 56) :
    val_main_v31 (F := Ideal) x0 x1 x6 x7 (ix3 b n H) = Finset.univ.sup fun d => max (vrow x0 x1 x6 x7 b H n d) (-vrow x0 x1 x6 x7 b H n d) := by
  have e : ∀ d : Fin 64, val_main_v30 (F := Ideal) x0 x1 x6 x7 (ix4 b n H d) = max (vrow x0 x1 x6 x7 b H n d) (-vrow x0 x1 x6 x7 b H n d) := fun d => by
    rw [val_main_v30_apply, v20_at]; rfl
  simp only [← e]
  unfold val_main_v31 val_main_cst_1
  generalize val_main_v30 (F := Ideal) x0 x1 x6 x7 = y
  pointwise
  rw [ofBits_negInf]; rfl

/-- The largest magnitude over 448. -/
theorem v33_at (b : Fin 3) (n : Fin 640) (H : Fin 56) : val_main_v33 (F := Ideal) x0 x1 x6 x7 (ix3 b n H) = Spec.mag (vrow x0 x1 x6 x7 b H n) := by
  rw [val_main_v33_apply, v31_at, val_main_v32_apply, val_main_cst_2_apply]
  rfl

theorem v37_at (k : Fin 252) : val_main_v37 (F := Ideal) (ix1 k) = (((((k.val : ℤ) - 126 : ℤ)) : ℝ) : EReal) := by
  rw [val_main_v37_apply, val_main_v36_apply, val_main_v35_apply, val_main_v34_apply, val_main_c_apply]
  exact congrArg (fun n : ℤ => (((n : ℤ) : ℝ) : EReal)) (word_toInt k)

theorem v39_at (k : Fin 252) : val_main_v39 (F := Ideal) (ix1 k) = (((2 : ℝ) ^ ((k.val : ℤ) - 126) : ℝ) : EReal) := by
  rw [val_main_v39_apply, v37_at, val_main_v38_apply, val_main_cst_3_apply]
  refine Eq.trans ?_ (pow_two _)
  rw [← ofBits_two]; rfl

/-- Whether a power is at most the magnitude, as a number. -/
theorem v46_at (b : Fin 3) (n : Fin 640) (H : Fin 56) (k : Fin 252) :
    val_main_v46 (F := Ideal) x0 x1 x6 x7 (ix4 b n H k) = ((if (((2 : ℝ) ^ ((k.val : ℤ) - 126) : ℝ) : EReal) ≤ Spec.mag (vrow x0 x1 x6 x7 b H n) then (1 : ℝ) else 0 : ℝ) : EReal) := by
  rw [val_main_v46_apply, val_main_v45_apply, val_main_v44_apply, val_main_v42_apply, val_main_v41_apply, val_main_v43_apply, val_main_v40_apply]
  rw [at1 (val_main_v39 (F := Ideal)) (idx_main_v41 (idx_main_v42 (ix4 b n H k))) (ix1 k) rfl,
    at3 (val_main_v33 (F := Ideal) x0 x1 x6 x7) (idx_main_v40 (idx_main_v43 (ix4 b n H k))) (ix3 b n H) rfl rfl rfl, v39_at, v33_at,
    val_main_call0_v0_apply, val_main_call0_v1_apply, val_main_cst_4_apply, val_main_cst_5_apply]
  exact flag_eq _ _

/-- The count of the powers. -/
theorem v47_at (b : Fin 3) (n : Fin 640) (H : Fin 56) : val_main_v47 (F := Ideal) x0 x1 x6 x7 (ix3 b n H) = ((Spec.N (Spec.mag (vrow x0 x1 x6 x7 b H n)) : ℝ) : EReal) := by
  rw [val_main_v47_apply, val_main_cst_6_apply]
  have e : ∀ k : Fin 252, val_main_v46 (F := Ideal) x0 x1 x6 x7 (idx_main_v47 (ix3 b n H) k)
      = ((if (((2 : ℝ) ^ ((k.val : ℤ) - 126) : ℝ) : EReal) ≤ Spec.mag (vrow x0 x1 x6 x7 b H n) then (1 : ℝ) else 0 : ℝ) : EReal) := fun k =>
    (at4 (val_main_v46 (F := Ideal) x0 x1 x6 x7) (idx_main_v47 (ix3 b n H) k) (ix4 b n H k) rfl rfl rfl rfl).trans (v46_at x0 x1 x6 x7 b n H k)
  rw [Finset.sum_congr rfl fun k _ => e k]
  exact count_eq _

/-- The exponent. -/
theorem v52_at (b : Fin 3) (n : Fin 640) (H : Fin 56) : val_main_v52 (F := Ideal) x0 x1 x6 x7 (ix3 b n H) = ((Spec.expo (Spec.mag (vrow x0 x1 x6 x7 b H n)) : ℝ) : EReal) := by
  rw [val_main_v52_apply, val_main_v51_apply, val_main_v49_apply, v47_at, v33_at, val_main_v50_apply, val_main_cst_8_apply, val_main_call1_v1_apply, val_main_v48_apply, val_main_cst_7_apply]
  exact expo_eq _

/-- The scale. -/
theorem v54_at (b : Fin 3) (n : Fin 640) (H : Fin 56) : val_main_v54 (F := Ideal) x0 x1 x6 x7 (ix3 b n H) = ((Spec.scl (Spec.mag (vrow x0 x1 x6 x7 b H n)) : ℝ) : EReal) := by
  rw [val_main_v54_apply, v52_at, val_main_v53_apply, val_main_cst_10_apply]
  exact pow_expo _

/-- The inverse scale. -/
theorem v57_at (b : Fin 3) (n : Fin 640) (H : Fin 56) : val_main_v57 (F := Ideal) x0 x1 x6 x7 (ix3 b n H) = ((Spec.inv (Spec.mag (vrow x0 x1 x6 x7 b H n)) : ℝ) : EReal) := by
  rw [val_main_v57_apply, val_main_v55_apply, v52_at, val_main_v56_apply, val_main_cst_11_apply]
  exact pow_neg_expo _

/-- The codes before their rounding to eight bits. -/
theorem v61_at (b : Fin 3) (n : Fin 640) (H : Fin 56) (d : Fin 64) : val_main_v61 (F := Ideal) x0 x1 x6 x7 (ix4 b n H d) = Spec.code (vrow x0 x1 x6 x7 b H n) d := by
  rw [val_main_v61_apply, val_main_call2_v4_apply, val_main_call2_v2_apply, val_main_v60_apply, v20_at, val_main_v59_apply, val_main_v58_apply]
  rw [at3 (val_main_v57 (F := Ideal) x0 x1 x6 x7) (idx_main_v58 (idx_main_v59 (ix4 b n H d))) (ix3 b n H) rfl rfl rfl, v57_at]
  rfl

end Cert.ReferenceIdeal.Hand

end
-- ==== Proof.R.Cuts.lean ====
module

public import proofs.«01_k».proof.Proof.Gen.ReferenceIdeal.Read
public import proofs.«01_k».proof.Proof.Spec
public import proofs.«01_k».proof.Proof.Heads
public import Idealize.ShloMosaic.Lib.Pointwise
public import proofs.«01_k».proof.Proof.R.Values
public import Idealize.ShloMosaic.Lib.Pipeline.ValueKit

@[expose] public section

noncomputable section

namespace Cert.ReferenceIdeal.Hand

open Cert.ReferenceIdeal Cert.ReferenceIdeal.Gen Cert.ReferenceIdeal.Read Idealize.ShloMosaic
open Cert.Spec (at1 at2 at3 at4 at5 ofBits_negInf ofBits_zero)

/-! Cutting one chunk out of an array, stacking the chunks again, and one step of the scan. -/

/-- Zero times a real number. -/
theorem zero_bits_mul (r : ℝ) : Ideal.ofBits .f32 0x00000000#32 * (r : EReal) = ((0 : ℝ) : EReal) := by
  rw [ofBits_zero, ← EReal.coe_mul, zero_mul]

/-- One chunk cut out of an array over the chunks. -/
theorem cut4 {α : Type} (o : Fin 4 → ℕ) (c : Fin 5) (ho : o = ![0, c.val, 0, 0]) (y : S3x5x56x160.Idx → α) (h : S3x5x56x160.Slices o S3x1x56x160) (b : Fin 3) (H : Fin 56) (l : Fin 160) :
    shapeCast S3x56x160 (extractStridedSlice S3x1x56x160 o y h) shapeCasts_S3x1x56x160_S3x56x160 (ix3 b H l) = y (ix4 b c H l) := by
  subst ho
  refine (shapeCast_apply (extractStridedSlice S3x1x56x160 ![0, c.val, 0, 0] y h) shapeCasts_S3x1x56x160_S3x56x160 (ix3 b H l) (ix4 b 0 H l) ?_).trans ?_
  · rewrite [Shape.rowMajor_val_four, Shape.rowMajor_val_three]
    show ((b.val * 1 + 0) * 56 + H.val) * 160 + l.val = (b.val * 56 + H.val) * 160 + l.val
    omega
  · refine extractStridedSlice_apply ![0, c.val, 0, 0] y h (ix4 b 0 H l) (ix4 b c H l) fun a => ?_
    match a with
    | 0 => exact (Nat.zero_add _).symm
    | 1 => rfl
    | 2 => exact (Nat.zero_add _).symm
    | 3 => exact (Nat.zero_add _).symm

theorem cut5 {α : Type} (o : Fin 5 → ℕ) (c : Fin 5) (ho : o = ![0, c.val, 0, 0, 0]) (y : S3x5x56x160x64.Idx → α) (h : S3x5x56x160x64.Slices o S3x1x56x160x64) (b : Fin 3) (H : Fin 56) (l : Fin 160) (d : Fin 64) :
    shapeCast S3x56x160x64 (extractStridedSlice S3x1x56x160x64 o y h) shapeCasts_S3x1x56x160x64_S3x56x160x64 (ix4 b H l d) = y (ix5 b c H l d) := by
  subst ho
  refine (shapeCast_apply (extractStridedSlice S3x1x56x160x64 ![0, c.val, 0, 0, 0] y h) shapeCasts_S3x1x56x160x64_S3x56x160x64 (ix4 b H l d) (ix5 b 0 H l d) ?_).trans ?_
  · rewrite [Shape.rowMajor_val_five, Shape.rowMajor_val_four]
    show (((b.val * 1 + 0) * 56 + H.val) * 160 + l.val) * 64 + d.val = ((b.val * 56 + H.val) * 160 + l.val) * 64 + d.val
    omega
  · refine extractStridedSlice_apply ![0, c.val, 0, 0, 0] y h (ix5 b 0 H l d) (ix5 b c H l d) fun a => ?_
    match a with
    | 0 => exact (Nat.zero_add _).symm
    | 1 => rfl
    | 2 => exact (Nat.zero_add _).symm
    | 3 => exact (Nat.zero_add _).symm
    | 4 => exact (Nat.zero_add _).symm

/-- Five arrays stacked along the chunks, read at a chunk. -/
theorem stack4 (y0 y1 y2 y3 y4 : S3x1x56x160.Idx → EReal) (h) (b : Fin 3) (c : Fin 5) (H : Fin 56) (l : Fin 160) (g : Fin 5 → EReal)
    (h0 : y0 (ix4 b 0 H l) = g 0) (h1 : y1 (ix4 b 0 H l) = g 1) (h2 : y2 (ix4 b 0 H l) = g 2) (h3 : y3 (ix4 b 0 H l) = g 3) (h4 : y4 (ix4 b 0 H l) = g 4) :
    concatenate S3x5x56x160 1 [⟨S3x1x56x160, y0⟩, ⟨S3x1x56x160, y1⟩, ⟨S3x1x56x160, y2⟩, ⟨S3x1x56x160, y3⟩, ⟨S3x1x56x160, y4⟩] h (ix4 b c H l) = g c := by
  have hb : ∀ a : Fin 4, a.cast (rfl : S3x1x56x160.rank = S3x5x56x160.rank) ≠ 1 → ((ix4 b 0 H l : S3x1x56x160.Idx) a).val = ((ix4 b c H l : S3x5x56x160.Idx) (a.cast rfl)).val := fun a ha => match a with
    | 0 => rfl
    | 1 => absurd rfl ha
    | 2 => rfl
    | 3 => rfl
  refine (concatenate_apply_piece (t := S3x5x56x160) 1 _ h (ix4 b c H l) c.val c.isLt S3x1x56x160 ((![y0, y1, y2, y3, y4] : Fin 5 → S3x1x56x160.Idx → EReal) c) ?_ rfl c.val ?_ (ix4 b 0 H l) hb (Nat.add_zero _)).trans ?_
  · match c with
    | 0 => rfl
    | 1 => rfl
    | 2 => rfl
    | 3 => rfl
    | 4 => rfl
  · match c with
    | 0 => rfl
    | 1 => rfl
    | 2 => rfl
    | 3 => rfl
    | 4 => rfl
  · match c with
    | 0 => exact h0
    | 1 => exact h1
    | 2 => exact h2
    | 3 => exact h3
    | 4 => exact h4

theorem stack5 (y0 y1 y2 y3 y4 : S3x1x56x160x64.Idx → EReal) (h) (b : Fin 3) (c : Fin 5) (H : Fin 56) (l : Fin 160) (d : Fin 64) (g : Fin 5 → EReal)
    (h0 : y0 (ix5 b 0 H l d) = g 0) (h1 : y1 (ix5 b 0 H l d) = g 1) (h2 : y2 (ix5 b 0 H l d) = g 2) (h3 : y3 (ix5 b 0 H l d) = g 3) (h4 : y4 (ix5 b 0 H l d) = g 4) :
    concatenate S3x5x56x160x64 1 [⟨S3x1x56x160x64, y0⟩, ⟨S3x1x56x160x64, y1⟩, ⟨S3x1x56x160x64, y2⟩, ⟨S3x1x56x160x64, y3⟩, ⟨S3x1x56x160x64, y4⟩] h (ix5 b c H l d) = g c := by
  have hb : ∀ a : Fin 5, a.cast (rfl : S3x1x56x160x64.rank = S3x5x56x160x64.rank) ≠ 1 → ((ix5 b 0 H l d : S3x1x56x160x64.Idx) a).val = ((ix5 b c H l d : S3x5x56x160x64.Idx) (a.cast rfl)).val := fun a ha => match a with
    | 0 => rfl
    | 1 => absurd rfl ha
    | 2 => rfl
    | 3 => rfl
    | 4 => rfl
  refine (concatenate_apply_piece (t := S3x5x56x160x64) 1 _ h (ix5 b c H l d) c.val c.isLt S3x1x56x160x64 ((![y0, y1, y2, y3, y4] : Fin 5 → S3x1x56x160x64.Idx → EReal) c) ?_ rfl c.val ?_ (ix5 b 0 H l d) hb (Nat.add_zero _)).trans ?_
  · match c with
    | 0 => rfl
    | 1 => rfl
    | 2 => rfl
    | 3 => rfl
    | 4 => rfl
  · match c with
    | 0 => rfl
    | 1 => rfl
    | 2 => rfl
    | 3 => rfl
    | 4 => rfl
  · match c with
    | 0 => exact h0
    | 1 => exact h1
    | 2 => exact h2
    | 3 => exact h3
    | 4 => exact h4

/-- One chunk more: the sum of its exponentials added, then decayed. -/
theorem Z_step (k : ℕ → Fin 160 → Fin 128 → ℝ) (c : ℕ) (l : Fin 160) (z s d : EReal) (hz : z = ((Spec.Z k c l * Spec.D k c l : ℝ) : EReal)) (hs : s = ((∑ s : Fin 128, Spec.E k c l s : ℝ) : EReal))
    (hd : d = ((Real.exp (Spec.M k c l - Spec.M k (c + 1) l) : ℝ) : EReal)) : (z + s) * d = ((Spec.Z k (c + 1) l * Spec.D k (c + 1) l : ℝ) : EReal) := by
  subst hz hs hd
  rw [← EReal.coe_add, ← EReal.coe_mul]
  rfl

/-- One chunk more: its products added, then decayed. -/
theorem S_step (k : ℕ → Fin 160 → Fin 128 → ℝ) (G : ℕ → Fin 128 → Fin 64 → ℝ) (c : ℕ) (l : Fin 160) (d : Fin 64) (z s e : EReal) (hz : z = ((Spec.S k G c l d * Spec.D k c l : ℝ) : EReal))
    (hs : s = ((∑ s : Fin 128, Spec.E k c l s * G c s d : ℝ) : EReal)) (he : e = ((Real.exp (Spec.M k c l - Spec.M k (c + 1) l) : ℝ) : EReal)) :
    (z + s) * e = ((Spec.S k G (c + 1) l d * Spec.D k (c + 1) l : ℝ) : EReal) := by
  subst hz hs he
  rw [← EReal.coe_add, ← EReal.coe_mul]
  rfl

end Cert.ReferenceIdeal.Hand

end
-- ==== Proof.R.Soft.lean ====
module

public import proofs.«01_k».proof.Proof.Gen.ReferenceIdeal.Read
public import proofs.«01_k».proof.Proof.Spec
public import proofs.«01_k».proof.Proof.Heads
public import Idealize.ShloMosaic.Lib.Pointwise
public import proofs.«01_k».proof.Proof.R.Values

@[expose] public section

noncomputable section

namespace Cert.ReferenceIdeal.Hand

open Cert.ReferenceIdeal Cert.ReferenceIdeal.Gen Cert.ReferenceIdeal.Read Idealize.ShloMosaic
open Cert.Spec (at1 at2 at3 at4 at5 ofBits_negInf ofBits_zero)

/-! The reference's softmax of the queries, its regrouping into chunks, and its prefix sums. -/

variable (x0 : S3x640x3584.Idx → EReal) (x1 : S3x640.Idx → EReal) (x2 : S3584x56x160.Idx → EReal) (x3 : S56x160.Idx → EReal)
  (x4 : S3584x56x160.Idx → EReal) (x5 : S56x160.Idx → EReal) (x6 : S3584x56x64.Idx → EReal) (x7 : S56x64.Idx → EReal)

theorem v21_at (b : Fin 3) (n : Fin 640) (H : Fin 56) :
    val_main_v21 (F := Ideal) x0 x1 x2 x3 (ix3 b n H) = Finset.univ.sup fun l => val_main_v6 (F := Ideal) x0 x1 x2 x3 (ix4 b n H l) := by
  unfold val_main_v21 val_main_cst
  generalize val_main_v6 (F := Ideal) x0 x1 x2 x3 = y
  pointwise
  rw [ofBits_negInf]; rfl

theorem v68_at (b : Fin 3) (c : Fin 5) (H : Fin 56) (l : Fin 160) :
    val_main_v68 (F := Ideal) x0 x1 x4 x5 (ix4 b c H l) = Finset.univ.sup fun s => val_main_v63 (F := Ideal) x0 x1 x4 x5 (ix5 b c s H l) := by
  unfold val_main_v68 val_main_cst_14
  generalize val_main_v63 (F := Ideal) x0 x1 x4 x5 = y
  pointwise
  rw [ofBits_negInf]; rfl

/-- The exponentials of the queries. -/
theorem v25_at (q : Fin 160 → ℝ) (b : Fin 3) (n : Fin 640) (H : Fin 56) (hq : ∀ l, val_main_v6 (F := Ideal) x0 x1 x2 x3 (ix4 b n H l) = ((q l : ℝ) : EReal)) (l : Fin 160) :
    val_main_v25 (F := Ideal) x0 x1 x2 x3 (ix4 b n H l) = ((Real.exp (q l - Finset.univ.sup' Finset.univ_nonempty q) : ℝ) : EReal) := by
  rw [val_main_v25_apply, val_main_v24_apply, val_main_v23_apply, val_main_v22_apply, hq,
    at3 (val_main_v21 (F := Ideal) x0 x1 x2 x3) (idx_main_v22 (idx_main_v23 (ix4 b n H l))) (ix3 b n H) rfl rfl rfl, v21_at]
  simp only [hq]
  rw [Spec.sup_coe]
  rfl

/-- The softmax of the queries. -/
theorem v29_at (q : Fin 160 → ℝ) (b : Fin 3) (n : Fin 640) (H : Fin 56) (hq : ∀ l, val_main_v6 (F := Ideal) x0 x1 x2 x3 (ix4 b n H l) = ((q l : ℝ) : EReal)) (l : Fin 160) :
    val_main_v29 (F := Ideal) x0 x1 x2 x3 (ix4 b n H l)
      = ((Real.exp (q l - Finset.univ.sup' Finset.univ_nonempty q) / ∑ l, Real.exp (q l - Finset.univ.sup' Finset.univ_nonempty q) : ℝ) : EReal) := by
  have hs : val_main_v26 (F := Ideal) x0 x1 x2 x3 (ix3 b n H) = ((∑ l, Real.exp (q l - Finset.univ.sup' Finset.univ_nonempty q) : ℝ) : EReal) := by
    rw [val_main_v26_apply, val_main_cst_0_apply]
    have e : ∀ k : Fin 160, val_main_v25 (F := Ideal) x0 x1 x2 x3 (idx_main_v26 (ix3 b n H) k) = ((Real.exp (q k - Finset.univ.sup' Finset.univ_nonempty q) : ℝ) : EReal) := fun k =>
      (at4 (val_main_v25 (F := Ideal) x0 x1 x2 x3) (idx_main_v26 (ix3 b n H) k) (ix4 b n H k) rfl rfl rfl rfl).trans (v25_at x0 x1 x2 x3 q b n H hq k)
    rw [Finset.sum_congr rfl fun k _ => e k, Spec.coe_sum]
    refine (congrArg (· + _) ofBits_zero).trans ?_
    rw [← EReal.coe_add, zero_add]
  rw [val_main_v29_apply, val_main_v28_apply, val_main_v27_apply, v25_at x0 x1 x2 x3 q b n H hq,
    at3 (val_main_v26 (F := Ideal) x0 x1 x2 x3) (idx_main_v27 (idx_main_v28 (ix4 b n H l))) (ix3 b n H) rfl rfl rfl, hs]
  exact Spec.div_coe _ _ (ne_of_gt (Finset.sum_pos (fun _ _ => Real.exp_pos _) Finset.univ_nonempty))

/-- Regroupings of the tokens into chunks. -/
theorem v63_at (b : Fin 3) (c : Fin 5) (s : Fin 128) (H : Fin 56) (l : Fin 160) :
    val_main_v63 (F := Ideal) x0 x1 x4 x5 (ix5 b c s H l) = val_main_v13 (F := Ideal) x0 x1 x4 x5 (ix4 b (Spec.tok c.val s) H l) := by
  rw [val_main_v63_apply, Spec.tok_of_lt]
  refine at4 (val_main_v13 (F := Ideal) x0 x1 x4 x5) (idx_main_v63 (ix5 b c s H l)) (ix4 b ⟨128 * c.val + s.val, by omega⟩ H l) ?_ ?_ ?_ ?_
  · show ((((b.val * 5 + c.val) * 128 + s.val) * 56 + H.val) * 160 + l.val) / 5734400 = b.val; omega
  · show ((((b.val * 5 + c.val) * 128 + s.val) * 56 + H.val) * 160 + l.val) / 8960 % 640 = 128 * c.val + s.val; omega
  · show ((((b.val * 5 + c.val) * 128 + s.val) * 56 + H.val) * 160 + l.val) / 160 % 56 = H.val; omega
  · show ((((b.val * 5 + c.val) * 128 + s.val) * 56 + H.val) * 160 + l.val) % 160 = l.val; omega

theorem v64_at (b : Fin 3) (c : Fin 5) (s : Fin 128) (H : Fin 56) (l : Fin 160) :
    val_main_v64 (F := Ideal) x0 x1 x2 x3 (ix5 b c s H l) = val_main_v29 (F := Ideal) x0 x1 x2 x3 (ix4 b (Spec.tok c.val s) H l) := by
  rw [val_main_v64_apply, Spec.tok_of_lt]
  refine at4 (val_main_v29 (F := Ideal) x0 x1 x2 x3) (idx_main_v64 (ix5 b c s H l)) (ix4 b ⟨128 * c.val + s.val, by omega⟩ H l) ?_ ?_ ?_ ?_
  · show ((((b.val * 5 + c.val) * 128 + s.val) * 56 + H.val) * 160 + l.val) / 5734400 = b.val; omega
  · show ((((b.val * 5 + c.val) * 128 + s.val) * 56 + H.val) * 160 + l.val) / 8960 % 640 = 128 * c.val + s.val; omega
  · show ((((b.val * 5 + c.val) * 128 + s.val) * 56 + H.val) * 160 + l.val) / 160 % 56 = H.val; omega
  · show ((((b.val * 5 + c.val) * 128 + s.val) * 56 + H.val) * 160 + l.val) % 160 = l.val; omega

theorem v65_at (b : Fin 3) (c : Fin 5) (s : Fin 128) (H : Fin 56) :
    val_main_v65 (F := Ideal) x0 x1 x6 x7 (ix4 b c s H) = val_main_v54 (F := Ideal) x0 x1 x6 x7 (ix3 b (Spec.tok c.val s) H) := by
  rw [val_main_v65_apply, Spec.tok_of_lt]
  refine at3 (val_main_v54 (F := Ideal) x0 x1 x6 x7) (idx_main_v65 (ix4 b c s H)) (ix3 b ⟨128 * c.val + s.val, by omega⟩ H) ?_ ?_ ?_
  · show (((b.val * 5 + c.val) * 128 + s.val) * 56 + H.val) / 35840 = b.val; omega
  · show (((b.val * 5 + c.val) * 128 + s.val) * 56 + H.val) / 56 % 640 = 128 * c.val + s.val; omega
  · show (((b.val * 5 + c.val) * 128 + s.val) * 56 + H.val) % 56 = H.val; omega

theorem v67_at (b : Fin 3) (c : Fin 5) (s : Fin 128) (H : Fin 56) (d : Fin 64) :
    val_main_v67 (F := Ideal) x0 x1 x6 x7 (ix5 b c s H d) = val_main_v61 (F := Ideal) x0 x1 x6 x7 (ix4 b (Spec.tok c.val s) H d) := by
  rw [val_main_v67_apply, val_main_v66_apply, Spec.tok_of_lt]
  refine at4 (val_main_v61 (F := Ideal) x0 x1 x6 x7) (idx_main_v66 (ix5 b c s H d)) (ix4 b ⟨128 * c.val + s.val, by omega⟩ H d) ?_ ?_ ?_ ?_
  · show ((((b.val * 5 + c.val) * 128 + s.val) * 56 + H.val) * 64 + d.val) / 2293760 = b.val; omega
  · show ((((b.val * 5 + c.val) * 128 + s.val) * 56 + H.val) * 64 + d.val) / 3584 % 640 = 128 * c.val + s.val; omega
  · show ((((b.val * 5 + c.val) * 128 + s.val) * 56 + H.val) * 64 + d.val) / 64 % 56 = H.val; omega
  · show ((((b.val * 5 + c.val) * 128 + s.val) * 56 + H.val) * 64 + d.val) % 64 = d.val; omega

/-- A sum over the positions of a window of 128 tokens. -/
theorem sum_window (f : (⟨5, ![1, 1, 128, 1, 1]⟩ : Shape).Idx → EReal) (v : EReal) :
    (List.finRange (⟨5, ![1, 1, 128, 1, 1]⟩ : Shape).numel).foldl (fun r n => r + f ((⟨5, ![1, 1, 128, 1, 1]⟩ : Shape).rowMajor.symm n)) v = v + ∑ w : Fin 128, f (ix5 0 0 w 0 0) := by
  have fold : ∀ (L : List (Fin (⟨5, ![1, 1, 128, 1, 1]⟩ : Shape).numel)) (v : EReal), L.foldl (fun r n => r + f ((⟨5, ![1, 1, 128, 1, 1]⟩ : Shape).rowMajor.symm n)) v
      = v + (L.map fun n => f ((⟨5, ![1, 1, 128, 1, 1]⟩ : Shape).rowMajor.symm n)).sum := by
    intro L
    induction L with
    | nil => intro v; simp
    | cons a L ih => intro v; rw [List.foldl_cons, ih, List.map_cons, List.sum_cons, add_assoc]
  rw [fold, ← Fin.sum_univ_def, Equiv.sum_comp (⟨5, ![1, 1, 128, 1, 1]⟩ : Shape).rowMajor.symm f]
  refine congrArg (v + ·) ?_
  refine Finset.sum_bij' (fun i _ => (i 2 : Fin 128)) (fun w _ => ix5 0 0 w 0 0) (fun _ _ => Finset.mem_univ _) (fun _ _ => Finset.mem_univ _) ?_ (fun _ _ => rfl) ?_
  · intro i _
    funext a
    match a with
    | 0 => exact Fin.ext (by have : (i 0).val < 1 := (i 0).isLt; show 0 = (i 0).val; omega)
    | 1 => exact Fin.ext (by have : (i 1).val < 1 := (i 1).isLt; show 0 = (i 1).val; omega)
    | 2 => rfl
    | 3 => exact Fin.ext (by have : (i 3).val < 1 := (i 3).isLt; show 0 = (i 3).val; omega)
    | 4 => exact Fin.ext (by have : (i 4).val < 1 := (i 4).isLt; show 0 = (i 4).val; omega)
  · intro i _
    refine congrArg f (funext fun a => ?_)
    match a with
    | 0 => exact Fin.ext (by have : (i 0).val < 1 := (i 0).isLt; show (i 0).val = 0; omega)
    | 1 => exact Fin.ext (by have : (i 1).val < 1 := (i 1).isLt; show (i 1).val = 0; omega)
    | 2 => rfl
    | 3 => exact Fin.ext (by have : (i 3).val < 1 := (i 3).isLt; show (i 3).val = 0; omega)
    | 4 => exact Fin.ext (by have : (i 4).val < 1 := (i 4).isLt; show (i 4).val = 0; omega)

/-- The window ending at token `t`, cut at the array's start, is the tokens up to `t`. -/
theorem prefix_sum (f : Fin 128 → EReal) (t : Fin 128) :
    (∑ w : Fin 128, if h : 127 ≤ t.val + w.val then f ⟨t.val + w.val - 127, by omega⟩ else 0) = ∑ s : Fin 128, if s ≤ t then f s else 0 := by
  rw [← Finset.sum_filter_add_sum_filter_not Finset.univ (fun w : Fin 128 => 127 ≤ t.val + w.val), ← Finset.sum_filter (fun s : Fin 128 => s ≤ t)]
  rw [Finset.sum_eq_zero (s := Finset.univ.filter fun w : Fin 128 => ¬127 ≤ t.val + w.val) (fun w hw => dif_neg (Finset.mem_filter.1 hw).2), add_zero]
  refine Finset.sum_bij' (fun w _ => (⟨(t.val + w.val - 127) % 128, Nat.mod_lt _ (by norm_num)⟩ : Fin 128)) (fun s _ => (⟨(127 + s.val - t.val) % 128, Nat.mod_lt _ (by norm_num)⟩ : Fin 128)) ?_ ?_ ?_ ?_ ?_
  · intro w hw
    have h := (Finset.mem_filter.1 hw).2
    exact Finset.mem_filter.2 ⟨Finset.mem_univ _, Fin.le_def.2 (by show (t.val + w.val - 127) % 128 ≤ t.val; omega)⟩
  · intro s hs
    have h := Fin.le_def.1 (Finset.mem_filter.1 hs).2
    exact Finset.mem_filter.2 ⟨Finset.mem_univ _, by show 127 ≤ t.val + (127 + s.val - t.val) % 128; omega⟩
  · intro w hw
    have h := (Finset.mem_filter.1 hw).2
    exact Fin.ext (by show (127 + (t.val + w.val - 127) % 128 - t.val) % 128 = w.val; omega)
  · intro s hs
    have h := Fin.le_def.1 (Finset.mem_filter.1 hs).2
    exact Fin.ext (by show (t.val + (127 + s.val - t.val) % 128 - 127) % 128 = s.val; omega)
  · intro w hw
    have h := (Finset.mem_filter.1 hw).2
    rw [dif_pos h]
    exact congrArg f (Fin.ext (by show t.val + w.val - 127 = (t.val + w.val - 127) % 128; omega))

/-- One position of the window that ends at an element, of an array padded with zeros in front along the tokens. -/
def winAt (y : S3x5x128x56x160.Idx → EReal) (j : S3x5x128x56x160.Idx) (w : (⟨5, ![1, 1, 128, 1, 1]⟩ : Shape).Idx) : EReal :=
  if hin : ∀ a : Fin 5, (![0, 0, 127, 0, 0] : Fin 5 → ℕ) a ≤ (j a).val * (![1, 1, 1, 1, 1] : Fin 5 → ℕ) a + (w a).val ∧ (j a).val * (![1, 1, 1, 1, 1] : Fin 5 → ℕ) a + (w a).val - (![0, 0, 127, 0, 0] : Fin 5 → ℕ) a < S3x5x128x56x160.size a
    then y (fun a => ⟨_, (hin a).2⟩) else 0

theorem winAt_ix (y : S3x5x128x56x160.Idx → EReal) (b : Fin 3) (c : Fin 5) (t : Fin 128) (H : Fin 56) (l : Fin 160) (w : Fin 128) :
    winAt y (ix5 b c t H l) (ix5 0 0 w 0 0) = if h : 127 ≤ t.val + w.val then y (ix5 b c ⟨t.val + w.val - 127, by omega⟩ H l) else 0 := by
  unfold winAt
  by_cases h : 127 ≤ t.val + w.val
  · rw [dif_pos h, dif_pos]
    · refine at5 y _ _ ?_ ?_ ?_ ?_ ?_
      · show b.val * 1 + 0 - 0 = b.val; omega
      · show c.val * 1 + 0 - 0 = c.val; omega
      · show t.val * 1 + w.val - 127 = t.val + w.val - 127; omega
      · show H.val * 1 + 0 - 0 = H.val; omega
      · show l.val * 1 + 0 - 0 = l.val; omega
    · intro a
      match a with
      | 0 => exact ⟨Nat.zero_le _, by show b.val * 1 + 0 - 0 < 3; omega⟩
      | 1 => exact ⟨Nat.zero_le _, by show c.val * 1 + 0 - 0 < 5; omega⟩
      | 2 => exact ⟨by show 127 ≤ t.val * 1 + w.val; omega, by show t.val * 1 + w.val - 127 < 128; omega⟩
      | 3 => exact ⟨Nat.zero_le _, by show H.val * 1 + 0 - 0 < 56; omega⟩
      | 4 => exact ⟨Nat.zero_le _, by show l.val * 1 + 0 - 0 < 160; omega⟩
  · rw [dif_neg h, dif_neg]
    intro hin
    have := (hin 2).1
    exact h (by have h' : 127 ≤ t.val * 1 + w.val := this; omega)

theorem window_fold (y : S3x5x128x56x160.Idx → EReal) (h) (j : S3x5x128x56x160.Idx) :
    Ideal.hostReduceWindowAdd ![1, 1, 128, 1, 1] ![1, 1, 1, 1, 1] ![0, 0, 127, 0, 0] ![0, 0, 0, 0, 0] (t := S3x5x128x56x160) h y 0 j
      = (List.finRange (⟨5, ![1, 1, 128, 1, 1]⟩ : Shape).numel).foldl (fun r n => r + winAt y j ((⟨5, ![1, 1, 128, 1, 1]⟩ : Shape).rowMajor.symm n)) 0 := by
  unfold Ideal.hostReduceWindowAdd Host.reduceWindow
  dsimp only
  refine congrArg (fun g => List.foldl g (0 : EReal) (List.finRange (⟨5, ![1, 1, 128, 1, 1]⟩ : Shape).numel)) (funext fun r => funext fun n => congrArg (r + ·) ?_)
  unfold winAt
  split_ifs with h1 h2 h2
  · rfl
  · exact absurd h1 h2
  · exact absurd h2 h1
  · rfl

/-- The reference's running sum along the tokens of a chunk. -/
theorem v99_at (b : Fin 3) (c : Fin 5) (t : Fin 128) (H : Fin 56) (l : Fin 160) :
    val_main_v99 (F := Ideal) x0 x1 x4 x5 (ix5 b c t H l) = ∑ s : Fin 128, if s ≤ t then val_main_v98 (F := Ideal) x0 x1 x4 x5 (ix5 b c s H l) else 0 := by
  unfold val_main_v99
  have hv : val_main_call3_call0_v0 (F := Ideal) (Shape.Idx.first h_S_) = 0 := by
    rw [val_main_call3_call0_v0_apply, val_main_call3_call0_cst_apply]
    exact ofBits_zero.trans EReal.coe_zero
  generalize val_main_v98 (F := Ideal) x0 x1 x4 x5 = y
  unfold Host.reduceWindowAdd
  rw [Ideal.hostReduceWindowAdd_def, hv, window_fold, sum_window (winAt y (ix5 b c t H l)) 0, zero_add, ← prefix_sum (fun s => y (ix5 b c s H l)) t]
  exact Finset.sum_congr rfl fun w _ => winAt_ix y b c t H l w

end Cert.ReferenceIdeal.Hand

end
-- ==== Proof.R.Scan.lean ====
module

public import proofs.«01_k».proof.Proof.Gen.ReferenceIdeal.Read
public import proofs.«01_k».proof.Proof.Spec
public import proofs.«01_k».proof.Proof.Heads
public import Idealize.ShloMosaic.Lib.Pointwise
public import proofs.«01_k».proof.Proof.R.Cuts
public import proofs.«01_k».proof.Proof.R.Soft
public import Idealize.ShloMosaic.Lib.Pipeline.ValueKit

@[expose] public section

noncomputable section

namespace Cert.ReferenceIdeal.Hand

open Cert.ReferenceIdeal Cert.ReferenceIdeal.Gen Cert.ReferenceIdeal.Read Idealize.ShloMosaic
open Cert.Spec (at1 at2 at3 at4 at5 ofBits_negInf ofBits_zero)

/-! The reference's scan over the chunks: running maxima, exponentials, states and denominators. -/

variable (x0 : S3x640x3584.Idx → EReal) (x1 : S3x640.Idx → EReal) (x2 : S3584x56x160.Idx → EReal) (x3 : S56x160.Idx → EReal)
  (x4 : S3584x56x160.Idx → EReal) (x5 : S56x160.Idx → EReal) (x6 : S3584x56x64.Idx → EReal) (x7 : S56x64.Idx → EReal)
variable (K : Fin 3 → Fin 56 → ℕ → Fin 160 → Fin 128 → ℝ) (V : Fin 3 → Fin 56 → ℕ → Fin 128 → Fin 64 → EReal)

/-- The keys' logits are the numbers `K`. -/
abbrev KeysAre : Prop := ∀ (b : Fin 3) (c : Fin 5) (s : Fin 128) (H : Fin 56) (l : Fin 160), val_main_v63 (F := Ideal) x0 x1 x4 x5 (ix5 b c s H l) = ((K b H c.val l s : ℝ) : EReal)
/-- The codes are those of the values `V`, and the scales too. -/
abbrev CodesAre : Prop := ∀ (b : Fin 3) (c : Fin 5) (s : Fin 128) (H : Fin 56) (d : Fin 64), val_main_v67 (F := Ideal) x0 x1 x6 x7 (ix5 b c s H d) = Spec.code (V b H c.val s) d
abbrev ScalesAre : Prop := ∀ (b : Fin 3) (c : Fin 5) (s : Fin 128) (H : Fin 56), val_main_v65 (F := Ideal) x0 x1 x6 x7 (ix4 b c s H) = ((Spec.scl (Spec.mag (V b H c.val s)) : ℝ) : EReal)

section Maxima
variable (hk : KeysAre x0 x1 x4 x5 K)
include hk

/-- The maximum over a chunk. -/
theorem v68_top (b : Fin 3) (c : Fin 5) (H : Fin 56) (l : Fin 160) : val_main_v68 (F := Ideal) x0 x1 x4 x5 (ix4 b c H l) = ((Spec.top (K b H) c.val l : ℝ) : EReal) := by
  rw [v68_at]
  simp only [hk b c _ H l]
  exact Spec.sup_coe _

/-- The running maxima. -/
theorem M0_at (b : Fin 3) (H : Fin 56) (l : Fin 160) : val_main_v70 (F := Ideal) x0 x1 x4 x5 (ix3 b H l) = ((Spec.M (K b H) 0 l : ℝ) : EReal) :=
  (cut4 _ 0 rfl _ _ b H l).trans (v68_top x0 x1 x4 x5 K hk b 0 H l)
theorem M1_at (b : Fin 3) (H : Fin 56) (l : Fin 160) : val_main_v73 (F := Ideal) x0 x1 x4 x5 (ix3 b H l) = ((Spec.M (K b H) 1 l : ℝ) : EReal) := by
  rw [val_main_v73_apply, M0_at x0 x1 x4 x5 K hk, show val_main_v72 (F := Ideal) x0 x1 x4 x5 (ix3 b H l) = _ from (cut4 _ 1 rfl _ _ b H l).trans (v68_top x0 x1 x4 x5 K hk b 1 H l)]
  exact Spec.coe_max _ _
theorem M2_at (b : Fin 3) (H : Fin 56) (l : Fin 160) : val_main_v76 (F := Ideal) x0 x1 x4 x5 (ix3 b H l) = ((Spec.M (K b H) 2 l : ℝ) : EReal) := by
  rw [val_main_v76_apply, M1_at x0 x1 x4 x5 K hk, show val_main_v75 (F := Ideal) x0 x1 x4 x5 (ix3 b H l) = _ from (cut4 _ 2 rfl _ _ b H l).trans (v68_top x0 x1 x4 x5 K hk b 2 H l)]
  exact Spec.coe_max _ _
theorem M3_at (b : Fin 3) (H : Fin 56) (l : Fin 160) : val_main_v79 (F := Ideal) x0 x1 x4 x5 (ix3 b H l) = ((Spec.M (K b H) 3 l : ℝ) : EReal) := by
  rw [val_main_v79_apply, M2_at x0 x1 x4 x5 K hk, show val_main_v78 (F := Ideal) x0 x1 x4 x5 (ix3 b H l) = _ from (cut4 _ 3 rfl _ _ b H l).trans (v68_top x0 x1 x4 x5 K hk b 3 H l)]
  exact Spec.coe_max _ _
theorem M4_at (b : Fin 3) (H : Fin 56) (l : Fin 160) : val_main_v82 (F := Ideal) x0 x1 x4 x5 (ix3 b H l) = ((Spec.M (K b H) 4 l : ℝ) : EReal) := by
  rw [val_main_v82_apply, M3_at x0 x1 x4 x5 K hk, show val_main_v81 (F := Ideal) x0 x1 x4 x5 (ix3 b H l) = _ from (cut4 _ 4 rfl _ _ b H l).trans (v68_top x0 x1 x4 x5 K hk b 4 H l)]
  exact Spec.coe_max _ _

/-- The running maxima after every chunk, and before it. -/
theorem v94_at (b : Fin 3) (c : Fin 5) (H : Fin 56) (l : Fin 160) : val_main_v94 (F := Ideal) x0 x1 x4 x5 (ix4 b c H l) = ((Spec.M (K b H) c.val l : ℝ) : EReal) := by
  have h0 : val_main_v89 (F := Ideal) x0 x1 x4 x5 (ix4 b 0 H l) = ((Spec.M (K b H) 0 l : ℝ) : EReal) := by rw [val_main_v89_apply, at3 (val_main_v70 (F := Ideal) x0 x1 x4 x5) (idx_main_v89 (ix4 b 0 H l)) (ix3 b H l) rfl rfl rfl, M0_at x0 x1 x4 x5 K hk b H l]
  have h1 : val_main_v90 (F := Ideal) x0 x1 x4 x5 (ix4 b 0 H l) = ((Spec.M (K b H) 1 l : ℝ) : EReal) := by rw [val_main_v90_apply, at3 (val_main_v73 (F := Ideal) x0 x1 x4 x5) (idx_main_v90 (ix4 b 0 H l)) (ix3 b H l) rfl rfl rfl, M1_at x0 x1 x4 x5 K hk b H l]
  have h2 : val_main_v91 (F := Ideal) x0 x1 x4 x5 (ix4 b 0 H l) = ((Spec.M (K b H) 2 l : ℝ) : EReal) := by rw [val_main_v91_apply, at3 (val_main_v76 (F := Ideal) x0 x1 x4 x5) (idx_main_v91 (ix4 b 0 H l)) (ix3 b H l) rfl rfl rfl, M2_at x0 x1 x4 x5 K hk b H l]
  have h3 : val_main_v92 (F := Ideal) x0 x1 x4 x5 (ix4 b 0 H l) = ((Spec.M (K b H) 3 l : ℝ) : EReal) := by rw [val_main_v92_apply, at3 (val_main_v79 (F := Ideal) x0 x1 x4 x5) (idx_main_v92 (ix4 b 0 H l)) (ix3 b H l) rfl rfl rfl, M3_at x0 x1 x4 x5 K hk b H l]
  have h4 : val_main_v93 (F := Ideal) x0 x1 x4 x5 (ix4 b 0 H l) = ((Spec.M (K b H) 4 l : ℝ) : EReal) := by rw [val_main_v93_apply, at3 (val_main_v82 (F := Ideal) x0 x1 x4 x5) (idx_main_v93 (ix4 b 0 H l)) (ix3 b H l) rfl rfl rfl, M4_at x0 x1 x4 x5 K hk b H l]
  unfold val_main_v94
  revert h0 h1 h2 h3 h4
  generalize val_main_v89 (F := Ideal) x0 x1 x4 x5 = y0
  generalize val_main_v90 (F := Ideal) x0 x1 x4 x5 = y1
  generalize val_main_v91 (F := Ideal) x0 x1 x4 x5 = y2
  generalize val_main_v92 (F := Ideal) x0 x1 x4 x5 = y3
  generalize val_main_v93 (F := Ideal) x0 x1 x4 x5 = y4
  intro h0 h1 h2 h3 h4
  exact stack4 y0 y1 y2 y3 y4 _ b c H l (fun c => ((Spec.M (K b H) c.val l : ℝ) : EReal)) h0 h1 h2 h3 h4
theorem v88_at (b : Fin 3) (c : Fin 5) (H : Fin 56) (l : Fin 160) : val_main_v88 (F := Ideal) x0 x1 x4 x5 (ix4 b c H l) = ((Spec.M (K b H) (c.val - 1) l : ℝ) : EReal) := by
  have h0 : val_main_v83 (F := Ideal) x0 x1 x4 x5 (ix4 b 0 H l) = ((Spec.M (K b H) (0 - 1) l : ℝ) : EReal) := by rw [val_main_v83_apply, at3 (val_main_v70 (F := Ideal) x0 x1 x4 x5) (idx_main_v83 (ix4 b 0 H l)) (ix3 b H l) rfl rfl rfl, M0_at x0 x1 x4 x5 K hk b H l]
  have h1 : val_main_v84 (F := Ideal) x0 x1 x4 x5 (ix4 b 0 H l) = ((Spec.M (K b H) (1 - 1) l : ℝ) : EReal) := by rw [val_main_v84_apply, at3 (val_main_v70 (F := Ideal) x0 x1 x4 x5) (idx_main_v84 (ix4 b 0 H l)) (ix3 b H l) rfl rfl rfl, M0_at x0 x1 x4 x5 K hk b H l]
  have h2 : val_main_v85 (F := Ideal) x0 x1 x4 x5 (ix4 b 0 H l) = ((Spec.M (K b H) (2 - 1) l : ℝ) : EReal) := by rw [val_main_v85_apply, at3 (val_main_v73 (F := Ideal) x0 x1 x4 x5) (idx_main_v85 (ix4 b 0 H l)) (ix3 b H l) rfl rfl rfl, M1_at x0 x1 x4 x5 K hk b H l]
  have h3 : val_main_v86 (F := Ideal) x0 x1 x4 x5 (ix4 b 0 H l) = ((Spec.M (K b H) (3 - 1) l : ℝ) : EReal) := by rw [val_main_v86_apply, at3 (val_main_v76 (F := Ideal) x0 x1 x4 x5) (idx_main_v86 (ix4 b 0 H l)) (ix3 b H l) rfl rfl rfl, M2_at x0 x1 x4 x5 K hk b H l]
  have h4 : val_main_v87 (F := Ideal) x0 x1 x4 x5 (ix4 b 0 H l) = ((Spec.M (K b H) (4 - 1) l : ℝ) : EReal) := by rw [val_main_v87_apply, at3 (val_main_v79 (F := Ideal) x0 x1 x4 x5) (idx_main_v87 (ix4 b 0 H l)) (ix3 b H l) rfl rfl rfl, M3_at x0 x1 x4 x5 K hk b H l]
  unfold val_main_v88
  revert h0 h1 h2 h3 h4
  generalize val_main_v83 (F := Ideal) x0 x1 x4 x5 = y0
  generalize val_main_v84 (F := Ideal) x0 x1 x4 x5 = y1
  generalize val_main_v85 (F := Ideal) x0 x1 x4 x5 = y2
  generalize val_main_v86 (F := Ideal) x0 x1 x4 x5 = y3
  generalize val_main_v87 (F := Ideal) x0 x1 x4 x5 = y4
  intro h0 h1 h2 h3 h4
  exact stack4 y0 y1 y2 y3 y4 _ b c H l (fun c => ((Spec.M (K b H) (c.val - 1) l : ℝ) : EReal)) h0 h1 h2 h3 h4

/-- The decays. -/
theorem v108_at (b : Fin 3) (c : Fin 5) (H : Fin 56) (l : Fin 160) : val_main_v108 (F := Ideal) x0 x1 x4 x5 (ix4 b c H l) = ((Real.exp (Spec.M (K b H) (c.val - 1) l - Spec.M (K b H) c.val l) : ℝ) : EReal) := by
  rw [val_main_v108_apply, val_main_v107_apply, v88_at x0 x1 x4 x5 K hk, v94_at x0 x1 x4 x5 K hk]
  rfl

/-- The exponentials. -/
theorem v98_at (b : Fin 3) (c : Fin 5) (s : Fin 128) (H : Fin 56) (l : Fin 160) : val_main_v98 (F := Ideal) x0 x1 x4 x5 (ix5 b c s H l) = ((Spec.E (K b H) c.val l s : ℝ) : EReal) := by
  rw [val_main_v98_apply, val_main_v97_apply, val_main_v96_apply, val_main_v95_apply, hk,
    at4 (val_main_v94 (F := Ideal) x0 x1 x4 x5) (idx_main_v95 (idx_main_v96 (ix5 b c s H l))) (ix4 b c H l) rfl rfl rfl rfl, v94_at x0 x1 x4 x5 K hk]
  rfl

/-- Their running sums, and their sums over a chunk. -/
theorem v99_sum (b : Fin 3) (c : Fin 5) (t : Fin 128) (H : Fin 56) (l : Fin 160) :
    val_main_v99 (F := Ideal) x0 x1 x4 x5 (ix5 b c t H l) = ((∑ s : Fin 128, Spec.E (K b H) c.val l s * (if s ≤ t then 1 else 0) : ℝ) : EReal) := by
  rw [v99_at, ← Spec.coe_sum]
  refine Finset.sum_congr rfl fun s _ => ?_
  rw [v98_at x0 x1 x4 x5 K hk]
  split_ifs with h
  · rw [mul_one]
  · rw [mul_zero, EReal.coe_zero]
theorem v101_at (b : Fin 3) (c : Fin 5) (H : Fin 56) (l : Fin 160) : val_main_v101 (F := Ideal) x0 x1 x4 x5 (ix4 b c H l) = ((∑ s : Fin 128, Spec.E (K b H) c.val l s : ℝ) : EReal) := by
  rw [val_main_v101_apply, val_main_v100_apply, at5 (val_main_v99 (F := Ideal) x0 x1 x4 x5) (idx_main_v100 (idx_main_v101 (ix4 b c H l))) (ix5 b c 127 H l)
    (by show (((b.val * 5 + c.val) * 56 + H.val) * 160 + l.val) / 44800 = b.val; omega)
    (by show (((b.val * 5 + c.val) * 56 + H.val) * 160 + l.val) / 8960 % 5 = c.val; omega) rfl
    (by show (((b.val * 5 + c.val) * 56 + H.val) * 160 + l.val) / 160 % 56 = H.val; omega)
    (by show (((b.val * 5 + c.val) * 56 + H.val) * 160 + l.val) % 160 = l.val; omega), v99_sum x0 x1 x4 x5 K hk]
  refine congrArg (fun r : ℝ => (r : EReal)) (Finset.sum_congr rfl fun s _ => ?_)
  rw [if_pos (Fin.le_def.2 (by show s.val ≤ 127; omega)), mul_one]

/-- The sums of the exponentials before a chunk, decayed. -/
theorem Z0_at (b : Fin 3) (H : Fin 56) (l : Fin 160) : val_main_v118 (F := Ideal) x0 x1 x4 x5 (ix3 b H l) = ((Spec.Z (K b H) 0 l * Spec.D (K b H) 0 l : ℝ) : EReal) := by
  rw [val_main_v118_apply, val_main_v110_apply, val_main_cst_16_apply, show val_main_v117 (F := Ideal) x0 x1 x4 x5 (ix3 b H l) = _ from (cut4 _ 0 rfl _ _ b H l).trans (v108_at x0 x1 x4 x5 K hk b 0 H l)]
  refine (zero_bits_mul _).trans ?_
  exact congrArg (fun r : ℝ => (r : EReal)) (mul_zero _).symm
theorem Z1_at (b : Fin 3) (H : Fin 56) (l : Fin 160) : val_main_v132 (F := Ideal) x0 x1 x4 x5 (ix3 b H l) = ((Spec.Z (K b H) 1 l * Spec.D (K b H) 1 l : ℝ) : EReal) := by
  rw [val_main_v132_apply, val_main_v124_apply]
  exact Z_step (K b H) 0 l _ _ _ (Z0_at x0 x1 x4 x5 K hk b H l) ((cut4 _ 0 rfl _ _ b H l).trans (v101_at x0 x1 x4 x5 K hk b 0 H l)) ((cut4 _ 1 rfl _ _ b H l).trans (v108_at x0 x1 x4 x5 K hk b 1 H l))
theorem Z2_at (b : Fin 3) (H : Fin 56) (l : Fin 160) : val_main_v146 (F := Ideal) x0 x1 x4 x5 (ix3 b H l) = ((Spec.Z (K b H) 2 l * Spec.D (K b H) 2 l : ℝ) : EReal) := by
  rw [val_main_v146_apply, val_main_v138_apply]
  exact Z_step (K b H) 1 l _ _ _ (Z1_at x0 x1 x4 x5 K hk b H l) ((cut4 _ 1 rfl _ _ b H l).trans (v101_at x0 x1 x4 x5 K hk b 1 H l)) ((cut4 _ 2 rfl _ _ b H l).trans (v108_at x0 x1 x4 x5 K hk b 2 H l))
theorem Z3_at (b : Fin 3) (H : Fin 56) (l : Fin 160) : val_main_v160 (F := Ideal) x0 x1 x4 x5 (ix3 b H l) = ((Spec.Z (K b H) 3 l * Spec.D (K b H) 3 l : ℝ) : EReal) := by
  rw [val_main_v160_apply, val_main_v152_apply]
  exact Z_step (K b H) 2 l _ _ _ (Z2_at x0 x1 x4 x5 K hk b H l) ((cut4 _ 2 rfl _ _ b H l).trans (v101_at x0 x1 x4 x5 K hk b 2 H l)) ((cut4 _ 3 rfl _ _ b H l).trans (v108_at x0 x1 x4 x5 K hk b 3 H l))
theorem Z4_at (b : Fin 3) (H : Fin 56) (l : Fin 160) : val_main_v174 (F := Ideal) x0 x1 x4 x5 (ix3 b H l) = ((Spec.Z (K b H) 4 l * Spec.D (K b H) 4 l : ℝ) : EReal) := by
  rw [val_main_v174_apply, val_main_v166_apply]
  exact Z_step (K b H) 3 l _ _ _ (Z3_at x0 x1 x4 x5 K hk b H l) ((cut4 _ 3 rfl _ _ b H l).trans (v101_at x0 x1 x4 x5 K hk b 3 H l)) ((cut4 _ 4 rfl _ _ b H l).trans (v108_at x0 x1 x4 x5 K hk b 4 H l))
theorem v192_at (b : Fin 3) (c : Fin 5) (H : Fin 56) (l : Fin 160) : val_main_v192 (F := Ideal) x0 x1 x4 x5 (ix4 b c H l) = ((Spec.Z (K b H) c.val l * Spec.D (K b H) c.val l : ℝ) : EReal) := by
  have h0 : val_main_v187 (F := Ideal) x0 x1 x4 x5 (ix4 b 0 H l) = ((Spec.Z (K b H) 0 l * Spec.D (K b H) 0 l : ℝ) : EReal) := by rw [val_main_v187_apply, at3 (val_main_v118 (F := Ideal) x0 x1 x4 x5) (idx_main_v187 (ix4 b 0 H l)) (ix3 b H l) rfl rfl rfl, Z0_at x0 x1 x4 x5 K hk b H l]
  have h1 : val_main_v188 (F := Ideal) x0 x1 x4 x5 (ix4 b 0 H l) = ((Spec.Z (K b H) 1 l * Spec.D (K b H) 1 l : ℝ) : EReal) := by rw [val_main_v188_apply, at3 (val_main_v132 (F := Ideal) x0 x1 x4 x5) (idx_main_v188 (ix4 b 0 H l)) (ix3 b H l) rfl rfl rfl, Z1_at x0 x1 x4 x5 K hk b H l]
  have h2 : val_main_v189 (F := Ideal) x0 x1 x4 x5 (ix4 b 0 H l) = ((Spec.Z (K b H) 2 l * Spec.D (K b H) 2 l : ℝ) : EReal) := by rw [val_main_v189_apply, at3 (val_main_v146 (F := Ideal) x0 x1 x4 x5) (idx_main_v189 (ix4 b 0 H l)) (ix3 b H l) rfl rfl rfl, Z2_at x0 x1 x4 x5 K hk b H l]
  have h3 : val_main_v190 (F := Ideal) x0 x1 x4 x5 (ix4 b 0 H l) = ((Spec.Z (K b H) 3 l * Spec.D (K b H) 3 l : ℝ) : EReal) := by rw [val_main_v190_apply, at3 (val_main_v160 (F := Ideal) x0 x1 x4 x5) (idx_main_v190 (ix4 b 0 H l)) (ix3 b H l) rfl rfl rfl, Z3_at x0 x1 x4 x5 K hk b H l]
  have h4 : val_main_v191 (F := Ideal) x0 x1 x4 x5 (ix4 b 0 H l) = ((Spec.Z (K b H) 4 l * Spec.D (K b H) 4 l : ℝ) : EReal) := by rw [val_main_v191_apply, at3 (val_main_v174 (F := Ideal) x0 x1 x4 x5) (idx_main_v191 (ix4 b 0 H l)) (ix3 b H l) rfl rfl rfl, Z4_at x0 x1 x4 x5 K hk b H l]
  unfold val_main_v192
  revert h0 h1 h2 h3 h4
  generalize val_main_v187 (F := Ideal) x0 x1 x4 x5 = y0
  generalize val_main_v188 (F := Ideal) x0 x1 x4 x5 = y1
  generalize val_main_v189 (F := Ideal) x0 x1 x4 x5 = y2
  generalize val_main_v190 (F := Ideal) x0 x1 x4 x5 = y3
  generalize val_main_v191 (F := Ideal) x0 x1 x4 x5 = y4
  intro h0 h1 h2 h3 h4
  exact stack4 y0 y1 y2 y3 y4 _ b c H l (fun c => ((Spec.Z (K b H) c.val l * Spec.D (K b H) c.val l : ℝ) : EReal)) h0 h1 h2 h3 h4

/-- The denominators. -/
theorem v195_at (b : Fin 3) (c : Fin 5) (t : Fin 128) (H : Fin 56) (l : Fin 160) : val_main_v195 (F := Ideal) x0 x1 x4 x5 (ix5 b c t H l) = ((Spec.Den (K b H) c.val l t : ℝ) : EReal) := by
  rw [val_main_v195_apply, val_main_v194_apply, val_main_v193_apply, at4 (val_main_v192 (F := Ideal) x0 x1 x4 x5) (idx_main_v193 (idx_main_v194 (ix5 b c t H l))) (ix4 b c H l) rfl rfl rfl rfl,
    v192_at x0 x1 x4 x5 K hk, v99_sum x0 x1 x4 x5 K hk]
  exact (EReal.coe_add _ _).symm

end Maxima

section States
variable (hk : KeysAre x0 x1 x4 x5 K) (hc : CodesAre x0 x1 x6 x7 V) (hs : ScalesAre x0 x1 x6 x7 V)
include hk hc hs

/-- A chunk's products of exponentials and dequantised values. -/
theorem v106_at (b : Fin 3) (c : Fin 5) (H : Fin 56) (l : Fin 160) (d : Fin 64) :
    val_main_v106 (F := Ideal) x0 x1 x4 x5 x6 x7 (ix5 b c H l d) = ((∑ s : Fin 128, Spec.E (K b H) c.val l s * Spec.deq (V b H) c.val s d : ℝ) : EReal) := by
  rw [val_main_v106_apply, ← Spec.coe_sum]
  refine Finset.sum_congr rfl fun s _ => ?_
  rw [at5 (val_main_v105 (F := Ideal) x0 x1 x4 x5 x6 x7) (lidx_main_v106 (ix5 b c H l d) s) (ix5 b c s H l) rfl rfl rfl rfl rfl,
    at5 (val_main_v67 (F := Ideal) x0 x1 x6 x7) (ridx_main_v106 (ix5 b c H l d) s) (ix5 b c s H d) rfl rfl rfl rfl rfl, hc, Spec.code_coe,
    val_main_v105_apply, val_main_v104_apply, v98_at x0 x1 x4 x5 K hk, val_main_v103_apply, val_main_v102_apply,
    at4 (val_main_v65 (F := Ideal) x0 x1 x6 x7) (idx_main_v102 (idx_main_v103 (ix5 b c s H l))) (ix4 b c s H) rfl rfl rfl rfl, hs]
  refine (congrArg (· * ((Spec.codeR (V b H c.val s) d : ℝ) : EReal)) (EReal.coe_mul _ _).symm).trans ?_
  rw [← EReal.coe_mul]
  refine congrArg (fun r : ℝ => (r : EReal)) ?_
  unfold Spec.deq
  ring

/-- The states before a chunk, decayed. -/
theorem S0_at (b : Fin 3) (H : Fin 56) (l : Fin 160) (d : Fin 64) : val_main_v115 (F := Ideal) x0 x1 x4 x5 (ix4 b H l d) = ((Spec.S (K b H) (Spec.deq (V b H)) 0 l d * Spec.D (K b H) 0 l : ℝ) : EReal) := by
  rw [val_main_v115_apply, val_main_v109_apply, val_main_cst_15_apply, val_main_v114_apply, val_main_v113_apply,
    at3 (val_main_v112 (F := Ideal) x0 x1 x4 x5) (idx_main_v113 (idx_main_v114 (ix4 b H l d))) (ix3 b H l) rfl rfl rfl,
    show val_main_v112 (F := Ideal) x0 x1 x4 x5 (ix3 b H l) = _ from (cut4 _ 0 rfl _ _ b H l).trans (v108_at x0 x1 x4 x5 K hk b 0 H l)]
  refine (zero_bits_mul _).trans ?_
  exact congrArg (fun r : ℝ => (r : EReal)) (mul_zero _).symm
theorem S1_at (b : Fin 3) (H : Fin 56) (l : Fin 160) (d : Fin 64) : val_main_v129 (F := Ideal) x0 x1 x4 x5 x6 x7 (ix4 b H l d) = ((Spec.S (K b H) (Spec.deq (V b H)) 1 l d * Spec.D (K b H) 1 l : ℝ) : EReal) := by
  rw [val_main_v129_apply, val_main_v121_apply, val_main_v128_apply, val_main_v127_apply, at3 (val_main_v126 (F := Ideal) x0 x1 x4 x5) (idx_main_v127 (idx_main_v128 (ix4 b H l d))) (ix3 b H l) rfl rfl rfl]
  exact S_step (K b H) (Spec.deq (V b H)) 0 l d _ _ _ (S0_at x0 x1 x4 x5 x6 x7 K V hk hc hs b H l d) ((cut5 _ 0 rfl _ _ b H l d).trans (v106_at x0 x1 x4 x5 x6 x7 K V hk hc hs b 0 H l d)) ((cut4 _ 1 rfl _ _ b H l).trans (v108_at x0 x1 x4 x5 K hk b 1 H l))
theorem S2_at (b : Fin 3) (H : Fin 56) (l : Fin 160) (d : Fin 64) : val_main_v143 (F := Ideal) x0 x1 x4 x5 x6 x7 (ix4 b H l d) = ((Spec.S (K b H) (Spec.deq (V b H)) 2 l d * Spec.D (K b H) 2 l : ℝ) : EReal) := by
  rw [val_main_v143_apply, val_main_v135_apply, val_main_v142_apply, val_main_v141_apply, at3 (val_main_v140 (F := Ideal) x0 x1 x4 x5) (idx_main_v141 (idx_main_v142 (ix4 b H l d))) (ix3 b H l) rfl rfl rfl]
  exact S_step (K b H) (Spec.deq (V b H)) 1 l d _ _ _ (S1_at x0 x1 x4 x5 x6 x7 K V hk hc hs b H l d) ((cut5 _ 1 rfl _ _ b H l d).trans (v106_at x0 x1 x4 x5 x6 x7 K V hk hc hs b 1 H l d)) ((cut4 _ 2 rfl _ _ b H l).trans (v108_at x0 x1 x4 x5 K hk b 2 H l))
theorem S3_at (b : Fin 3) (H : Fin 56) (l : Fin 160) (d : Fin 64) : val_main_v157 (F := Ideal) x0 x1 x4 x5 x6 x7 (ix4 b H l d) = ((Spec.S (K b H) (Spec.deq (V b H)) 3 l d * Spec.D (K b H) 3 l : ℝ) : EReal) := by
  rw [val_main_v157_apply, val_main_v149_apply, val_main_v156_apply, val_main_v155_apply, at3 (val_main_v154 (F := Ideal) x0 x1 x4 x5) (idx_main_v155 (idx_main_v156 (ix4 b H l d))) (ix3 b H l) rfl rfl rfl]
  exact S_step (K b H) (Spec.deq (V b H)) 2 l d _ _ _ (S2_at x0 x1 x4 x5 x6 x7 K V hk hc hs b H l d) ((cut5 _ 2 rfl _ _ b H l d).trans (v106_at x0 x1 x4 x5 x6 x7 K V hk hc hs b 2 H l d)) ((cut4 _ 3 rfl _ _ b H l).trans (v108_at x0 x1 x4 x5 K hk b 3 H l))
theorem S4_at (b : Fin 3) (H : Fin 56) (l : Fin 160) (d : Fin 64) : val_main_v171 (F := Ideal) x0 x1 x4 x5 x6 x7 (ix4 b H l d) = ((Spec.S (K b H) (Spec.deq (V b H)) 4 l d * Spec.D (K b H) 4 l : ℝ) : EReal) := by
  rw [val_main_v171_apply, val_main_v163_apply, val_main_v170_apply, val_main_v169_apply, at3 (val_main_v168 (F := Ideal) x0 x1 x4 x5) (idx_main_v169 (idx_main_v170 (ix4 b H l d))) (ix3 b H l) rfl rfl rfl]
  exact S_step (K b H) (Spec.deq (V b H)) 3 l d _ _ _ (S3_at x0 x1 x4 x5 x6 x7 K V hk hc hs b H l d) ((cut5 _ 3 rfl _ _ b H l d).trans (v106_at x0 x1 x4 x5 x6 x7 K V hk hc hs b 3 H l d)) ((cut4 _ 4 rfl _ _ b H l).trans (v108_at x0 x1 x4 x5 K hk b 4 H l))
theorem v186_at (b : Fin 3) (c : Fin 5) (H : Fin 56) (l : Fin 160) (d : Fin 64) :
    val_main_v186 (F := Ideal) x0 x1 x4 x5 x6 x7 (ix5 b c H l d) = ((Spec.S (K b H) (Spec.deq (V b H)) c.val l d * Spec.D (K b H) c.val l : ℝ) : EReal) := by
  have h0 : val_main_v181 (F := Ideal) x0 x1 x4 x5 (ix5 b 0 H l d) = ((Spec.S (K b H) (Spec.deq (V b H)) 0 l d * Spec.D (K b H) 0 l : ℝ) : EReal) := by rw [val_main_v181_apply, at4 (val_main_v115 (F := Ideal) x0 x1 x4 x5) (idx_main_v181 (ix5 b 0 H l d)) (ix4 b H l d) rfl rfl rfl rfl, S0_at x0 x1 x4 x5 x6 x7 K V hk hc hs b H l d]
  have h1 : val_main_v182 (F := Ideal) x0 x1 x4 x5 x6 x7 (ix5 b 0 H l d) = ((Spec.S (K b H) (Spec.deq (V b H)) 1 l d * Spec.D (K b H) 1 l : ℝ) : EReal) := by rw [val_main_v182_apply, at4 (val_main_v129 (F := Ideal) x0 x1 x4 x5 x6 x7) (idx_main_v182 (ix5 b 0 H l d)) (ix4 b H l d) rfl rfl rfl rfl, S1_at x0 x1 x4 x5 x6 x7 K V hk hc hs b H l d]
  have h2 : val_main_v183 (F := Ideal) x0 x1 x4 x5 x6 x7 (ix5 b 0 H l d) = ((Spec.S (K b H) (Spec.deq (V b H)) 2 l d * Spec.D (K b H) 2 l : ℝ) : EReal) := by rw [val_main_v183_apply, at4 (val_main_v143 (F := Ideal) x0 x1 x4 x5 x6 x7) (idx_main_v183 (ix5 b 0 H l d)) (ix4 b H l d) rfl rfl rfl rfl, S2_at x0 x1 x4 x5 x6 x7 K V hk hc hs b H l d]
  have h3 : val_main_v184 (F := Ideal) x0 x1 x4 x5 x6 x7 (ix5 b 0 H l d) = ((Spec.S (K b H) (Spec.deq (V b H)) 3 l d * Spec.D (K b H) 3 l : ℝ) : EReal) := by rw [val_main_v184_apply, at4 (val_main_v157 (F := Ideal) x0 x1 x4 x5 x6 x7) (idx_main_v184 (ix5 b 0 H l d)) (ix4 b H l d) rfl rfl rfl rfl, S3_at x0 x1 x4 x5 x6 x7 K V hk hc hs b H l d]
  have h4 : val_main_v185 (F := Ideal) x0 x1 x4 x5 x6 x7 (ix5 b 0 H l d) = ((Spec.S (K b H) (Spec.deq (V b H)) 4 l d * Spec.D (K b H) 4 l : ℝ) : EReal) := by rw [val_main_v185_apply, at4 (val_main_v171 (F := Ideal) x0 x1 x4 x5 x6 x7) (idx_main_v185 (ix5 b 0 H l d)) (ix4 b H l d) rfl rfl rfl rfl, S4_at x0 x1 x4 x5 x6 x7 K V hk hc hs b H l d]
  unfold val_main_v186
  revert h0 h1 h2 h3 h4
  generalize val_main_v181 (F := Ideal) x0 x1 x4 x5 = y0
  generalize val_main_v182 (F := Ideal) x0 x1 x4 x5 x6 x7 = y1
  generalize val_main_v183 (F := Ideal) x0 x1 x4 x5 x6 x7 = y2
  generalize val_main_v184 (F := Ideal) x0 x1 x4 x5 x6 x7 = y3
  generalize val_main_v185 (F := Ideal) x0 x1 x4 x5 x6 x7 = y4
  intro h0 h1 h2 h3 h4
  exact stack5 y0 y1 y2 y3 y4 _ b c H l d (fun c => ((Spec.S (K b H) (Spec.deq (V b H)) c.val l d * Spec.D (K b H) c.val l : ℝ) : EReal)) h0 h1 h2 h3 h4

end States

end Cert.ReferenceIdeal.Hand

end
-- ==== Proof.R.Out.lean ====
module

public import proofs.«01_k».proof.Proof.Gen.ReferenceIdeal.Read
public import proofs.«01_k».proof.Proof.Spec
public import proofs.«01_k».proof.Proof.Heads
public import Idealize.ShloMosaic.Lib.Pointwise
public import proofs.«01_k».proof.Proof.R.Scan
public import Idealize.ShloMosaic.Lib.WordCmp

@[expose] public section

noncomputable section

namespace Cert.ReferenceIdeal.Hand

open Cert.ReferenceIdeal Cert.ReferenceIdeal.Gen Cert.ReferenceIdeal.Read Idealize.ShloMosaic
open Cert.Spec (at1 at2 at3 at4 at5 ofBits_negInf ofBits_zero)

/-! The reference's results. -/

variable (x0 : S3x640x3584.Idx → EReal) (x1 : S3x640.Idx → EReal) (x2 : S3584x56x160.Idx → EReal) (x3 : S56x160.Idx → EReal)
  (x4 : S3584x56x160.Idx → EReal) (x5 : S56x160.Idx → EReal) (x6 : S3584x56x64.Idx → EReal) (x7 : S56x64.Idx → EReal)
variable (K Q : Fin 3 → Fin 56 → ℕ → Fin 160 → Fin 128 → ℝ) (V : Fin 3 → Fin 56 → ℕ → Fin 128 → Fin 64 → EReal)

/-- The queries' softmax is that of the numbers `Q`. -/
abbrev QueriesAre : Prop := ∀ (b : Fin 3) (c : Fin 5) (t : Fin 128) (H : Fin 56) (l : Fin 160),
  val_main_v64 (F := Ideal) x0 x1 x2 x3 (ix5 b c t H l) = ((Spec.Pe (Q b H) c.val l t / ∑ l, Spec.Pe (Q b H) c.val l t : ℝ) : EReal)

/-- The mask: the tokens up to `t`. -/
theorem mask_at (b : Fin 3) (c : Fin 5) (H : Fin 56) (t s : Fin 128) (u v : EReal) :
    Scalar.select (val_main_call4_v1 (F := Ideal) (ix5 b c H t s)) u v = if s ≤ t then u else v := by
  rw [val_main_call4_v1_apply, val_main_v206_apply, val_main_v204_apply, val_main_v205_apply, val_main_v201_apply, val_main_v203_apply, val_main_v200_apply, val_main_v202_apply]
  have e : ∀ s t : Fin 128, IntOp.cmpi .sge (BitVec.ofNat 32 t.val) (BitVec.ofNat 32 s.val) = BitVec.ofBool (decide (s ≤ t)) := by decide +kernel
  show (if IntOp.cmpi .sge (BitVec.ofNat 32 t.val) (BitVec.ofNat 32 s.val) = 1#1 then u else v) = _
  rw [e]
  by_cases h : s ≤ t <;> simp [h]

section Results
variable (hk : KeysAre x0 x1 x4 x5 K) (hq : QueriesAre x0 x1 x2 x3 Q)
include hk hq

/-- The softmax over the denominators. -/
theorem v196_at (b : Fin 3) (c : Fin 5) (t : Fin 128) (H : Fin 56) (l : Fin 160) : val_main_v196 (F := Ideal) x0 x1 x2 x3 x4 x5 (ix5 b c t H l) = ((Spec.R (K b H) (Q b H) c.val l t : ℝ) : EReal) := by
  rw [val_main_v196_apply, hq, v195_at x0 x1 x4 x5 K hk]
  exact Spec.div_coe _ _ (ne_of_gt (Spec.Den_pos _ _ _ _))

/-- The weights of the tokens of a chunk, masked. -/
theorem v207_at (b : Fin 3) (c : Fin 5) (H : Fin 56) (t s : Fin 128) :
    val_main_v207 (F := Ideal) x0 x1 x2 x3 x4 x5 (ix5 b c H t s) = ((if s ≤ t then ∑ l, Spec.R (K b H) (Q b H) c.val l t * Spec.E (K b H) c.val l s else 0 : ℝ) : EReal) := by
  rw [val_main_v207_apply, mask_at]
  split_ifs with h
  · rw [val_main_v199_apply, ← Spec.coe_sum]
    refine Finset.sum_congr rfl fun l _ => ?_
    rw [at5 (val_main_v196 (F := Ideal) x0 x1 x2 x3 x4 x5) (lidx_main_v199 (ix5 b c H t s) l) (ix5 b c t H l) rfl rfl rfl rfl rfl,
      at5 (val_main_v98 (F := Ideal) x0 x1 x4 x5) (ridx_main_v199 (ix5 b c H t s) l) (ix5 b c s H l) rfl rfl rfl rfl rfl, v196_at x0 x1 x2 x3 x4 x5 K Q hk hq, v98_at x0 x1 x4 x5 K hk, EReal.coe_mul]
  · rw [val_main_call4_v2_apply, val_main_call4_v0_apply, val_main_cst_17_apply]
    exact ofBits_zero

variable (hc : CodesAre x0 x1 x6 x7 V) (hs : ScalesAre x0 x1 x6 x7 V)
include hc hs

/-- The part from the chunks before. -/
theorem v197_at (b : Fin 3) (c : Fin 5) (H : Fin 56) (d : Fin 64) (t : Fin 128) :
    val_main_v197 (F := Ideal) x0 x1 x2 x3 x4 x5 x6 x7 (ix5 b c H d t) = ((∑ l, Spec.R (K b H) (Q b H) c.val l t * (Spec.S (K b H) (Spec.deq (V b H)) c.val l d * Spec.D (K b H) c.val l) : ℝ) : EReal) := by
  rw [val_main_v197_apply, ← Spec.coe_sum]
  refine Finset.sum_congr rfl fun l _ => ?_
  rw [at5 (val_main_v186 (F := Ideal) x0 x1 x4 x5 x6 x7) (lidx_main_v197 (ix5 b c H d t) l) (ix5 b c H l d) rfl rfl rfl rfl rfl,
    at5 (val_main_v196 (F := Ideal) x0 x1 x2 x3 x4 x5) (ridx_main_v197 (ix5 b c H d t) l) (ix5 b c t H l) rfl rfl rfl rfl rfl,
    v186_at x0 x1 x4 x5 x6 x7 K V hk hc hs, v196_at x0 x1 x2 x3 x4 x5 K Q hk hq, ← EReal.coe_mul]
  exact congrArg (fun r : ℝ => (r : EReal)) (mul_comm _ _)

/-- The part from the chunk itself. -/
theorem v213_at (b : Fin 3) (c : Fin 5) (H : Fin 56) (d : Fin 64) (t : Fin 128) :
    val_main_v213 (F := Ideal) x0 x1 x2 x3 x4 x5 x6 x7 (ix5 b c H d t)
      = ((∑ s : Fin 128, (if s ≤ t then ∑ l, Spec.R (K b H) (Q b H) c.val l t * Spec.E (K b H) c.val l s else 0) * Spec.deq (V b H) c.val s d : ℝ) : EReal) := by
  rw [val_main_v213_apply, ← Spec.coe_sum]
  refine Finset.sum_congr rfl fun s _ => ?_
  rw [at5 (val_main_v67 (F := Ideal) x0 x1 x6 x7) (lidx_main_v213 (ix5 b c H d t) s) (ix5 b c s H d) rfl rfl rfl rfl rfl,
    at5 (val_main_v212 (F := Ideal) x0 x1 x2 x3 x4 x5 x6 x7) (ridx_main_v213 (ix5 b c H d t) s) (ix5 b c H t s) rfl rfl rfl rfl rfl, hc, Spec.code_coe,
    val_main_v212_apply, val_main_v211_apply, v207_at x0 x1 x2 x3 x4 x5 K Q hk hq, val_main_v210_apply, val_main_v209_apply, val_main_v208_apply,
    at4 (val_main_v65 (F := Ideal) x0 x1 x6 x7) (idx_main_v208 (idx_main_v209 (idx_main_v210 (ix5 b c H t s)))) (ix4 b c s H) rfl rfl rfl rfl, hs]
  refine (congrArg (((Spec.codeR (V b H c.val s) d : ℝ) : EReal) * ·) (EReal.coe_mul _ _).symm).trans ?_
  rw [← EReal.coe_mul]
  refine congrArg (fun r : ℝ => (r : EReal)) ?_
  unfold Spec.deq
  ring

/-- The outputs, by chunk, token, head and feature. -/
theorem v215_at (b : Fin 3) (c : Fin 5) (t : Fin 128) (H : Fin 56) (d : Fin 64) :
    val_main_v215 (F := Ideal) x0 x1 x2 x3 x4 x5 x6 x7 (ix5 b c t H d) = ((Spec.Y (K b H) (Q b H) (Spec.deq (V b H)) c.val t d : ℝ) : EReal) := by
  rw [val_main_v215_apply, val_main_v198_apply, val_main_v214_apply,
    at5 (val_main_v197 (F := Ideal) x0 x1 x2 x3 x4 x5 x6 x7) (idx_main_v198 (ix5 b c t H d)) (ix5 b c H d t) rfl rfl rfl rfl rfl,
    at5 (val_main_v213 (F := Ideal) x0 x1 x2 x3 x4 x5 x6 x7) (idx_main_v214 (ix5 b c t H d)) (ix5 b c H d t) rfl rfl rfl rfl rfl,
    v197_at x0 x1 x2 x3 x4 x5 x6 x7 K Q V hk hq hc hs, v213_at x0 x1 x2 x3 x4 x5 x6 x7 K Q V hk hq hc hs]
  exact (EReal.coe_add _ _).symm

/-- The outputs, as the array the reference returns. -/
theorem v217_at (i : S1920x3584.Idx) : val_main_v217 (F := Ideal) x0 x1 x2 x3 x4 x5 x6 x7 i
    = ((Spec.Y (K ⟨(i 0).val / 640, Nat.div_lt_of_lt_mul (i 0).isLt⟩ ⟨(i 1).val / 64, Nat.div_lt_of_lt_mul (i 1).isLt⟩) (Q ⟨(i 0).val / 640, Nat.div_lt_of_lt_mul (i 0).isLt⟩ ⟨(i 1).val / 64, Nat.div_lt_of_lt_mul (i 1).isLt⟩)
        (Spec.deq (V ⟨(i 0).val / 640, Nat.div_lt_of_lt_mul (i 0).isLt⟩ ⟨(i 1).val / 64, Nat.div_lt_of_lt_mul (i 1).isLt⟩)) ((i 0).val % 640 / 128) ⟨(i 0).val % 640 % 128, Nat.mod_lt _ (by norm_num)⟩ ⟨(i 1).val % 64, Nat.mod_lt _ (by norm_num)⟩ : ℝ) : EReal) := by
  have h0 : (i 0).val < 1920 := (i 0).isLt
  have h1 : (i 1).val < 3584 := (i 1).isLt
  rw [val_main_v217_apply, val_main_v216_apply]
  refine Eq.trans ?_ (v215_at x0 x1 x2 x3 x4 x5 x6 x7 K Q V hk hq hc hs ⟨(i 0).val / 640, by omega⟩ ⟨(i 0).val % 640 / 128, by omega⟩ ⟨(i 0).val % 640 % 128, by omega⟩ ⟨(i 1).val / 64, by omega⟩ ⟨(i 1).val % 64, by omega⟩)
  refine at5 (val_main_v215 (F := Ideal) x0 x1 x2 x3 x4 x5 x6 x7) (idx_main_v216 i) _ ?_ ?_ ?_ ?_ ?_
  · show ((i 0).val * 3584 + (i 1).val) / 2293760 = (i 0).val / 640; omega
  · show ((i 0).val * 3584 + (i 1).val) / 458752 % 5 = (i 0).val % 640 / 128; omega
  · show ((i 0).val * 3584 + (i 1).val) / 3584 % 128 = (i 0).val % 640 % 128; omega
  · show ((i 0).val * 3584 + (i 1).val) / 64 % 56 = (i 1).val / 64; omega
  · show ((i 0).val * 3584 + (i 1).val) % 64 = (i 1).val % 64; omega

end Results

/-- The queries', keys' and values' arrays, in the arguments. -/
abbrev keys (x0 : S3x640x3584.Idx → EReal) (x1 : S3x640.Idx → EReal) (w : S3584x56x160.Idx → EReal) (s : S56x160.Idx → EReal) : Fin 3 → Fin 56 → ℕ → Fin 160 → Fin 128 → ℝ :=
  fun b H ch l t => (Spec.projE x0 x1 w s b H l (Spec.tok ch t)).toReal
abbrev vals : Fin 3 → Fin 56 → ℕ → Fin 128 → Fin 64 → EReal := fun b H ch t d => Spec.projE x0 x1 x6 x7 b H d (Spec.tok ch t)

theorem keysAre (h0 : ∀ i, Spec.Fin_ (x0 i)) (h1 : ∀ i, Spec.Fin_ (x1 i)) (h4 : ∀ i, Spec.Fin_ (x4 i)) (h5 : ∀ i, Spec.Fin_ (x5 i)) : KeysAre x0 x1 x4 x5 (keys x0 x1 x4 x5) := fun b c s H l => by
  rw [v63_at, v13_at]
  exact Spec.projE_coe x0 x1 x4 x5 b H l _ h0 h1 h4 h5

theorem queriesAre (h0 : ∀ i, Spec.Fin_ (x0 i)) (h1 : ∀ i, Spec.Fin_ (x1 i)) (h2 : ∀ i, Spec.Fin_ (x2 i)) (h3 : ∀ i, Spec.Fin_ (x3 i)) : QueriesAre x0 x1 x2 x3 (keys x0 x1 x2 x3) := fun b c t H l => by
  rw [v64_at, v29_at x0 x1 x2 x3 (fun l => keys x0 x1 x2 x3 b H c.val l t) b (Spec.tok c.val t) H (fun l => by
    rw [v6_at]
    exact Spec.projE_coe x0 x1 x2 x3 b H l _ h0 h1 h2 h3)]
  rfl

theorem codesAre : CodesAre x0 x1 x6 x7 (vals x0 x1 x6 x7) := fun b c s H d => by
  rw [v67_at, v61_at]

theorem scalesAre : ScalesAre x0 x1 x6 x7 (vals x0 x1 x6 x7) := fun b c s H => by
  rw [v65_at, v54_at]

/-- The token of a place in its chunk. -/
theorem tok_split (n : Fin 640) : Spec.tok (n.val / 128) ⟨n.val % 128, Nat.mod_lt _ (by norm_num)⟩ = n :=
  Fin.ext (by show (128 * (n.val / 128) + n.val % 128) % 640 = n.val; omega)

/-- The codes, as the array the reference returns. -/
theorem v218_at (i : S3x56x64x640.Idx) : val_main_v218 (F := Ideal) x0 x1 x6 x7 i
    = Spec.code (vals x0 x1 x6 x7 (i 0) (i 1) ((i 3).val / 128) ⟨(i 3).val % 128, Nat.mod_lt _ (by norm_num)⟩) (i 2) := by
  rw [val_main_v218_apply, val_main_v62_apply]
  refine (at4 (val_main_v61 (F := Ideal) x0 x1 x6 x7) (idx_main_v218 i) (ix4 (i 0) (i 3) (i 1) (i 2)) rfl rfl rfl rfl).trans ((v61_at x0 x1 x6 x7 (i 0) (i 3) (i 1) (i 2)).trans ?_)
  show _ = Spec.code (vrow x0 x1 x6 x7 (i 0) (i 1) (Spec.tok ((i 3).val / 128) ⟨(i 3).val % 128, Nat.mod_lt _ (by norm_num)⟩)) (i 2)
  rw [tok_split (i 3)]

/-- The scales, as the array the reference returns. -/
theorem v219_at (i : S3x56x640.Idx) : val_main_v219 (F := Ideal) x0 x1 x6 x7 i
    = ((Spec.scl (Spec.mag (vals x0 x1 x6 x7 (i 0) (i 1) ((i 2).val / 128) ⟨(i 2).val % 128, Nat.mod_lt _ (by norm_num)⟩)) : ℝ) : EReal) := by
  rw [val_main_v219_apply]
  refine (at3 (val_main_v54 (F := Ideal) x0 x1 x6 x7) (idx_main_v219 i) (ix3 (i 0) (i 2) (i 1)) rfl rfl rfl).trans ((v54_at x0 x1 x6 x7 (i 0) (i 2) (i 1)).trans ?_)
  show _ = ((Spec.scl (Spec.mag (vrow x0 x1 x6 x7 (i 0) (i 1) (Spec.tok ((i 2).val / 128) ⟨(i 2).val % 128, Nat.mod_lt _ (by norm_num)⟩))) : ℝ) : EReal)
  rw [tok_split (i 2)]

end Cert.ReferenceIdeal.Hand

end
-- ==== Proof.Tie.lean ====
module

public import proofs.«01_k».proof.Proof.KI.Result
public import proofs.«01_k».proof.Proof.R.Out

@[expose] public section

noncomputable section

namespace Cert.KernelIdeal.Hand

open Cert.KernelIdeal Cert.KernelIdeal.Gen
open Idealize.ShloMosaic Idealize.ShloMosaic.TcCoe
open Cert.ReferenceIdeal.Read (val_main_v217 val_main_v218 val_main_v219)
open Cert.ReferenceIdeal.Hand (v217_at v218_at v219_at keysAre queriesAre codesAre scalesAre)

/-! The reference's results are the kernel's. -/

variable (m : (ℓ : Loc nD τ sig) → Buf (Elt Ideal) ℓ) (c : Dev nD)
variable (y0 : S3x640x3584.Idx → EReal) (y1 : S3x640.Idx → EReal) (y2 : S3584x56x160.Idx → EReal) (y3 : S56x160.Idx → EReal)
  (y4 : S3584x56x160.Idx → EReal) (y5 : S56x160.Idx → EReal) (y6 : S3584x56x64.Idx → EReal) (y7 : S56x64.Idx → EReal)
variable (e0 : y0 = m ((c : Thread nD τ).loc main_arg0)) (e1 : y1 = m ((c : Thread nD τ).loc main_arg1))
  (e2 : y2 = m ((c : Thread nD τ).loc main_arg2)) (e3 : y3 = m ((c : Thread nD τ).loc main_arg3))
  (e4 : y4 = m ((c : Thread nD τ).loc main_arg4)) (e5 : y5 = m ((c : Thread nD τ).loc main_arg5))
  (e6 : y6 = m ((c : Thread nD τ).loc main_arg6)) (e7 : y7 = m ((c : Thread nD τ).loc main_arg7))

include e0 e1 e2 e3 e4 e5 e6 e7 in
/-- The reference's outputs are the kernel's. -/
theorem tie_6 (h : FinArgs m c) : val_main_v217 (F := Ideal) y0 y1 y2 y3 y4 y5 y6 y7 = G6 (kHead m c) (qHead m c) (vHead m c) := by
  subst e0 e1 e2 e3 e4 e5 e6 e7
  exact funext fun i => v217_at _ _ _ _ _ _ _ _ _ _ _ (keysAre _ _ _ _ h.a0 h.a1 h.a4 h.a5) (queriesAre _ _ _ _ h.a0 h.a1 h.a2 h.a3)
    (codesAre _ _ _ _) (scalesAre _ _ _ _) i

include e0 e1 e6 e7 in
/-- The reference's codes are the kernel's. -/
theorem tie_7 : val_main_v218 (F := Ideal) y0 y1 y6 y7 = G7 (vHead m c) := by
  subst e0 e1 e6 e7
  exact funext fun i => v218_at _ _ _ _ i

include e0 e1 e6 e7 in
/-- The reference's scales are the kernel's. -/
theorem tie_8 : val_main_v219 (F := Ideal) y0 y1 y6 y7 = G8 (vHead m c) := by
  subst e0 e1 e6 e7
  exact funext fun i => v219_at _ _ _ _ i

end Cert.KernelIdeal.Hand

end
-- ==== Proof.Q.Body.lean ====
module

public import proofs.«01_k».proof.Proof.Gen.QuantIdeal.Frame
public import proofs.«01_k».proof.Proof.Field
public import proofs.«01_k».proof.Proof.Expo
public import Idealize.ShloMosaic.Lib.Pointwise

@[expose] public section

set_option maxRecDepth 16384

noncomputable section

namespace Cert.QuantIdeal.Hand

open Cert.QuantIdeal Cert.QuantIdeal.Gen
open Idealize.ShloMosaic Idealize.ShloMosaic.TcCoe

/-! What one grid point of the quantising call stores, read in the block of rows it loads. The body does the same
three times, once for each batch. -/

/-- One row of the block of one batch. -/
def row (v : Vec Ideal S1x128x3584 .bf16) (t : Fin 128) : Fin 3584 → EReal := fun d => v (ix3 0 t d)

/-- The largest magnitude of a row, over 448. -/
theorem mag0 (v : Vec Ideal S1x128x3584 .bf16) (t : Fin 128) : k0_pay4 v (ix2 t 0) = Spec.mag (row v t) := by
  pointwise [k0_pay4, k0_pay3]
  rw [Spec.ofBits_negInf]; rfl

/-- The scales stored for the three batches. -/
def s0 (v : Vec Ideal S1x128x3584 .bf16) : Vec Ideal S1x128 .f32 := k0_pay13 (k0_pay10 (k0_pay4 v) (k0_pay5 v) (k0_pay6 v) (k0_pay7 v))
def s1 (v : Vec Ideal S1x128x3584 .bf16) : Vec Ideal S1x128 .f32 := k0_pay23 (F := Ideal) (k0_pay21 (k0_pay15 v) (k0_pay16 v) (k0_pay17 v))
def s2 (v : Vec Ideal S1x128x3584 .bf16) : Vec Ideal S1x128 .f32 :=
  k0_pay2 (F := Ideal) (k0_pay29 (k0_pay25 v) (k0_pay26 v) (k0_pay27 v) (k0_pay28 v)) (k0_pay30 (k0_pay25 v) (k0_pay26 v) (k0_pay27 v) (k0_pay28 v)) 1#32
/-- The codes stored for the three batches. -/
def c0 (v : Vec Ideal S1x128x3584 .bf16) : Vec Ideal S1x128x3584 .fp8e4m3 := k0_pay12 (k0_pay11 (k0_pay3 v) (k0_pay4 v) (k0_pay5 v) (k0_pay6 v) (k0_pay7 v))
def c1 (v : Vec Ideal S1x128x3584 .bf16) : Vec Ideal S1x128x3584 .fp8e4m3 := k0_pay22 (k0_pay14 v) (k0_pay20 (k0_pay15 v) (k0_pay16 v) (k0_pay17 v))
def c2 (v : Vec Ideal S1x128x3584 .bf16) : Vec Ideal S1x128x3584 .fp8e4m3 :=
  k0_pay1 (k0_pay24 v) (k0_pay29 (k0_pay25 v) (k0_pay26 v) (k0_pay27 v) (k0_pay28 v)) (k0_pay30 (k0_pay25 v) (k0_pay26 v) (k0_pay27 v) (k0_pay28 v))

theorem s1_eq (v : Vec Ideal S1x128x3584 .bf16) : s1 v = s0 v := rfl
theorem s2_eq (v : Vec Ideal S1x128x3584 .bf16) : s2 v = s0 v := rfl
theorem c1_eq (v : Vec Ideal S1x128x3584 .bf16) : c1 v = c0 v := rfl
theorem c2_eq (v : Vec Ideal S1x128x3584 .bf16) : c2 v = c0 v := rfl

/-- One step of the search on a column of numbers. -/
def ladder (s : FVec Ideal S128x1 .f32) (f : IVec S128x1 32) (n : BitVec 32) : IVec S128x1 32 :=
  select (cmpf .oge s (bitcastToFloat .f32 (shli (addi f (broadcast S128x1 n)) (broadcast S128x1 23#32)))) (addi f (broadcast S128x1 n)) f

theorem ladder_at (s : FVec Ideal S128x1 .f32) (f : IVec S128x1 32) (n : BitVec 32) (j : S128x1.Idx) : ladder s f n j = Spec.step (s j) (f j) n := rfl

theorem pay5_eq (v : Vec Ideal S1x128x3584 .bf16) :
    k0_pay5 v = ladder (k0_pay4 v) (ladder (k0_pay4 v) (ladder (k0_pay4 v) (ladder (k0_pay4 v) (broadcast S128x1 0#32) 125#32) 64#32) 32#32) 16#32 := by
  unfold k0_pay5
  generalize k0_pay4 v = s
  rfl

theorem pay8_eq (s : FVec Ideal S128x1 .f32) (f : IVec S128x1 32) :
    k0_pay8 s f (addi f (broadcast S128x1 8#32)) (cmpf .oge s (bitcastToFloat .f32 (shli (addi f (broadcast S128x1 8#32)) (broadcast S128x1 23#32))))
      = ladder s (ladder s (ladder s (ladder s f 8#32) 4#32) 2#32) 1#32 := rfl

/-- The exponent field of a row. -/
theorem pay8_at (v : Vec Ideal S1x128x3584 .bf16) (t : Fin 128) :
    k0_pay8 (k0_pay4 v) (k0_pay5 v) (k0_pay6 v) (k0_pay7 v) (ix2 t 0) = Spec.field (Spec.mag (row v t)) := by
  unfold k0_pay7 k0_pay6
  rw [← mag0]
  refine (congrFun (pay8_eq (k0_pay4 v) (k0_pay5 v)) (ix2 t 0)).trans ?_
  rw [pay5_eq]
  simp only [ladder_at]
  rfl

theorem s0_at (v : Vec Ideal S1x128x3584 .bf16) (t : Fin 128) : s0 v (ix2 0 t) = ((Spec.scl (Spec.mag (row v t)) : ℝ) : EReal) := by
  have e : s0 v (ix2 0 t) = Spec.sclOf (k0_pay8 (k0_pay4 v) (k0_pay5 v) (k0_pay6 v) (k0_pay7 v) (ix2 t 0)) := by
    unfold s0 k0_pay10 k0_pay9
    generalize k0_pay8 (k0_pay4 v) (k0_pay5 v) (k0_pay6 v) (k0_pay7 v) = y
    pointwise [k0_pay13]
    rfl
  rw [e, pay8_at, Spec.sclOf_eq]

theorem c0_at (v : Vec Ideal S1x128x3584 .bf16) (t : Fin 128) (d : Fin 3584) : c0 v (ix3 0 t d) = Spec.code (row v t) d := by
  have e : c0 v (ix3 0 t d) = min (Ideal.ofBits .f32 0x43E00000#32) (max (Ideal.ofBits .f32 0xC3E00000#32)
      (v (ix3 0 t d) * Spec.invOf (k0_pay8 (k0_pay4 v) (k0_pay5 v) (k0_pay6 v) (k0_pay7 v) (ix2 t 0)))) := by
    unfold c0 k0_pay11 k0_pay9
    generalize k0_pay8 (k0_pay4 v) (k0_pay5 v) (k0_pay6 v) (k0_pay7 v) = y
    pointwise [k0_pay12, k0_pay3]
    rfl
  rw [e, pay8_at, Spec.invOf_eq]; rfl

end Cert.QuantIdeal.Hand

end
-- ==== Proof.Q.Final.lean ====
module

public import proofs.«01_k».proof.Proof.Q.Body
public import proofs.«01_k».proof.Proof.Expo
public import proofs.«01_k».proof.Proof.Gen.QuantIdeal.Value
public import Idealize.ShloMosaic.Lib.Pipeline.ValueKit

@[expose] public section

set_option maxRecDepth 16384

noncomputable section

namespace Cert.QuantIdeal.Hand

open Cert.QuantIdeal Cert.QuantIdeal.Gen
open Idealize.ShloMosaic Idealize.ShloMosaic.TcCoe Idealize.ShloMosaic.Tactic
open Cert.Spec (at3 codesAll scalesAll)

/-! What the quantising call leaves in its two result arrays. -/

/-- One batch's store of codes. -/
theorem tile_codes (X : Vec Ideal S3x128x3584 .bf16) (b : ℕ) (inb : ∀ a, (![b, 0, 0] : Fin 3 → ℕ) a + S1x128x3584.size a ≤ S3x128x3584.size a) (y : S3x128x3584.Idx)
    (x : S1x128x3584.Idx) (h : ∀ a, (y a : ℕ) = (![b, 0, 0] : Fin 3 → ℕ) a + x a) :
    c0 (View.ld X (Rect.unit (s := S3x128x3584) ![b, 0, 0] S1x128x3584.size inb)) x = codesAll X y := by
  have h0 : (y 0).val = b + (x 0).val := h 0
  have h1 : (y 1).val = 0 + (x 1).val := h 1
  have h2 : (y 2).val = 0 + (x 2).val := h 2
  have hx : (x 0).val < 1 := (x 0).isLt
  refine (at3 _ x (ix3 0 (x 1) (x 2)) (by show (x 0).val = 0; omega) rfl rfl).trans ((c0_at _ (x 1) (x 2)).trans ?_)
  unfold codesAll
  have e2 : x 2 = y 2 := Fin.ext (by omega)
  rw [e2]
  refine congrArg (fun V : Fin 3584 → EReal => Spec.code V (y 2)) (funext fun d => ?_)
  refine at3 X _ (ix3 (y 0) (y 1) d) ?_ ?_ ?_
  · show b + 1 * 0 = (y 0).val; omega
  · show 0 + 1 * (x 1).val = (y 1).val; omega
  · show 0 + 1 * d.val = d.val; omega

/-- One batch's store of scales. -/
theorem tile_scales (X : Vec Ideal S3x128x3584 .bf16) (b : ℕ) (inb : ∀ a, (![b, 0, 0] : Fin 3 → ℕ) a + S1x128x3584.size a ≤ S3x128x3584.size a) (y : S3x128.Idx)
    (x : S1x128.Idx) (h : ∀ a, (y a : ℕ) = (![b, 0] : Fin 2 → ℕ) a + x a) :
    s0 (View.ld X (Rect.unit (s := S3x128x3584) ![b, 0, 0] S1x128x3584.size inb)) x = scalesAll X y := by
  have h0 : (y 0).val = b + (x 0).val := h 0
  have h1 : (y 1).val = 0 + (x 1).val := h 1
  have hx : (x 0).val < 1 := (x 0).isLt
  have ex : x = ix2 0 (x 1) := funext fun a => match a with
    | 0 => Fin.ext (by show (x 0).val = 0; omega)
    | 1 => rfl
  refine (congrArg (s0 _) ex).trans ((s0_at _ (x 1)).trans ?_)
  unfold scalesAll
  refine congrArg (fun V : Fin 3584 → EReal => ((Spec.scl (Spec.mag V) : ℝ) : EReal)) (funext fun d => ?_)
  refine at3 X _ (ix3 (y 0) (y 1) d) ?_ ?_ ?_
  · show b + 1 * 0 = (y 0).val; omega
  · show 0 + 1 * (x 1).val = (y 1).val; omega
  · show 0 + 1 * d.val = d.val; omega

/-- What a point leaves in its block of codes. -/
theorem out1_eq (X : Vec Ideal S3x128x3584 .bf16) (y : S3x128x3584.Idx) : out0_1 X y = codesAll X y := by
  have e : out0_1 X = View.canon [⟨r0_4, c2 (View.ld X r0_4)⟩, ⟨r0_2, c1 (View.ld X r0_2)⟩, ⟨r0_0, c0 (View.ld X r0_0)⟩] := rfl
  rw [e]
  refine View.canon_eq_of_allAt _ y _ (cover0_1 _ _ _ y) ?_
  refine View.allAt_cons_unit _ _ _ _ _ (fun x h => ?_) (View.allAt_cons_unit _ _ _ _ _ (fun x h => ?_) (View.allAt_cons_unit _ _ _ _ _ (fun x h => ?_) (View.allAt_nil _ _)))
  · rw [c2_eq]; exact tile_codes X 2 _ y x h
  · rw [c1_eq]; exact tile_codes X 1 _ y x h
  · exact tile_codes X 0 _ y x h

/-- What a point leaves in its block of scales. -/
theorem out2_eq (X : Vec Ideal S3x128x3584 .bf16) (y : S3x128.Idx) : out0_2 X y = scalesAll X y := by
  have e : out0_2 X = View.canon [⟨r0_5, s2 (View.ld X r0_4)⟩, ⟨r0_3, s1 (View.ld X r0_2)⟩, ⟨r0_1, s0 (View.ld X r0_0)⟩] := rfl
  rw [e]
  refine View.canon_eq_of_allAt _ y _ (cover0_2 _ _ _ y) ?_
  refine View.allAt_cons_unit _ _ _ _ _ (fun x h => ?_) (View.allAt_cons_unit _ _ _ _ _ (fun x h => ?_) (View.allAt_cons_unit _ _ _ _ _ (fun x h => ?_) (View.allAt_nil _ _)))
  · rw [s2_eq]; exact tile_scales X 2 _ y x h
  · rw [s1_eq]; exact tile_scales X 1 _ y x h
  · exact tile_scales X 0 _ y x h

theorem idx_all : ∀ t : Fin cfg0.N, win0_0.index t = ![0, t.val, 0] ∧ win0_1.index t = ![0, t.val, 0] ∧ win0_2.index t = ![0, t.val] :=
  (by decide +kernel : ∀ t : Fin grid0.N, win0_0.index t = ![0, t.val, 0] ∧ win0_1.index t = ![0, t.val, 0] ∧ win0_2.index t = ![0, t.val])

variable (m : (ℓ : Loc nD τ sig) → Buf (Elt Ideal) ℓ)

/-- The rows of `x`, as launched. -/
abbrev xin (c : Dev nD) : S3x640x3584.Idx → EReal := m ((c : Thread nD τ).loc main_arg0)

/-- A block of rows, in the array. -/
theorem block_at (c : Dev nD) (t : Fin cfg0.N) (i : S3x128x3584.Idx) (j : S3x640x3584.Idx) (h0 : (j 0).val = (i 0).val) (h1 : (j 1).val = t.val * 128 + (i 1).val) (h2 : (j 2).val = (i 2).val) :
    (iblk m c 0 t : S3x128x3584.Idx → EReal) i = xin m c j := by
  have e : win0_0.index t = ![0, t.val, 0] := (idx_all t).1
  unfold iblk
  blk_simp
  refine at3 (xin m c) _ j ?_ ?_ ?_
  · refine (win0_0.rect_emb_val t i 0).trans ?_
    rw [e, h0]; exact Nat.zero_add _
  · refine (win0_0.rect_emb_val t i 1).trans ?_
    rw [e, h1]; rfl
  · refine (win0_0.rect_emb_val t i 2).trans ?_
    rw [e, h2]; exact Nat.zero_add _

/-- A block of codes in the array of codes. -/
theorem codes_block (c : Dev nD) (t : Fin cfg0.N) (y : S3x128x3584.Idx) (i : S3x640x3584.Idx) (h0 : (i 0).val = (y 0).val) (h1 : (i 1).val = t.val * 128 + (y 1).val) (h2 : (i 2).val = (y 2).val) :
    codesAll (iblk m c 0 t : S3x128x3584.Idx → EReal) y = codesAll (xin m c) i := by
  unfold codesAll
  have e2 : y 2 = i 2 := Fin.ext h2.symm
  rw [e2]
  exact congrArg (fun V : Fin 3584 → EReal => Spec.code V (i 2)) (funext fun d => block_at m c t _ _ h0 h1 rfl)

/-- A block of scales in the array of scales. -/
theorem scales_block (c : Dev nD) (t : Fin cfg0.N) (y : S3x128.Idx) (i : S3x640.Idx) (h0 : (i 0).val = (y 0).val) (h1 : (i 1).val = t.val * 128 + (y 1).val) :
    scalesAll (iblk m c 0 t : S3x128x3584.Idx → EReal) y = scalesAll (xin m c) i :=
  congrArg (fun V : Fin 3584 → EReal => ((Spec.scl (Spec.mag V) : ℝ) : EReal)) (funext fun d => block_at m c t (ix3 (y 0) (y 1) d) (ix3 (i 0) (i 1) d) h0 h1 rfl)

/-- The call's codes. -/
theorem final_1 (c : Dev nD) : (dats m 0 c).arrAt 1 cfg0.N = (codesAll (xin m c) : S3x640x3584.Idx → EReal) := by
  refine (dats m 0 c).arrAt_eq_of_covers 1 _ (by decide +kernel) fun t hf y => ?_
  blk_simp
  rw [after0_1]
  have e : win0_1.index t = ![0, t.val, 0] := (idx_all t).2.1
  refine (out1_eq _ y).trans (codes_block m c t y _ ?_ ?_ ?_)
  · refine (win0_1.rect_emb_val t y 0).trans ?_
    rw [e]; exact Nat.zero_add _
  · refine (win0_1.rect_emb_val t y 1).trans ?_
    rw [e]; rfl
  · refine (win0_1.rect_emb_val t y 2).trans ?_
    rw [e]; exact Nat.zero_add _

/-- The call's scales. -/
theorem final_2 (c : Dev nD) : (dats m 0 c).arrAt 2 cfg0.N = (scalesAll (xin m c) : S3x640.Idx → EReal) := by
  refine (dats m 0 c).arrAt_eq_of_covers 2 _ (by decide +kernel) fun t hf y => ?_
  blk_simp
  rw [after0_2]
  have e : win0_2.index t = ![0, t.val] := (idx_all t).2.2
  refine (out2_eq _ y).trans (scales_block m c t y _ ?_ ?_)
  · refine (win0_2.rect_emb_val t y 0).trans ?_
    rw [e]; exact Nat.zero_add _
  · refine (win0_2.rect_emb_val t y 1).trans ?_
    rw [e]; rfl

end Cert.QuantIdeal.Hand

end
-- ==== Proof.Q.Ref.lean ====
module

public import proofs.«01_k».proof.Proof.Gen.QuantisedIdeal.Read
public import proofs.«01_k».proof.Proof.Expo
public import Idealize.ShloMosaic.Lib.Pointwise

@[expose] public section

noncomputable section

namespace Cert.QuantisedIdeal.Hand

open Cert.QuantisedIdeal Cert.QuantisedIdeal.Gen Cert.QuantisedIdeal.Read Idealize.ShloMosaic
open Cert.Spec (at1 at3 at2 ofBits_negInf ofBits_two pow_two word_toInt flag_eq count_eq expo_eq pow_expo pow_neg_expo codesAll scalesAll)

/-! The reference of the quantising call, read in its argument. -/

variable (x : S3x640x3584.Idx → EReal)

/-- One row. -/
abbrev row (b : Fin 3) (n : Fin 640) : Fin 3584 → EReal := fun d => x (ix3 b n d)

theorem v2_at (b : Fin 3) (n : Fin 640) : val_main_v2 (F := Ideal) x (ix2 b n) = Finset.univ.sup fun d => max (row x b n d) (-row x b n d) := by
  have e : ∀ d : Fin 3584, val_main_v1 (F := Ideal) x (ix3 b n d) = max (row x b n d) (-row x b n d) := fun d => by
    rw [val_main_v1_apply, val_main_v0_apply]; rfl
  simp only [← e]
  unfold val_main_v2 val_main_cst
  generalize val_main_v1 (F := Ideal) x = y
  pointwise
  rw [ofBits_negInf]; rfl

/-- The largest magnitude over 448. -/
theorem v4_at (b : Fin 3) (n : Fin 640) : val_main_v4 (F := Ideal) x (ix2 b n) = Spec.mag (row x b n) := by
  rw [val_main_v4_apply, v2_at, val_main_v3_apply, val_main_cst_0_apply]
  rfl

/-- The powers of two. -/
theorem v10_at (k : Fin 252) : val_main_v10 (F := Ideal) (ix1 k) = (((2 : ℝ) ^ ((k.val : ℤ) - 126) : ℝ) : EReal) := by
  have e : val_main_v8 (F := Ideal) (ix1 k) = (((((k.val : ℤ) - 126 : ℤ)) : ℝ) : EReal) := by
    rw [val_main_v8_apply, val_main_v7_apply, val_main_v6_apply, val_main_v5_apply, val_main_c_apply]
    exact congrArg (fun n : ℤ => (((n : ℤ) : ℝ) : EReal)) (word_toInt k)
  rw [val_main_v10_apply, e, val_main_v9_apply, val_main_cst_1_apply]
  refine Eq.trans ?_ (pow_two _)
  rw [← ofBits_two]; rfl

/-- Whether a power is at most the magnitude, as a number. -/
theorem v17_at (b : Fin 3) (n : Fin 640) (k : Fin 252) :
    val_main_v17 (F := Ideal) x (ix3 b n k) = ((if (((2 : ℝ) ^ ((k.val : ℤ) - 126) : ℝ) : EReal) ≤ Spec.mag (row x b n) then (1 : ℝ) else 0 : ℝ) : EReal) := by
  rw [val_main_v17_apply, val_main_v16_apply, val_main_v15_apply, val_main_v13_apply, val_main_v12_apply, val_main_v14_apply, val_main_v11_apply]
  rw [at1 (val_main_v10 (F := Ideal)) (idx_main_v12 (idx_main_v13 (ix3 b n k))) (ix1 k) rfl,
    at2 (val_main_v4 (F := Ideal) x) (idx_main_v11 (idx_main_v14 (ix3 b n k))) (ix2 b n) rfl rfl, v10_at, v4_at,
    val_main_call0_v0_apply, val_main_call0_v1_apply, val_main_cst_2_apply, val_main_cst_3_apply]
  exact flag_eq _ _

/-- The count of the powers. -/
theorem v18_at (b : Fin 3) (n : Fin 640) : val_main_v18 (F := Ideal) x (ix2 b n) = ((Spec.N (Spec.mag (row x b n)) : ℝ) : EReal) := by
  rw [val_main_v18_apply, val_main_cst_4_apply]
  have e : ∀ k : Fin 252, val_main_v17 (F := Ideal) x (idx_main_v18 (ix2 b n) k)
      = ((if (((2 : ℝ) ^ ((k.val : ℤ) - 126) : ℝ) : EReal) ≤ Spec.mag (row x b n) then (1 : ℝ) else 0 : ℝ) : EReal) := fun k =>
    (at3 (val_main_v17 (F := Ideal) x) (idx_main_v18 (ix2 b n) k) (ix3 b n k) rfl rfl rfl).trans (v17_at x b n k)
  rw [Finset.sum_congr rfl fun k _ => e k]
  exact count_eq _

/-- The exponent. -/
theorem v23_at (b : Fin 3) (n : Fin 640) : val_main_v23 (F := Ideal) x (ix2 b n) = ((Spec.expo (Spec.mag (row x b n)) : ℝ) : EReal) := by
  rw [val_main_v23_apply, val_main_v22_apply, val_main_v20_apply, v18_at, v4_at, val_main_v21_apply, val_main_cst_6_apply, val_main_call1_v1_apply, val_main_v19_apply, val_main_cst_5_apply]
  exact expo_eq _

/-- The scales. -/
theorem v33_at (y : S3x640.Idx) : val_main_v33 (F := Ideal) x y = scalesAll x y := by
  refine (at2 _ y (ix2 (y 0) (y 1)) rfl rfl).trans ?_
  rw [val_main_v33_apply, val_main_v32_apply, val_main_cst_11_apply]
  refine Eq.trans (congrArg (Ideal.pow (Ideal.ofBits .f32 0x40000000#32)) (v23_at x (y 0) (y 1))) ?_
  exact pow_expo _

/-- The inverse scale. -/
theorem v26_at (b : Fin 3) (n : Fin 640) : val_main_v26 (F := Ideal) x (ix2 b n) = ((Spec.inv (Spec.mag (row x b n)) : ℝ) : EReal) := by
  rw [val_main_v26_apply, val_main_v24_apply, v23_at, val_main_v25_apply, val_main_cst_8_apply]
  exact pow_neg_expo _

theorem v30_at (b : Fin 3) (n : Fin 640) (d : Fin 3584) : val_main_v30 (F := Ideal) x (ix3 b n d) = Spec.code (row x b n) d := by
  rw [val_main_v30_apply, val_main_call2_v4_apply, val_main_call2_v2_apply, val_main_v29_apply, val_main_v0_apply, val_main_v28_apply, val_main_v27_apply]
  rw [at2 (val_main_v26 (F := Ideal) x) (idx_main_v27 (idx_main_v28 (ix3 b n d))) (ix2 b n) rfl rfl, v26_at]
  rfl

/-- The codes. -/
theorem v31_at (y : S3x640x3584.Idx) : val_main_v31 (F := Ideal) x y = codesAll x y := by
  refine (at3 _ y (ix3 (y 0) (y 1) (y 2)) rfl rfl rfl).trans ?_
  rw [val_main_v31_apply]
  exact v30_at x (y 0) (y 1) (y 2)

end Cert.QuantisedIdeal.Hand

end
-- ==== Proof.lean ====
module

public import proofs.«01_k».proof.Defs
public import proofs.«01_k».proof.Proof.K.Frame
public import proofs.«01_k».proof.Proof.KI.FrameF
public import proofs.«01_k».proof.Proof.KI.Pre
public import proofs.«01_k».proof.Proof.Tie
public import proofs.«01_k».proof.Proof.Gen.ReferenceIdeal.Run
public import proofs.«01_k».proof.Proof.Gen.ReferenceIdeal.Read
public import proofs.«01_k».proof.Proof.Q.Final
public import proofs.«01_k».proof.Proof.Q.Ref
public import proofs.«01_k».proof.Proof.Gen.QuantisedIdeal.Run
public import proofs.«01_k».proof.Proof.Gen.Quant.Frame
public import Idealize.ShloMosaic.Lib.Quiescent

@[expose] public section

noncomputable section

namespace Cert.Proof

open Idealize.ShloMosaic Idealize.SL.Sem

/-- The side conditions of the precondition's operations. -/
theorem preFacts : Cert.Pre_finite.Facts where
  bcast_S_S3x640x3584 := by decide
  bcast_S_S3x640 := by decide
  bcast_S_S3584x56x160 := by decide
  bcast_S_S56x160 := by decide
  reducesTo_S3x640x3584_S_d0_1_2 := by decide
  h_S_ := by decide
  reducesTo_S3x640_S_d0_1 := by decide
  reducesTo_S3584x56x160_S_d0_1_2 := by decide
  reducesTo_S56x160_S_d0_1 := by decide

/-- The reference runs, leaves its arguments and has no semaphore. -/
theorem frameR : Cert.quiescent_ReferenceIdeal (hReferenceIdeal := Cert.ReferenceIdeal.Gen.facts) := fun m g _ =>
  θ_run_mono (Cert.ReferenceIdeal.Value.run (F := Ideal) m g) fun r h => ⟨fun c => (h c).2.2.2, sem_eq_zero_of_no_sems rfl r.2⟩

/-- From real arguments the kernel and the reference end with the same three arrays. -/
theorem values : Cert.algebraic_KernelIdeal_ReferenceIdeal_pre_finite (hKernelIdeal := Cert.KernelIdeal.Gen.facts)
    (hReferenceIdeal := Cert.ReferenceIdeal.Gen.facts) (hPre_finite := preFacts) := fun m g m' g' hpre hagree =>
  have hfin : ∀ c, Cert.KernelIdeal.Hand.FinArgs m c := fun c => @Cert.KernelIdeal.Hand.finArgs_of_pre m preFacts hpre c
  ⟨fun c => Cert.KernelIdeal.Hand.G6 (Cert.KernelIdeal.Hand.kHead m c) (Cert.KernelIdeal.Hand.qHead m c) (Cert.KernelIdeal.Hand.vHead m c),
    fun c => Cert.KernelIdeal.Hand.G7 (Cert.KernelIdeal.Hand.vHead m c),
    fun c => Cert.KernelIdeal.Hand.G8 (Cert.KernelIdeal.Hand.vHead m c),
    Cert.KernelIdeal.Hand.result m g hfin,
    θ_run_mono (Cert.ReferenceIdeal.Value.run (F := Ideal) m' g') fun r h c => by
      obtain ⟨e0, e1, e2, e3, e4, e5, e6, e7⟩ := hagree c
      obtain ⟨h0, h1, h2, hr⟩ := h c
      exact ⟨h0.trans ((Cert.ReferenceIdeal.Read.val_main_v217_eq (StableHlo.launchContents m' c)).trans
          (Cert.KernelIdeal.Hand.tie_6 m c _ _ _ _ _ _ _ _ e0 e1 e2 e3 e4 e5 e6 e7 (hfin c))),
        h1.trans ((Cert.ReferenceIdeal.Read.val_main_v218_eq (StableHlo.launchContents m' c)).trans
          (Cert.KernelIdeal.Hand.tie_7 m c _ _ _ _ e0 e1 e6 e7)),
        h2.trans ((Cert.ReferenceIdeal.Read.val_main_v219_eq (StableHlo.launchContents m' c)).trans
          (Cert.KernelIdeal.Hand.tie_8 m c _ _ _ _ e0 e1 e6 e7)), hr⟩⟩

/-- The quantising call's reference runs, leaves its argument and has no semaphore. -/
theorem frameS : Cert.quiescent_QuantisedIdeal (hQuantisedIdeal := Cert.QuantisedIdeal.Gen.facts) := fun m g _ =>
  θ_run_mono (Cert.QuantisedIdeal.Value.run (F := Ideal) m g) fun r h => ⟨fun c => (h c).2.2, sem_eq_zero_of_no_sems rfl r.2⟩

/-- The quantising call and its reference end with the same codes and the same scales, from any argument. -/
theorem quantised : Cert.algebraic_QuantIdeal_QuantisedIdeal (hQuantIdeal := Cert.QuantIdeal.Gen.facts)
    (hQuantisedIdeal := Cert.QuantisedIdeal.Gen.facts) := fun m g m' g' _ hagree =>
  ⟨fun c => Cert.Spec.codesAll (Cert.QuantIdeal.Hand.xin m c), fun c => Cert.Spec.scalesAll (Cert.QuantIdeal.Hand.xin m c),
    θ_run_mono (Cert.QuantIdeal.Value.run_blocks (F := Ideal) m g) fun r h c =>
      ⟨(h c).1.trans (Cert.QuantIdeal.Hand.final_1 m c), (h c).2.1.trans (Cert.QuantIdeal.Hand.final_2 m c), (h c).2.2⟩,
    θ_run_mono (Cert.QuantisedIdeal.Value.run (F := Ideal) m' g') fun r h c => by
      have e : (m' ((c.tc : Thread Cert.QuantisedIdeal.nD Cert.QuantisedIdeal.τ).loc Cert.QuantisedIdeal.main_arg0)) = Cert.QuantIdeal.Hand.xin m c := hagree c
      obtain ⟨h0, h1, hr⟩ := h c
      refine ⟨h0.trans ((Cert.QuantisedIdeal.Read.val_main_v31_eq _).trans ?_), h1.trans ((Cert.QuantisedIdeal.Read.val_main_v33_eq _).trans ?_), hr⟩
      · rw [e]; exact funext fun y => Cert.QuantisedIdeal.Hand.v31_at (Cert.QuantIdeal.Hand.xin m c) y
      · rw [e]; exact funext fun y => Cert.QuantisedIdeal.Hand.v33_at (Cert.QuantIdeal.Hand.xin m c) y⟩

/-- Every claim. -/
theorem claim : Cert.Claim :=
  ⟨Cert.Kernel.Gen.facts, Cert.KernelIdeal.Gen.facts, Cert.ReferenceIdeal.Gen.facts, Cert.Quant.Gen.facts, Cert.QuantIdeal.Gen.facts, Cert.QuantisedIdeal.Gen.facts, preFacts,
    fun m g _ => Cert.Kernel.Hand.frame m g, fun m g _ => Cert.KernelIdeal.Hand.frame m g, fun m g _ => Cert.KernelIdeal.Hand.frame m g,
    frameR, fun m g _ => frameR m g trivial,
    fun m g _ => Cert.Quant.Gen.frame m g, fun m g _ => Cert.QuantIdeal.Gen.frame m g, frameS, trivial, values, trivial, quantised⟩

end Cert.Proof

end
